-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MlpS (m : (ℓ : Loc Cert.MlpS.nD Cert.MlpS.τ Cert.MlpS.sig) → Buf (Elt Bits) ℓ) : Prop :=
  True

def Pre_MlpSIdeal (m : (ℓ : Loc Cert.MlpSIdeal.nD Cert.MlpSIdeal.τ Cert.MlpSIdeal.sig) → Buf (Elt Ideal) ℓ) : Prop :=
  True

def Pre_MlpSRefIdeal (m : (ℓ : Loc Cert.MlpSRefIdeal.nD Cert.MlpSRefIdeal.τ Cert.MlpSRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_QkvS (m : (ℓ : Loc Cert.QkvS.nD Cert.QkvS.τ Cert.QkvS.sig) → Buf (Elt Bits) ℓ) : Prop :=
  True

def Pre_QkvSIdeal (m : (ℓ : Loc Cert.QkvSIdeal.nD Cert.QkvSIdeal.τ Cert.QkvSIdeal.sig) → Buf (Elt Ideal) ℓ) : Prop :=
  True

def Pre_QkvSRefIdeal (m : (ℓ : Loc Cert.QkvSRefIdeal.nD Cert.QkvSRefIdeal.τ Cert.QkvSRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSRefIdeal (m : (ℓ : Loc Cert.KvSRefIdeal.nD Cert.KvSRefIdeal.τ Cert.KvSRefIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftRefIdeal (m : (ℓ : Loc Cert.ShiftRefIdeal.nD Cert.ShiftRefIdeal.τ Cert.ShiftRefIdeal.sig) → Buf (Elt Ideal) ℓ) : Prop :=
  True

def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_DilRefIdeal (m : (ℓ : Loc Cert.DilRefIdeal.nD Cert.DilRefIdeal.τ Cert.DilRefIdeal.sig) → Buf (Elt Ideal) ℓ) : Prop :=
  True

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_OutSRefIdeal (m : (ℓ : Loc Cert.OutSRefIdeal.nD Cert.OutSRefIdeal.τ Cert.OutSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpS [hMlpS : Cert.MlpS.Facts] : Prop :=
  ∀ (m : (ℓ : Loc Cert.MlpS.nD Cert.MlpS.τ Cert.MlpS.sig) → Buf (Elt Bits) ℓ) (g : Dev Cert.MlpS.nD → PrngReg), Pre_MlpS m →
    θ_run (Cert.MlpS.defs (F := Bits)) (onTc (τ := Cert.MlpS.τ) (Cert.MlpS.main (F := Bits))) ⟨m, fun _ => 0, g⟩ (fun r => (∀ c : Dev Cert.MlpS.nD,
      r.2.mem ((c.tc : Thread Cert.MlpS.nD Cert.MlpS.τ).loc Cert.MlpS.main_arg0) = m ((c.tc : Thread Cert.MlpS.nD Cert.MlpS.τ).loc Cert.MlpS.main_arg0)
      ∧ r.2.mem ((c.tc : Thread Cert.MlpS.nD Cert.MlpS.τ).loc Cert.MlpS.main_arg1) = m ((c.tc : Thread Cert.MlpS.nD Cert.MlpS.τ).loc Cert.MlpS.main_arg1)
      ∧ r.2.mem ((c.tc : Thread Cert.MlpS.nD Cert.MlpS.τ).loc Cert.MlpS.main_arg2) = m ((c.tc : Thread Cert.MlpS.nD Cert.MlpS.τ).loc Cert.MlpS.main_arg2)
      ∧ r.2.mem ((c.tc : Thread Cert.MlpS.nD Cert.MlpS.τ).loc Cert.MlpS.main_arg3) = m ((c.tc : Thread Cert.MlpS.nD Cert.MlpS.τ).loc Cert.MlpS.main_arg3)
      ∧ r.2.mem ((c.tc : Thread Cert.MlpS.nD Cert.MlpS.τ).loc Cert.MlpS.main_arg4) = m ((c.tc : Thread Cert.MlpS.nD Cert.MlpS.τ).loc Cert.MlpS.main_arg4))
      ∧ r.2.sem = fun _ => 0)

def quiescent_MlpSIdeal [hMlpSIdeal : Cert.MlpSIdeal.Facts] : Prop :=
  ∀ (m : (ℓ : Loc Cert.MlpSIdeal.nD Cert.MlpSIdeal.τ Cert.MlpSIdeal.sig) → Buf (Elt Ideal) ℓ) (g : Dev Cert.MlpSIdeal.nD → PrngReg), Pre_MlpSIdeal m →
    θ_run (Cert.MlpSIdeal.defs (F := Ideal)) (onTc (τ := Cert.MlpSIdeal.τ) (Cert.MlpSIdeal.main (F := Ideal))) ⟨m, fun _ => 0, g⟩ (fun r => (∀ c : Dev Cert.MlpSIdeal.nD,
      r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
      ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
      ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
      ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
      ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4))
      ∧ r.2.sem = fun _ => 0)

def quiescent_MlpSRefIdeal [hMlpSRefIdeal : Cert.MlpSRefIdeal.Facts] : Prop :=
  ∀ (m : (ℓ : Loc Cert.MlpSRefIdeal.nD Cert.MlpSRefIdeal.τ Cert.MlpSRefIdeal.sig) → Buf (Elt Ideal) ℓ) (g : Dev Cert.MlpSRefIdeal.nD → PrngReg), Pre_MlpSRefIdeal m →
    θ_run (Cert.MlpSRefIdeal.defs (F := Ideal)) (onTc (τ := Cert.MlpSRefIdeal.τ) (Cert.MlpSRefIdeal.main (F := Ideal))) ⟨m, fun _ => 0, g⟩ (fun r => (∀ c : Dev Cert.MlpSRefIdeal.nD,
      r.2.mem ((c.tc : Thread Cert.MlpSRefIdeal.nD Cert.MlpSRefIdeal.τ).loc Cert.MlpSRefIdeal.main_arg0) = m ((c.tc : Thread Cert.MlpSRefIdeal.nD Cert.MlpSRefIdeal.τ).loc Cert.MlpSRefIdeal.main_arg0)
      ∧ r.2.mem ((c.tc : Thread Cert.MlpSRefIdeal.nD Cert.MlpSRefIdeal.τ).loc Cert.MlpSRefIdeal.main_arg1) = m ((c.tc : Thread Cert.MlpSRefIdeal.nD Cert.MlpSRefIdeal.τ).loc Cert.MlpSRefIdeal.main_arg1)
      ∧ r.2.mem ((c.tc : Thread Cert.MlpSRefIdeal.nD Cert.MlpSRefIdeal.τ).loc Cert.MlpSRefIdeal.main_arg2) = m ((c.tc : Thread Cert.MlpSRefIdeal.nD Cert.MlpSRefIdeal.τ).loc Cert.MlpSRefIdeal.main_arg2)
      ∧ r.2.mem ((c.tc : Thread Cert.MlpSRefIdeal.nD Cert.MlpSRefIdeal.τ).loc Cert.MlpSRefIdeal.main_arg3) = m ((c.tc : Thread Cert.MlpSRefIdeal.nD Cert.MlpSRefIdeal.τ).loc Cert.MlpSRefIdeal.main_arg3)
      ∧ r.2.mem ((c.tc : Thread Cert.MlpSRefIdeal.nD Cert.MlpSRefIdeal.τ).loc Cert.MlpSRefIdeal.main_arg4) = m ((c.tc : Thread Cert.MlpSRefIdeal.nD Cert.MlpSRefIdeal.τ).loc Cert.MlpSRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_QkvS [hQkvS : Cert.QkvS.Facts] : Prop :=
  ∀ (m : (ℓ : Loc Cert.QkvS.nD Cert.QkvS.τ Cert.QkvS.sig) → Buf (Elt Bits) ℓ) (g : Dev Cert.QkvS.nD → PrngReg), Pre_QkvS m →
    θ_run (Cert.QkvS.defs (F := Bits)) (onTc (τ := Cert.QkvS.τ) (Cert.QkvS.main (F := Bits))) ⟨m, fun _ => 0, g⟩ (fun r => (∀ c : Dev Cert.QkvS.nD,
      r.2.mem ((c.tc : Thread Cert.QkvS.nD Cert.QkvS.τ).loc Cert.QkvS.main_arg0) = m ((c.tc : Thread Cert.QkvS.nD Cert.QkvS.τ).loc Cert.QkvS.main_arg0)
      ∧ r.2.mem ((c.tc : Thread Cert.QkvS.nD Cert.QkvS.τ).loc Cert.QkvS.main_arg1) = m ((c.tc : Thread Cert.QkvS.nD Cert.QkvS.τ).loc Cert.QkvS.main_arg1)
      ∧ r.2.mem ((c.tc : Thread Cert.QkvS.nD Cert.QkvS.τ).loc Cert.QkvS.main_arg2) = m ((c.tc : Thread Cert.QkvS.nD Cert.QkvS.τ).loc Cert.QkvS.main_arg2))
      ∧ r.2.sem = fun _ => 0)

def quiescent_QkvSIdeal [hQkvSIdeal : Cert.QkvSIdeal.Facts] : Prop :=
  ∀ (m : (ℓ : Loc Cert.QkvSIdeal.nD Cert.QkvSIdeal.τ Cert.QkvSIdeal.sig) → Buf (Elt Ideal) ℓ) (g : Dev Cert.QkvSIdeal.nD → PrngReg), Pre_QkvSIdeal m →
    θ_run (Cert.QkvSIdeal.defs (F := Ideal)) (onTc (τ := Cert.QkvSIdeal.τ) (Cert.QkvSIdeal.main (F := Ideal))) ⟨m, fun _ => 0, g⟩ (fun r => (∀ c : Dev Cert.QkvSIdeal.nD,
      r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
      ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
      ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ r.2.sem = fun _ => 0)

def quiescent_QkvSRefIdeal [hQkvSRefIdeal : Cert.QkvSRefIdeal.Facts] : Prop :=
  ∀ (m : (ℓ : Loc Cert.QkvSRefIdeal.nD Cert.QkvSRefIdeal.τ Cert.QkvSRefIdeal.sig) → Buf (Elt Ideal) ℓ) (g : Dev Cert.QkvSRefIdeal.nD → PrngReg), Pre_QkvSRefIdeal m →
    θ_run (Cert.QkvSRefIdeal.defs (F := Ideal)) (onTc (τ := Cert.QkvSRefIdeal.τ) (Cert.QkvSRefIdeal.main (F := Ideal))) ⟨m, fun _ => 0, g⟩ (fun r => (∀ c : Dev Cert.QkvSRefIdeal.nD,
      r.2.mem ((c.tc : Thread Cert.QkvSRefIdeal.nD Cert.QkvSRefIdeal.τ).loc Cert.QkvSRefIdeal.main_arg0) = m ((c.tc : Thread Cert.QkvSRefIdeal.nD Cert.QkvSRefIdeal.τ).loc Cert.QkvSRefIdeal.main_arg0)
      ∧ r.2.mem ((c.tc : Thread Cert.QkvSRefIdeal.nD Cert.QkvSRefIdeal.τ).loc Cert.QkvSRefIdeal.main_arg1) = m ((c.tc : Thread Cert.QkvSRefIdeal.nD Cert.QkvSRefIdeal.τ).loc Cert.QkvSRefIdeal.main_arg1)
      ∧ r.2.mem ((c.tc : Thread Cert.QkvSRefIdeal.nD Cert.QkvSRefIdeal.τ).loc Cert.QkvSRefIdeal.main_arg2) = m ((c.tc : Thread Cert.QkvSRefIdeal.nD Cert.QkvSRefIdeal.τ).loc Cert.QkvSRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0)
      ∧ r.2.mem ((c.tc : Thread Cert.KvS.nD Cert.KvS.τ).loc Cert.KvS.main_arg1) = m ((c.tc : Thread Cert.KvS.nD Cert.KvS.τ).loc Cert.KvS.main_arg1)
      ∧ r.2.mem ((c.tc : Thread Cert.KvS.nD Cert.KvS.τ).loc Cert.KvS.main_arg2) = m ((c.tc : Thread Cert.KvS.nD Cert.KvS.τ).loc Cert.KvS.main_arg2))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
      ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
      ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1)
      ∧ r.2.mem ((c.tc : Thread Cert.KvSRefIdeal.nD Cert.KvSRefIdeal.τ).loc Cert.KvSRefIdeal.main_arg2) = m ((c.tc : Thread Cert.KvSRefIdeal.nD Cert.KvSRefIdeal.τ).loc Cert.KvSRefIdeal.main_arg2))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1)
      ∧ r.2.mem ((c.tc : Thread Cert.Q.nD Cert.Q.τ).loc Cert.Q.main_arg2) = m ((c.tc : Thread Cert.Q.nD Cert.Q.τ).loc Cert.Q.main_arg2))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1)
      ∧ r.2.mem ((c.tc : Thread Cert.QRefIdeal.nD Cert.QRefIdeal.τ).loc Cert.QRefIdeal.main_arg2) = m ((c.tc : Thread Cert.QRefIdeal.nD Cert.QRefIdeal.τ).loc Cert.QRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1)
      ∧ r.2.mem ((c.tc : Thread Cert.Shift.nD Cert.Shift.τ).loc Cert.Shift.main_arg2) = m ((c.tc : Thread Cert.Shift.nD Cert.Shift.τ).loc Cert.Shift.main_arg2)
      ∧ r.2.mem ((c.tc : Thread Cert.Shift.nD Cert.Shift.τ).loc Cert.Shift.main_arg3) = m ((c.tc : Thread Cert.Shift.nD Cert.Shift.τ).loc Cert.Shift.main_arg3))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
      ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3))
      ∧ r.2.sem = fun _ => 0)

def quiescent_ShiftRefIdeal [hShiftRefIdeal : Cert.ShiftRefIdeal.Facts] : Prop :=
  ∀ (m : (ℓ : Loc Cert.ShiftRefIdeal.nD Cert.ShiftRefIdeal.τ Cert.ShiftRefIdeal.sig) → Buf (Elt Ideal) ℓ) (g : Dev Cert.ShiftRefIdeal.nD → PrngReg), Pre_ShiftRefIdeal m →
    θ_run (Cert.ShiftRefIdeal.defs (F := Ideal)) (onTc (τ := Cert.ShiftRefIdeal.τ) (Cert.ShiftRefIdeal.main (F := Ideal))) ⟨m, fun _ => 0, g⟩ (fun r => (∀ c : Dev Cert.ShiftRefIdeal.nD,
      r.2.mem ((c.tc : Thread Cert.ShiftRefIdeal.nD Cert.ShiftRefIdeal.τ).loc Cert.ShiftRefIdeal.main_arg0) = m ((c.tc : Thread Cert.ShiftRefIdeal.nD Cert.ShiftRefIdeal.τ).loc Cert.ShiftRefIdeal.main_arg0)
      ∧ r.2.mem ((c.tc : Thread Cert.ShiftRefIdeal.nD Cert.ShiftRefIdeal.τ).loc Cert.ShiftRefIdeal.main_arg1) = m ((c.tc : Thread Cert.ShiftRefIdeal.nD Cert.ShiftRefIdeal.τ).loc Cert.ShiftRefIdeal.main_arg1)
      ∧ r.2.mem ((c.tc : Thread Cert.ShiftRefIdeal.nD Cert.ShiftRefIdeal.τ).loc Cert.ShiftRefIdeal.main_arg2) = m ((c.tc : Thread Cert.ShiftRefIdeal.nD Cert.ShiftRefIdeal.τ).loc Cert.ShiftRefIdeal.main_arg2)
      ∧ r.2.mem ((c.tc : Thread Cert.ShiftRefIdeal.nD Cert.ShiftRefIdeal.τ).loc Cert.ShiftRefIdeal.main_arg3) = m ((c.tc : Thread Cert.ShiftRefIdeal.nD Cert.ShiftRefIdeal.τ).loc Cert.ShiftRefIdeal.main_arg3))
      ∧ r.2.sem = fun _ => 0)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0)
      ∧ r.2.mem ((c.tc : Thread Cert.Dil.nD Cert.Dil.τ).loc Cert.Dil.main_arg1) = m ((c.tc : Thread Cert.Dil.nD Cert.Dil.τ).loc Cert.Dil.main_arg1)
      ∧ r.2.mem ((c.tc : Thread Cert.Dil.nD Cert.Dil.τ).loc Cert.Dil.main_arg2) = m ((c.tc : Thread Cert.Dil.nD Cert.Dil.τ).loc Cert.Dil.main_arg2))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
      ∧ r.2.mem ((c.tc : Thread Cert.DilIdeal.nD Cert.DilIdeal.τ).loc Cert.DilIdeal.main_arg2) = m ((c.tc : Thread Cert.DilIdeal.nD Cert.DilIdeal.τ).loc Cert.DilIdeal.main_arg2))
      ∧ r.2.sem = fun _ => 0)

def quiescent_DilRefIdeal [hDilRefIdeal : Cert.DilRefIdeal.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0)
      ∧ r.2.mem ((c.tc : Thread Cert.DilRefIdeal.nD Cert.DilRefIdeal.τ).loc Cert.DilRefIdeal.main_arg1) = m ((c.tc : Thread Cert.DilRefIdeal.nD Cert.DilRefIdeal.τ).loc Cert.DilRefIdeal.main_arg1)
      ∧ r.2.mem ((c.tc : Thread Cert.DilRefIdeal.nD Cert.DilRefIdeal.τ).loc Cert.DilRefIdeal.main_arg2) = m ((c.tc : Thread Cert.DilRefIdeal.nD Cert.DilRefIdeal.τ).loc Cert.DilRefIdeal.main_arg2))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2)
      ∧ r.2.mem ((c.tc : Thread Cert.OutS.nD Cert.OutS.τ).loc Cert.OutS.main_arg3) = m ((c.tc : Thread Cert.OutS.nD Cert.OutS.τ).loc Cert.OutS.main_arg3))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
      ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3))
      ∧ r.2.sem = fun _ => 0)

def quiescent_OutSRefIdeal [hOutSRefIdeal : Cert.OutSRefIdeal.Facts] : Prop :=
  ∀ (m : (ℓ : Loc Cert.OutSRefIdeal.nD Cert.OutSRefIdeal.τ Cert.OutSRefIdeal.sig) → Buf (Elt Ideal) ℓ) (g : Dev Cert.OutSRefIdeal.nD → PrngReg), Pre_OutSRefIdeal m →
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2)
      ∧ r.2.mem ((c.tc : Thread Cert.OutSRefIdeal.nD Cert.OutSRefIdeal.τ).loc Cert.OutSRefIdeal.main_arg3) = m ((c.tc : Thread Cert.OutSRefIdeal.nD Cert.OutSRefIdeal.τ).loc Cert.OutSRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v31) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_MlpS_MlpSIdeal : Prop :=
  True

def algebraic_MlpSIdeal_MlpSRefIdeal [hMlpSIdeal : Cert.MlpSIdeal.Facts] [hMlpSRefIdeal : Cert.MlpSRefIdeal.Facts] : Prop :=
  ∀ (m : (ℓ : Loc Cert.MlpSIdeal.nD Cert.MlpSIdeal.τ Cert.MlpSIdeal.sig) → Buf (Elt Ideal) ℓ) (g : Dev Cert.MlpSIdeal.nD → PrngReg)
    (m' : (ℓ : Loc Cert.MlpSRefIdeal.nD Cert.MlpSRefIdeal.τ Cert.MlpSRefIdeal.sig) → Buf (Elt Ideal) ℓ) (g' : Dev Cert.MlpSRefIdeal.nD → PrngReg), Pre_MlpSIdeal m →
    (∀ c : Dev Cert.MlpSIdeal.nD,
      m' ((c.tc : Thread Cert.MlpSRefIdeal.nD Cert.MlpSRefIdeal.τ).loc Cert.MlpSRefIdeal.main_arg0) = m ((c.tc : Thread Cert.MlpSIdeal.nD Cert.MlpSIdeal.τ).loc Cert.MlpSIdeal.main_arg0)
      ∧ m' ((c.tc : Thread Cert.MlpSRefIdeal.nD Cert.MlpSRefIdeal.τ).loc Cert.MlpSRefIdeal.main_arg1) = m ((c.tc : Thread Cert.MlpSIdeal.nD Cert.MlpSIdeal.τ).loc Cert.MlpSIdeal.main_arg1)
      ∧ m' ((c.tc : Thread Cert.MlpSRefIdeal.nD Cert.MlpSRefIdeal.τ).loc Cert.MlpSRefIdeal.main_arg2) = m ((c.tc : Thread Cert.MlpSIdeal.nD Cert.MlpSIdeal.τ).loc Cert.MlpSIdeal.main_arg2)
      ∧ m' ((c.tc : Thread Cert.MlpSRefIdeal.nD Cert.MlpSRefIdeal.τ).loc Cert.MlpSRefIdeal.main_arg3) = m ((c.tc : Thread Cert.MlpSIdeal.nD Cert.MlpSIdeal.τ).loc Cert.MlpSIdeal.main_arg3)
      ∧ m' ((c.tc : Thread Cert.MlpSRefIdeal.nD Cert.MlpSRefIdeal.τ).loc Cert.MlpSRefIdeal.main_arg4) = m ((c.tc : Thread Cert.MlpSIdeal.nD Cert.MlpSIdeal.τ).loc Cert.MlpSIdeal.main_arg4)) →
    ∃ (v0 : (c : Dev Cert.MlpSIdeal.nD) → Buf (Elt Ideal) ((c.tc : Thread Cert.MlpSIdeal.nD Cert.MlpSIdeal.τ).loc Cert.MlpSIdeal.main_v5)),
      θ_run (Cert.MlpSIdeal.defs (F := Ideal)) (onTc (τ := Cert.MlpSIdeal.τ) (Cert.MlpSIdeal.main (F := Ideal))) ⟨m, fun _ => 0, g⟩ (fun r => ∀ c : Dev Cert.MlpSIdeal.nD,
          r.2.mem ((c.tc : Thread Cert.MlpSIdeal.nD Cert.MlpSIdeal.τ).loc Cert.MlpSIdeal.main_v5) = v0 c
          ∧ r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
          ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
          ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
          ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
          ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4))
      ∧ θ_run (Cert.MlpSRefIdeal.defs (F := Ideal)) (onTc (τ := Cert.MlpSRefIdeal.τ) (Cert.MlpSRefIdeal.main (F := Ideal))) ⟨m', fun _ => 0, g'⟩ (fun r => ∀ c : Dev Cert.MlpSRefIdeal.nD,
          r.2.mem ((c.tc : Thread Cert.MlpSRefIdeal.nD Cert.MlpSRefIdeal.τ).loc Cert.MlpSRefIdeal.main_v31) = v0 c
          ∧ r.2.mem ((c.tc : Thread Cert.MlpSRefIdeal.nD Cert.MlpSRefIdeal.τ).loc Cert.MlpSRefIdeal.main_arg0) = m' ((c.tc : Thread Cert.MlpSRefIdeal.nD Cert.MlpSRefIdeal.τ).loc Cert.MlpSRefIdeal.main_arg0)
          ∧ r.2.mem ((c.tc : Thread Cert.MlpSRefIdeal.nD Cert.MlpSRefIdeal.τ).loc Cert.MlpSRefIdeal.main_arg1) = m' ((c.tc : Thread Cert.MlpSRefIdeal.nD Cert.MlpSRefIdeal.τ).loc Cert.MlpSRefIdeal.main_arg1)
          ∧ r.2.mem ((c.tc : Thread Cert.MlpSRefIdeal.nD Cert.MlpSRefIdeal.τ).loc Cert.MlpSRefIdeal.main_arg2) = m' ((c.tc : Thread Cert.MlpSRefIdeal.nD Cert.MlpSRefIdeal.τ).loc Cert.MlpSRefIdeal.main_arg2)
          ∧ r.2.mem ((c.tc : Thread Cert.MlpSRefIdeal.nD Cert.MlpSRefIdeal.τ).loc Cert.MlpSRefIdeal.main_arg3) = m' ((c.tc : Thread Cert.MlpSRefIdeal.nD Cert.MlpSRefIdeal.τ).loc Cert.MlpSRefIdeal.main_arg3)
          ∧ r.2.mem ((c.tc : Thread Cert.MlpSRefIdeal.nD Cert.MlpSRefIdeal.τ).loc Cert.MlpSRefIdeal.main_arg4) = m' ((c.tc : Thread Cert.MlpSRefIdeal.nD Cert.MlpSRefIdeal.τ).loc Cert.MlpSRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v6_0)) (v1 : (c : Dev Cert.QkvIdeal.nD) → Buf (Elt Ideal) ((c.tc : Thread Cert.QkvIdeal.nD Cert.QkvIdeal.τ).loc Cert.QkvIdeal.main_v6_1)) (v2 : (c : Dev Cert.QkvIdeal.nD) → Buf (Elt Ideal) ((c.tc : Thread Cert.QkvIdeal.nD Cert.QkvIdeal.τ).loc Cert.QkvIdeal.main_v6_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v6_0) = v0 c
          ∧ r.2.mem ((c.tc : Thread Cert.QkvIdeal.nD Cert.QkvIdeal.τ).loc Cert.QkvIdeal.main_v6_1) = v1 c
          ∧ r.2.mem ((c.tc : Thread Cert.QkvIdeal.nD Cert.QkvIdeal.τ).loc Cert.QkvIdeal.main_v6_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v21) = v0 c
          ∧ r.2.mem ((c.tc : Thread Cert.QkvRefIdeal.nD Cert.QkvRefIdeal.τ).loc Cert.QkvRefIdeal.main_v23) = v1 c
          ∧ r.2.mem ((c.tc : Thread Cert.QkvRefIdeal.nD Cert.QkvRefIdeal.τ).loc Cert.QkvRefIdeal.main_v25) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_QkvS_QkvSIdeal : Prop :=
  True

def algebraic_QkvSIdeal_QkvSRefIdeal [hQkvSIdeal : Cert.QkvSIdeal.Facts] [hQkvSRefIdeal : Cert.QkvSRefIdeal.Facts] : Prop :=
  ∀ (m : (ℓ : Loc Cert.QkvSIdeal.nD Cert.QkvSIdeal.τ Cert.QkvSIdeal.sig) → Buf (Elt Ideal) ℓ) (g : Dev Cert.QkvSIdeal.nD → PrngReg)
    (m' : (ℓ : Loc Cert.QkvSRefIdeal.nD Cert.QkvSRefIdeal.τ Cert.QkvSRefIdeal.sig) → Buf (Elt Ideal) ℓ) (g' : Dev Cert.QkvSRefIdeal.nD → PrngReg), Pre_QkvSIdeal m →
    (∀ c : Dev Cert.QkvSIdeal.nD,
      m' ((c.tc : Thread Cert.QkvSRefIdeal.nD Cert.QkvSRefIdeal.τ).loc Cert.QkvSRefIdeal.main_arg0) = m ((c.tc : Thread Cert.QkvSIdeal.nD Cert.QkvSIdeal.τ).loc Cert.QkvSIdeal.main_arg0)
      ∧ m' ((c.tc : Thread Cert.QkvSRefIdeal.nD Cert.QkvSRefIdeal.τ).loc Cert.QkvSRefIdeal.main_arg1) = m ((c.tc : Thread Cert.QkvSIdeal.nD Cert.QkvSIdeal.τ).loc Cert.QkvSIdeal.main_arg1)
      ∧ m' ((c.tc : Thread Cert.QkvSRefIdeal.nD Cert.QkvSRefIdeal.τ).loc Cert.QkvSRefIdeal.main_arg2) = m ((c.tc : Thread Cert.QkvSIdeal.nD Cert.QkvSIdeal.τ).loc Cert.QkvSIdeal.main_arg2)) →
    ∃ (v0 : (c : Dev Cert.QkvSIdeal.nD) → Buf (Elt Ideal) ((c.tc : Thread Cert.QkvSIdeal.nD Cert.QkvSIdeal.τ).loc Cert.QkvSIdeal.main_v3_0)) (v1 : (c : Dev Cert.QkvSIdeal.nD) → Buf (Elt Ideal) ((c.tc : Thread Cert.QkvSIdeal.nD Cert.QkvSIdeal.τ).loc Cert.QkvSIdeal.main_v3_1)) (v2 : (c : Dev Cert.QkvSIdeal.nD) → Buf (Elt Ideal) ((c.tc : Thread Cert.QkvSIdeal.nD Cert.QkvSIdeal.τ).loc Cert.QkvSIdeal.main_v3_2)),
      θ_run (Cert.QkvSIdeal.defs (F := Ideal)) (onTc (τ := Cert.QkvSIdeal.τ) (Cert.QkvSIdeal.main (F := Ideal))) ⟨m, fun _ => 0, g⟩ (fun r => ∀ c : Dev Cert.QkvSIdeal.nD,
          r.2.mem ((c.tc : Thread Cert.QkvSIdeal.nD Cert.QkvSIdeal.τ).loc Cert.QkvSIdeal.main_v3_0) = v0 c
          ∧ r.2.mem ((c.tc : Thread Cert.QkvSIdeal.nD Cert.QkvSIdeal.τ).loc Cert.QkvSIdeal.main_v3_1) = v1 c
          ∧ r.2.mem ((c.tc : Thread Cert.QkvSIdeal.nD Cert.QkvSIdeal.τ).loc Cert.QkvSIdeal.main_v3_2) = v2 c
          ∧ r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
          ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
          ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ θ_run (Cert.QkvSRefIdeal.defs (F := Ideal)) (onTc (τ := Cert.QkvSRefIdeal.τ) (Cert.QkvSRefIdeal.main (F := Ideal))) ⟨m', fun _ => 0, g'⟩ (fun r => ∀ c : Dev Cert.QkvSRefIdeal.nD,
          r.2.mem ((c.tc : Thread Cert.QkvSRefIdeal.nD Cert.QkvSRefIdeal.τ).loc Cert.QkvSRefIdeal.main_v17) = v0 c
          ∧ r.2.mem ((c.tc : Thread Cert.QkvSRefIdeal.nD Cert.QkvSRefIdeal.τ).loc Cert.QkvSRefIdeal.main_v20) = v1 c
          ∧ r.2.mem ((c.tc : Thread Cert.QkvSRefIdeal.nD Cert.QkvSRefIdeal.τ).loc Cert.QkvSRefIdeal.main_v23) = v2 c
          ∧ r.2.mem ((c.tc : Thread Cert.QkvSRefIdeal.nD Cert.QkvSRefIdeal.τ).loc Cert.QkvSRefIdeal.main_arg0) = m' ((c.tc : Thread Cert.QkvSRefIdeal.nD Cert.QkvSRefIdeal.τ).loc Cert.QkvSRefIdeal.main_arg0)
          ∧ r.2.mem ((c.tc : Thread Cert.QkvSRefIdeal.nD Cert.QkvSRefIdeal.τ).loc Cert.QkvSRefIdeal.main_arg1) = m' ((c.tc : Thread Cert.QkvSRefIdeal.nD Cert.QkvSRefIdeal.τ).loc Cert.QkvSRefIdeal.main_arg1)
          ∧ r.2.mem ((c.tc : Thread Cert.QkvSRefIdeal.nD Cert.QkvSRefIdeal.τ).loc Cert.QkvSRefIdeal.main_arg2) = m' ((c.tc : Thread Cert.QkvSRefIdeal.nD Cert.QkvSRefIdeal.τ).loc Cert.QkvSRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v4_0)) (v1 : (c : Dev Cert.KvIdeal.nD) → Buf (Elt Ideal) ((c.tc : Thread Cert.KvIdeal.nD Cert.KvIdeal.τ).loc Cert.KvIdeal.main_v4_1)) (v2 : (c : Dev Cert.KvIdeal.nD) → Buf (Elt Ideal) ((c.tc : Thread Cert.KvIdeal.nD Cert.KvIdeal.τ).loc Cert.KvIdeal.main_v4_2)) (v3 : (c : Dev Cert.KvIdeal.nD) → Buf (Elt Ideal) ((c.tc : Thread Cert.KvIdeal.nD Cert.KvIdeal.τ).loc Cert.KvIdeal.main_v4_3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v4_0) = v0 c
          ∧ r.2.mem ((c.tc : Thread Cert.KvIdeal.nD Cert.KvIdeal.τ).loc Cert.KvIdeal.main_v4_1) = v1 c
          ∧ r.2.mem ((c.tc : Thread Cert.KvIdeal.nD Cert.KvIdeal.τ).loc Cert.KvIdeal.main_v4_2) = v2 c
          ∧ r.2.mem ((c.tc : Thread Cert.KvIdeal.nD Cert.KvIdeal.τ).loc Cert.KvIdeal.main_v4_3) = v3 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v19) = v0 c
          ∧ r.2.mem ((c.tc : Thread Cert.KvRefIdeal.nD Cert.KvRefIdeal.τ).loc Cert.KvRefIdeal.main_v20) = v1 c
          ∧ r.2.mem ((c.tc : Thread Cert.KvRefIdeal.nD Cert.KvRefIdeal.τ).loc Cert.KvRefIdeal.main_v22) = v2 c
          ∧ r.2.mem ((c.tc : Thread Cert.KvRefIdeal.nD Cert.KvRefIdeal.τ).loc Cert.KvRefIdeal.main_v24) = v3 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_KvS_KvSIdeal : Prop :=
  True

def algebraic_KvSIdeal_KvSRefIdeal [hKvSIdeal : Cert.KvSIdeal.Facts] [hKvSRefIdeal : Cert.KvSRefIdeal.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)
      ∧ m' ((c.tc : Thread Cert.KvSRefIdeal.nD Cert.KvSRefIdeal.τ).loc Cert.KvSRefIdeal.main_arg1) = m ((c.tc : Thread Cert.KvSIdeal.nD Cert.KvSIdeal.τ).loc Cert.KvSIdeal.main_arg1)
      ∧ m' ((c.tc : Thread Cert.KvSRefIdeal.nD Cert.KvSRefIdeal.τ).loc Cert.KvSRefIdeal.main_arg2) = m ((c.tc : Thread Cert.KvSIdeal.nD Cert.KvSIdeal.τ).loc Cert.KvSIdeal.main_arg2)) →
    ∃ (v0 : (c : Dev Cert.KvSIdeal.nD) → Buf (Elt Ideal) ((c.tc : Thread Cert.KvSIdeal.nD Cert.KvSIdeal.τ).loc Cert.KvSIdeal.main_v3_0)) (v1 : (c : Dev Cert.KvSIdeal.nD) → Buf (Elt Ideal) ((c.tc : Thread Cert.KvSIdeal.nD Cert.KvSIdeal.τ).loc Cert.KvSIdeal.main_v3_1)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v3_0) = v0 c
          ∧ r.2.mem ((c.tc : Thread Cert.KvSIdeal.nD Cert.KvSIdeal.τ).loc Cert.KvSIdeal.main_v3_1) = v1 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
          ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
          ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v17) = v0 c
          ∧ r.2.mem ((c.tc : Thread Cert.KvSRefIdeal.nD Cert.KvSRefIdeal.τ).loc Cert.KvSRefIdeal.main_v20) = v1 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0)
          ∧ r.2.mem ((c.tc : Thread Cert.KvSRefIdeal.nD Cert.KvSRefIdeal.τ).loc Cert.KvSRefIdeal.main_arg1) = m' ((c.tc : Thread Cert.KvSRefIdeal.nD Cert.KvSRefIdeal.τ).loc Cert.KvSRefIdeal.main_arg1)
          ∧ r.2.mem ((c.tc : Thread Cert.KvSRefIdeal.nD Cert.KvSRefIdeal.τ).loc Cert.KvSRefIdeal.main_arg2) = m' ((c.tc : Thread Cert.KvSRefIdeal.nD Cert.KvSRefIdeal.τ).loc Cert.KvSRefIdeal.main_arg2))

def preserves_Q_QIdeal : Prop :=
  True

def algebraic_QIdeal_QRefIdeal [hQIdeal : Cert.QIdeal.Facts] [hQRefIdeal : Cert.QRefIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)
      ∧ m' ((c.tc : Thread Cert.QRefIdeal.nD Cert.QRefIdeal.τ).loc Cert.QRefIdeal.main_arg2) = m ((c.tc : Thread Cert.QIdeal.nD Cert.QIdeal.τ).loc Cert.QIdeal.main_arg2)) →
    ∃ (v0 : (c : Dev Cert.QIdeal.nD) → Buf (Elt Ideal) ((c.tc : Thread Cert.QIdeal.nD Cert.QIdeal.τ).loc Cert.QIdeal.main_v3_0)) (v1 : (c : Dev Cert.QIdeal.nD) → Buf (Elt Ideal) ((c.tc : Thread Cert.QIdeal.nD Cert.QIdeal.τ).loc Cert.QIdeal.main_v3_1)) (v2 : (c : Dev Cert.QIdeal.nD) → Buf (Elt Ideal) ((c.tc : Thread Cert.QIdeal.nD Cert.QIdeal.τ).loc Cert.QIdeal.main_v3_2)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v3_0) = v0 c
          ∧ r.2.mem ((c.tc : Thread Cert.QIdeal.nD Cert.QIdeal.τ).loc Cert.QIdeal.main_v3_1) = v1 c
          ∧ r.2.mem ((c.tc : Thread Cert.QIdeal.nD Cert.QIdeal.τ).loc Cert.QIdeal.main_v3_2) = v2 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1)
          ∧ r.2.mem ((c.tc : Thread Cert.QIdeal.nD Cert.QIdeal.τ).loc Cert.QIdeal.main_arg2) = m ((c.tc : Thread Cert.QIdeal.nD Cert.QIdeal.τ).loc Cert.QIdeal.main_arg2))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v17) = v0 c
          ∧ r.2.mem ((c.tc : Thread Cert.QRefIdeal.nD Cert.QRefIdeal.τ).loc Cert.QRefIdeal.main_v20) = v1 c
          ∧ r.2.mem ((c.tc : Thread Cert.QRefIdeal.nD Cert.QRefIdeal.τ).loc Cert.QRefIdeal.main_v23) = v2 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1)
          ∧ r.2.mem ((c.tc : Thread Cert.QRefIdeal.nD Cert.QRefIdeal.τ).loc Cert.QRefIdeal.main_arg2) = m' ((c.tc : Thread Cert.QRefIdeal.nD Cert.QRefIdeal.τ).loc Cert.QRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v16) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Shift_ShiftIdeal : Prop :=
  True

def algebraic_ShiftIdeal_ShiftRefIdeal [hShiftIdeal : Cert.ShiftIdeal.Facts] [hShiftRefIdeal : Cert.ShiftRefIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftRefIdeal.nD Cert.ShiftRefIdeal.τ Cert.ShiftRefIdeal.sig) → Buf (Elt Ideal) ℓ) (g' : Dev Cert.ShiftRefIdeal.nD → PrngReg), Pre_ShiftIdeal m →
    (∀ c : Dev Cert.ShiftIdeal.nD,
      m' ((c.tc : Thread Cert.ShiftRefIdeal.nD Cert.ShiftRefIdeal.τ).loc Cert.ShiftRefIdeal.main_arg0) = m ((c.tc : Thread Cert.ShiftIdeal.nD Cert.ShiftIdeal.τ).loc Cert.ShiftIdeal.main_arg0)
      ∧ m' ((c.tc : Thread Cert.ShiftRefIdeal.nD Cert.ShiftRefIdeal.τ).loc Cert.ShiftRefIdeal.main_arg1) = m ((c.tc : Thread Cert.ShiftIdeal.nD Cert.ShiftIdeal.τ).loc Cert.ShiftIdeal.main_arg1)
      ∧ m' ((c.tc : Thread Cert.ShiftRefIdeal.nD Cert.ShiftRefIdeal.τ).loc Cert.ShiftRefIdeal.main_arg2) = m ((c.tc : Thread Cert.ShiftIdeal.nD Cert.ShiftIdeal.τ).loc Cert.ShiftIdeal.main_arg2)
      ∧ m' ((c.tc : Thread Cert.ShiftRefIdeal.nD Cert.ShiftRefIdeal.τ).loc Cert.ShiftRefIdeal.main_arg3) = m ((c.tc : Thread Cert.ShiftIdeal.nD Cert.ShiftIdeal.τ).loc Cert.ShiftIdeal.main_arg3)) →
    ∃ (v0 : (c : Dev Cert.ShiftIdeal.nD) → Buf (Elt Ideal) ((c.tc : Thread Cert.ShiftIdeal.nD Cert.ShiftIdeal.τ).loc Cert.ShiftIdeal.main_v12_0)) (v1 : (c : Dev Cert.ShiftIdeal.nD) → Buf (Elt Ideal) ((c.tc : Thread Cert.ShiftIdeal.nD Cert.ShiftIdeal.τ).loc Cert.ShiftIdeal.main_v12_1)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v12_0) = v0 c
          ∧ r.2.mem ((c.tc : Thread Cert.ShiftIdeal.nD Cert.ShiftIdeal.τ).loc Cert.ShiftIdeal.main_v12_1) = v1 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
          ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
          ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3))
      ∧ θ_run (Cert.ShiftRefIdeal.defs (F := Ideal)) (onTc (τ := Cert.ShiftRefIdeal.τ) (Cert.ShiftRefIdeal.main (F := Ideal))) ⟨m', fun _ => 0, g'⟩ (fun r => ∀ c : Dev Cert.ShiftRefIdeal.nD,
          r.2.mem ((c.tc : Thread Cert.ShiftRefIdeal.nD Cert.ShiftRefIdeal.τ).loc Cert.ShiftRefIdeal.main_v5) = v0 c
          ∧ r.2.mem ((c.tc : Thread Cert.ShiftRefIdeal.nD Cert.ShiftRefIdeal.τ).loc Cert.ShiftRefIdeal.main_v7) = v1 c
          ∧ r.2.mem ((c.tc : Thread Cert.ShiftRefIdeal.nD Cert.ShiftRefIdeal.τ).loc Cert.ShiftRefIdeal.main_arg0) = m' ((c.tc : Thread Cert.ShiftRefIdeal.nD Cert.ShiftRefIdeal.τ).loc Cert.ShiftRefIdeal.main_arg0)
          ∧ r.2.mem ((c.tc : Thread Cert.ShiftRefIdeal.nD Cert.ShiftRefIdeal.τ).loc Cert.ShiftRefIdeal.main_arg1) = m' ((c.tc : Thread Cert.ShiftRefIdeal.nD Cert.ShiftRefIdeal.τ).loc Cert.ShiftRefIdeal.main_arg1)
          ∧ r.2.mem ((c.tc : Thread Cert.ShiftRefIdeal.nD Cert.ShiftRefIdeal.τ).loc Cert.ShiftRefIdeal.main_arg2) = m' ((c.tc : Thread Cert.ShiftRefIdeal.nD Cert.ShiftRefIdeal.τ).loc Cert.ShiftRefIdeal.main_arg2)
          ∧ r.2.mem ((c.tc : Thread Cert.ShiftRefIdeal.nD Cert.ShiftRefIdeal.τ).loc Cert.ShiftRefIdeal.main_arg3) = m' ((c.tc : Thread Cert.ShiftRefIdeal.nD Cert.ShiftRefIdeal.τ).loc Cert.ShiftRefIdeal.main_arg3))

def preserves_Dil_DilIdeal : Prop :=
  True

def preserves_OutS_OutSIdeal : Prop :=
  True

def algebraic_OutSIdeal_OutSRefIdeal [hOutSIdeal : Cert.OutSIdeal.Facts] [hOutSRefIdeal : Cert.OutSRefIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.OutSRefIdeal.nD Cert.OutSRefIdeal.τ Cert.OutSRefIdeal.sig) → Buf (Elt Ideal) ℓ) (g' : Dev Cert.OutSRefIdeal.nD → PrngReg), Pre_OutSIdeal m →
    (∀ c : Dev Cert.OutSIdeal.nD,
      m' ((c.tc : Thread Cert.OutSRefIdeal.nD Cert.OutSRefIdeal.τ).loc Cert.OutSRefIdeal.main_arg0) = m ((c.tc : Thread Cert.OutSIdeal.nD Cert.OutSIdeal.τ).loc Cert.OutSIdeal.main_arg0)
      ∧ m' ((c.tc : Thread Cert.OutSRefIdeal.nD Cert.OutSRefIdeal.τ).loc Cert.OutSRefIdeal.main_arg1) = m ((c.tc : Thread Cert.OutSIdeal.nD Cert.OutSIdeal.τ).loc Cert.OutSIdeal.main_arg1)
      ∧ m' ((c.tc : Thread Cert.OutSRefIdeal.nD Cert.OutSRefIdeal.τ).loc Cert.OutSRefIdeal.main_arg2) = m ((c.tc : Thread Cert.OutSIdeal.nD Cert.OutSIdeal.τ).loc Cert.OutSIdeal.main_arg2)
      ∧ m' ((c.tc : Thread Cert.OutSRefIdeal.nD Cert.OutSRefIdeal.τ).loc Cert.OutSRefIdeal.main_arg3) = m ((c.tc : Thread Cert.OutSIdeal.nD Cert.OutSIdeal.τ).loc Cert.OutSIdeal.main_arg3)) →
    ∃ (v0 : (c : Dev Cert.OutSIdeal.nD) → Buf (Elt Ideal) ((c.tc : Thread Cert.OutSIdeal.nD Cert.OutSIdeal.τ).loc Cert.OutSIdeal.main_v4)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v4) = v0 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
          ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3))
      ∧ θ_run (Cert.OutSRefIdeal.defs (F := Ideal)) (onTc (τ := Cert.OutSRefIdeal.τ) (Cert.OutSRefIdeal.main (F := Ideal))) ⟨m', fun _ => 0, g'⟩ (fun r => ∀ c : Dev Cert.OutSRefIdeal.nD,
          r.2.mem ((c.tc : Thread Cert.OutSRefIdeal.nD Cert.OutSRefIdeal.τ).loc Cert.OutSRefIdeal.main_v16) = v0 c
          ∧ r.2.mem ((c.tc : Thread Cert.OutSRefIdeal.nD Cert.OutSRefIdeal.τ).loc Cert.OutSRefIdeal.main_arg0) = m' ((c.tc : Thread Cert.OutSRefIdeal.nD Cert.OutSRefIdeal.τ).loc Cert.OutSRefIdeal.main_arg0)
          ∧ r.2.mem ((c.tc : Thread Cert.OutSRefIdeal.nD Cert.OutSRefIdeal.τ).loc Cert.OutSRefIdeal.main_arg1) = m' ((c.tc : Thread Cert.OutSRefIdeal.nD Cert.OutSRefIdeal.τ).loc Cert.OutSRefIdeal.main_arg1)
          ∧ r.2.mem ((c.tc : Thread Cert.OutSRefIdeal.nD Cert.OutSRefIdeal.τ).loc Cert.OutSRefIdeal.main_arg2) = m' ((c.tc : Thread Cert.OutSRefIdeal.nD Cert.OutSRefIdeal.τ).loc Cert.OutSRefIdeal.main_arg2)
          ∧ r.2.mem ((c.tc : Thread Cert.OutSRefIdeal.nD Cert.OutSRefIdeal.τ).loc Cert.OutSRefIdeal.main_arg3) = m' ((c.tc : Thread Cert.OutSRefIdeal.nD Cert.OutSRefIdeal.τ).loc Cert.OutSRefIdeal.main_arg3))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hMlpS : Cert.MlpS.Facts) (hMlpSIdeal : Cert.MlpSIdeal.Facts) (hMlpSRefIdeal : Cert.MlpSRefIdeal.Facts) (hQkv : Cert.Qkv.Facts) (hQkvIdeal : Cert.QkvIdeal.Facts) (hQkvRefIdeal : Cert.QkvRefIdeal.Facts) (hQkvS : Cert.QkvS.Facts) (hQkvSIdeal : Cert.QkvSIdeal.Facts) (hQkvSRefIdeal : Cert.QkvSRefIdeal.Facts) (hKv : Cert.Kv.Facts) (hKvIdeal : Cert.KvIdeal.Facts) (hKvRefIdeal : Cert.KvRefIdeal.Facts) (hKvS : Cert.KvS.Facts) (hKvSIdeal : Cert.KvSIdeal.Facts) (hKvSRefIdeal : Cert.KvSRefIdeal.Facts) (hQ : Cert.Q.Facts) (hQIdeal : Cert.QIdeal.Facts) (hQRefIdeal : Cert.QRefIdeal.Facts) (hOut : Cert.Out.Facts) (hOutIdeal : Cert.OutIdeal.Facts) (hOutRefIdeal : Cert.OutRefIdeal.Facts) (hShift : Cert.Shift.Facts) (hShiftIdeal : Cert.ShiftIdeal.Facts) (hShiftRefIdeal : Cert.ShiftRefIdeal.Facts) (hDil : Cert.Dil.Facts) (hDilIdeal : Cert.DilIdeal.Facts) (hDilRefIdeal : Cert.DilRefIdeal.Facts) (hOutS : Cert.OutS.Facts) (hOutSIdeal : Cert.OutSIdeal.Facts) (hOutSRefIdeal : Cert.OutSRefIdeal.Facts),
    quiescent_Kernel (hKernel := hKernel)
    ∧ quiescent_KernelIdeal (hKernelIdeal := hKernelIdeal)
    ∧ quiescent_ReferenceIdeal (hReferenceIdeal := hReferenceIdeal)
    ∧ quiescent_Mlp (hMlp := hMlp)
    ∧ quiescent_MlpIdeal (hMlpIdeal := hMlpIdeal)
    ∧ quiescent_MlpRefIdeal (hMlpRefIdeal := hMlpRefIdeal)
    ∧ quiescent_MlpS (hMlpS := hMlpS)
    ∧ quiescent_MlpSIdeal (hMlpSIdeal := hMlpSIdeal)
    ∧ quiescent_MlpSRefIdeal (hMlpSRefIdeal := hMlpSRefIdeal)
    ∧ quiescent_Qkv (hQkv := hQkv)
    ∧ quiescent_QkvIdeal (hQkvIdeal := hQkvIdeal)
    ∧ quiescent_QkvRefIdeal (hQkvRefIdeal := hQkvRefIdeal)
    ∧ quiescent_QkvS (hQkvS := hQkvS)
    ∧ quiescent_QkvSIdeal (hQkvSIdeal := hQkvSIdeal)
    ∧ quiescent_QkvSRefIdeal (hQkvSRefIdeal := hQkvSRefIdeal)
    ∧ quiescent_Kv (hKv := hKv)
    ∧ quiescent_KvIdeal (hKvIdeal := hKvIdeal)
    ∧ quiescent_KvRefIdeal (hKvRefIdeal := hKvRefIdeal)
    ∧ quiescent_KvS (hKvS := hKvS)
    ∧ quiescent_KvSIdeal (hKvSIdeal := hKvSIdeal)
    ∧ quiescent_KvSRefIdeal (hKvSRefIdeal := hKvSRefIdeal)
    ∧ quiescent_Q (hQ := hQ)
    ∧ quiescent_QIdeal (hQIdeal := hQIdeal)
    ∧ quiescent_QRefIdeal (hQRefIdeal := hQRefIdeal)
    ∧ quiescent_Out (hOut := hOut)
    ∧ quiescent_OutIdeal (hOutIdeal := hOutIdeal)
    ∧ quiescent_OutRefIdeal (hOutRefIdeal := hOutRefIdeal)
    ∧ quiescent_Shift (hShift := hShift)
    ∧ quiescent_ShiftIdeal (hShiftIdeal := hShiftIdeal)
    ∧ quiescent_ShiftRefIdeal (hShiftRefIdeal := hShiftRefIdeal)
    ∧ quiescent_Dil (hDil := hDil)
    ∧ quiescent_DilIdeal (hDilIdeal := hDilIdeal)
    ∧ quiescent_DilRefIdeal (hDilRefIdeal := hDilRefIdeal)
    ∧ quiescent_OutS (hOutS := hOutS)
    ∧ quiescent_OutSIdeal (hOutSIdeal := hOutSIdeal)
    ∧ quiescent_OutSRefIdeal (hOutSRefIdeal := hOutSRefIdeal)
    ∧ preserves_Kernel_KernelIdeal
    ∧ algebraic_KernelIdeal_ReferenceIdeal (hKernelIdeal := hKernelIdeal) (hReferenceIdeal := hReferenceIdeal)
    ∧ preserves_Mlp_MlpIdeal
    ∧ algebraic_MlpIdeal_MlpRefIdeal (hMlpIdeal := hMlpIdeal) (hMlpRefIdeal := hMlpRefIdeal)
    ∧ preserves_MlpS_MlpSIdeal
    ∧ algebraic_MlpSIdeal_MlpSRefIdeal (hMlpSIdeal := hMlpSIdeal) (hMlpSRefIdeal := hMlpSRefIdeal)
    ∧ preserves_Qkv_QkvIdeal
    ∧ algebraic_QkvIdeal_QkvRefIdeal (hQkvIdeal := hQkvIdeal) (hQkvRefIdeal := hQkvRefIdeal)
    ∧ preserves_QkvS_QkvSIdeal
    ∧ algebraic_QkvSIdeal_QkvSRefIdeal (hQkvSIdeal := hQkvSIdeal) (hQkvSRefIdeal := hQkvSRefIdeal)
    ∧ preserves_Kv_KvIdeal
    ∧ algebraic_KvIdeal_KvRefIdeal (hKvIdeal := hKvIdeal) (hKvRefIdeal := hKvRefIdeal)
    ∧ preserves_KvS_KvSIdeal
    ∧ algebraic_KvSIdeal_KvSRefIdeal (hKvSIdeal := hKvSIdeal) (hKvSRefIdeal := hKvSRefIdeal)
    ∧ preserves_Q_QIdeal
    ∧ algebraic_QIdeal_QRefIdeal (hQIdeal := hQIdeal) (hQRefIdeal := hQRefIdeal)
    ∧ preserves_Out_OutIdeal
    ∧ algebraic_OutIdeal_OutRefIdeal (hOutIdeal := hOutIdeal) (hOutRefIdeal := hOutRefIdeal)
    ∧ preserves_Shift_ShiftIdeal
    ∧ algebraic_ShiftIdeal_ShiftRefIdeal (hShiftIdeal := hShiftIdeal) (hShiftRefIdeal := hShiftRefIdeal)
    ∧ preserves_Dil_DilIdeal
    ∧ preserves_OutS_OutSIdeal
    ∧ algebraic_OutSIdeal_OutSRefIdeal (hOutSIdeal := hOutSIdeal) (hOutSRefIdeal := hOutSRefIdeal)
-- ==== Kernel.lean ====
abbrev S8x2048x16x64 : Shape := ⟨4, ![8, 2048, 16, 64]⟩
abbrev S16 : Shape := ⟨1, ![16]⟩
abbrev S16384x1024 : Shape := ⟨2, ![16384, 1024]⟩
abbrev S8x2048x1024 : Shape := ⟨3, ![8, 2048, 1024]⟩
abbrev S8x1024x2048 : Shape := ⟨3, ![8, 1024, 2048]⟩
abbrev S1x16 : Shape := ⟨2, ![1, 16]⟩
abbrev S512x512 : Shape := ⟨2, ![512, 512]⟩
abbrev S1x512x128 : Shape := ⟨3, ![1, 512, 128]⟩
abbrev S1x128x2048 : Shape := ⟨3, ![1, 128, 2048]⟩
abbrev S256x512 : Shape := ⟨2, ![256, 512]⟩
abbrev S256x256 : Shape := ⟨2, ![256, 256]⟩
abbrev S1x1 : Shape := ⟨2, ![1, 1]⟩
abbrev S1x256x64 : Shape := ⟨3, ![1, 256, 64]⟩
abbrev S256x64 : Shape := ⟨2, ![256, 64]⟩
abbrev S256x1 : Shape := ⟨2, ![256, 1]⟩
abbrev S1x64x512 : Shape := ⟨3, ![1, 64, 512]⟩
abbrev S64x512 : Shape := ⟨2, ![64, 512]⟩
abbrev S64x256 : Shape := ⟨2, ![64, 256]⟩
abbrev S256x128 : Shape := ⟨2, ![256, 128]⟩
abbrev S1x256x128 : Shape := ⟨3, ![1, 256, 128]⟩

abbrev nBuf : Space → Nat
  | .hbm => 16
  | .vmem => 9
  | .smem => 1
  | _ => 0

abbrev bufTy : (tb : Table) → Fin (tcTables nBuf tb) → BufTy
  | .hbm, ⟨0, _⟩ => ⟨S8x2048x16x64, .f32⟩
  | .hbm, ⟨1, _⟩ => ⟨S8x2048x16x64, .f32⟩
  | .hbm, ⟨2, _⟩ => ⟨S8x2048x16x64, .f32⟩
  | .hbm, ⟨3, _⟩ => ⟨S16, .f32⟩
  | .hbm, ⟨4, _⟩ => ⟨S16384x1024, .f32⟩
  | .hbm, ⟨5, _⟩ => ⟨S8x2048x1024, .f32⟩
  | .hbm, ⟨6, _⟩ => ⟨S8x1024x2048, .f32⟩
  | .hbm, ⟨7, _⟩ => ⟨S8x2048x1024, .f32⟩
  | .hbm, ⟨8, _⟩ => ⟨S8x1024x2048, .f32⟩
  | .hbm, ⟨9, _⟩ => ⟨S1x16, .f32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S512x512, .bf16⟩
  | .hbm, ⟨14, _⟩ => ⟨S8x2048x1024, .f32⟩
  | .hbm, ⟨15, _⟩ => ⟨S8x2048x1024, .f32⟩
  | .local _ .vmem, ⟨0, _⟩ => ⟨S512x512, .bf16⟩
  | .local _ .vmem, ⟨1, _⟩ => ⟨S1x512x128, .f32⟩
  | .local _ .vmem, ⟨2, _⟩ => ⟨S1x512x128, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x512x128, .f32⟩
  | .local _ .vmem, ⟨8, _⟩ => ⟨S1x512x128, .f32⟩
  | .local _ .smem, ⟨0, _⟩ => ⟨S1x16, .f32⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 4], ![false, false, false]⟩

def k0_mult1 (i : grid0.Coords) : BitVec 32 :=
  let arg2 : BitVec 32 := BitVec.ofNat 32 (i 2).val
  let c512_i32 : BitVec 32 := 512#32
  let v10 : BitVec 32 := Scalar.muli arg2 c512_i32
  v10
def k0_off1 (i : grid0.Coords) (c0_i32 : BitVec 32) : Fin 2 → Nat :=
  let c0_1 : Index := 0#32
  let c2_i32 : BitVec 32 := 2#32
  let arg1 : BitVec 32 := BitVec.ofNat 32 (i 1).val
  let v12 : BitVec 32 := Scalar.muli c2_i32 arg1
  let v13 : BitVec 32 := Scalar.addi v12 c0_i32
  let v14 : Index := Scalar.indexCast v13
  ![0, v14.toNat]
def k0_off2 (i : grid0.Coords) : Fin 3 → Nat :=
  let c0_19 : Index := 0#32
  let c0_20 : Index := 0#32
  let arg2 : BitVec 32 := BitVec.ofNat 32 (i 2).val
  let c512_i32 : BitVec 32 := 512#32
  let v10 : BitVec 32 := Scalar.muli arg2 c512_i32
  let v11 : BitVec 32 := v10
  let v42 : Index := Scalar.indexCast v11
  ![0, 0, v42.toNat]
def k0_off3 (i : grid0.Coords) : Fin 3 → Nat :=
  let c0_41 : Index := 0#32
  let c64_42 : Index := 64#32
  let arg2 : BitVec 32 := BitVec.ofNat 32 (i 2).val
  let c512_i32 : BitVec 32 := 512#32
  let v10 : BitVec 32 := Scalar.muli arg2 c512_i32
  let v11 : BitVec 32 := v10
  let v117 : Index := Scalar.indexCast v11
  ![0, 64, v117.toNat]
@[reducible] def k0_t1_loop (i : grid0.Coords) : Scf.Loop 32 :=
  let c0_i32_63 : BitVec 32 := 0#32
  let arg2 : BitVec 32 := BitVec.ofNat 32 (i 2).val
  let v192 : BitVec 32 := Scalar.subi arg2 c0_i32_63
  let c1_i32_64 : BitVec 32 := 1#32
  let v194 : BitVec 32 := Scalar.divsi v192 c1_i32_64
  let v195 : BitVec 32 := Scalar.muli v194 c1_i32_64
  let v196 : BitVec 32 := Scalar.addi c0_i32_63 v195
  let c1_i32_65 : BitVec 32 := 1#32
  ⟨c0_i32_63, v196, c1_i32_65⟩
def k0_mult2 (i : grid0.Coords) (k0_t1 : Fin (k0_t1_loop i).trips) : BitVec 32 :=
  let arg2 : BitVec 32 := BitVec.ofNat 32 (i 2).val
  let c1_i32_73 : BitVec 32 := 1#32
  let v207 : BitVec 32 := Scalar.subi arg2 c1_i32_73
  let c0_i32_63 : BitVec 32 := 0#32
  let c1_i32_65 : BitVec 32 := 1#32
  let arg9 : BitVec 32 := Scf.iv c0_i32_63 c1_i32_65 k0_t1
  let v208 : BitVec 32 := Scalar.subi v207 arg9
  let c512_i32_74 : BitVec 32 := 512#32
  let v209 : BitVec 32 := Scalar.muli v208 c512_i32_74
  v209
def k0_off4 (i : grid0.Coords) (k0_t1 : Fin (k0_t1_loop i).trips) : Fin 3 → Nat :=
  let c0_75 : Index := 0#32
  let c0_76 : Index := 0#32
  let arg2 : BitVec 32 := BitVec.ofNat 32 (i 2).val
  let c1_i32_73 : BitVec 32 := 1#32
  let v207 : BitVec 32 := Scalar.subi arg2 c1_i32_73
  let c0_i32_63 : BitVec 32 := 0#32
  let c1_i32_65 : BitVec 32 := 1#32
  let arg9 : BitVec 32 := Scf.iv c0_i32_63 c1_i32_65 k0_t1
  let v208 : BitVec 32 := Scalar.subi v207 arg9
  let c512_i32_74 : BitVec 32 := 512#32
  let v209 : BitVec 32 := Scalar.muli v208 c512_i32_74
  let v210 : BitVec 32 := v209
  let v211 : Index := Scalar.indexCast v210
  ![0, 0, v211.toNat]
def k0_off5 (i : grid0.Coords) (k0_t1 : Fin (k0_t1_loop i).trips) : Fin 3 → Nat :=
  let c0_93 : Index := 0#32
  let c64_94 : Index := 64#32
  let arg2 : BitVec 32 := BitVec.ofNat 32 (i 2).val
  let c1_i32_73 : BitVec 32 := 1#32
  let v207 : BitVec 32 := Scalar.subi arg2 c1_i32_73
  let c0_i32_63 : BitVec 32 := 0#32
  let c1_i32_65 : BitVec 32 := 1#32
  let arg9 : BitVec 32 := Scf.iv c0_i32_63 c1_i32_65 k0_t1
  let v208 : BitVec 32 := Scalar.subi v207 arg9
  let c512_i32_74 : BitVec 32 := 512#32
  let v209 : BitVec 32 := Scalar.muli v208 c512_i32_74
  let v210 : BitVec 32 := v209
  let v275 : Index := Scalar.indexCast v210
  ![0, 64, v275.toNat]
@[reducible] def k0_t2_loop (i : grid0.Coords) : Scf.Loop 32 :=
  let c0_i32_63 : BitVec 32 := 0#32
  let arg2 : BitVec 32 := BitVec.ofNat 32 (i 2).val
  let v192 : BitVec 32 := Scalar.subi arg2 c0_i32_63
  let c1_i32_64 : BitVec 32 := 1#32
  let v194 : BitVec 32 := Scalar.divsi v192 c1_i32_64
  let v195 : BitVec 32 := Scalar.muli v194 c1_i32_64
  let v196 : BitVec 32 := Scalar.addi c0_i32_63 v195
  let v193 : BitVec 32 := Scalar.addi c0_i32_63 v192
  let c1_i32_66 : BitVec 32 := 1#32
  ⟨v196, v193, c1_i32_66⟩
def k0_mult3 (i : grid0.Coords) (k0_t2 : Fin (k0_t2_loop i).trips) : BitVec 32 :=
  let arg2 : BitVec 32 := BitVec.ofNat 32 (i 2).val
  let c1_i32_73 : BitVec 32 := 1#32
  let v207 : BitVec 32 := Scalar.subi arg2 c1_i32_73
  let c0_i32_63 : BitVec 32 := 0#32
  let v192 : BitVec 32 := Scalar.subi arg2 c0_i32_63
  let c1_i32_64 : BitVec 32 := 1#32
  let v194 : BitVec 32 := Scalar.divsi v192 c1_i32_64
  let v195 : BitVec 32 := Scalar.muli v194 c1_i32_64
  let v196 : BitVec 32 := Scalar.addi c0_i32_63 v195
  let c1_i32_66 : BitVec 32 := 1#32
  let arg9 : BitVec 32 := Scf.iv v196 c1_i32_66 k0_t2
  let v208 : BitVec 32 := Scalar.subi v207 arg9
  let c512_i32_74 : BitVec 32 := 512#32
  let v209 : BitVec 32 := Scalar.muli v208 c512_i32_74
  v209
def k0_off6 (i : grid0.Coords) (k0_t2 : Fin (k0_t2_loop i).trips) : Fin 3 → Nat :=
  let c0_75 : Index := 0#32
  let c0_76 : Index := 0#32
  let arg2 : BitVec 32 := BitVec.ofNat 32 (i 2).val
  let c1_i32_73 : BitVec 32 := 1#32
  let v207 : BitVec 32 := Scalar.subi arg2 c1_i32_73
  let c0_i32_63 : BitVec 32 := 0#32
  let v192 : BitVec 32 := Scalar.subi arg2 c0_i32_63
  let c1_i32_64 : BitVec 32 := 1#32
  let v194 : BitVec 32 := Scalar.divsi v192 c1_i32_64
  let v195 : BitVec 32 := Scalar.muli v194 c1_i32_64
  let v196 : BitVec 32 := Scalar.addi c0_i32_63 v195
  let c1_i32_66 : BitVec 32 := 1#32
  let arg9 : BitVec 32 := Scf.iv v196 c1_i32_66 k0_t2
  let v208 : BitVec 32 := Scalar.subi v207 arg9
  let c512_i32_74 : BitVec 32 := 512#32
  let v209 : BitVec 32 := Scalar.muli v208 c512_i32_74
  let v210 : BitVec 32 := v209
  let v211 : Index := Scalar.indexCast v210
  ![0, 0, v211.toNat]
def k0_off7 (i : grid0.Coords) (k0_t2 : Fin (k0_t2_loop i).trips) : Fin 3 → Nat :=
  let c0_93 : Index := 0#32
  let c64_94 : Index := 64#32
  let arg2 : BitVec 32 := BitVec.ofNat 32 (i 2).val
  let c1_i32_73 : BitVec 32 := 1#32
  let v207 : BitVec 32 := Scalar.subi arg2 c1_i32_73
  let c0_i32_63 : BitVec 32 := 0#32
  let v192 : BitVec 32 := Scalar.subi arg2 c0_i32_63
  let c1_i32_64 : BitVec 32 := 1#32
  let v194 : BitVec 32 := Scalar.divsi v192 c1_i32_64
  let v195 : BitVec 32 := Scalar.muli v194 c1_i32_64
  let v196 : BitVec 32 := Scalar.addi c0_i32_63 v195
  let c1_i32_66 : BitVec 32 := 1#32
  let arg9 : BitVec 32 := Scf.iv v196 c1_i32_66 k0_t2
  let v208 : BitVec 32 := Scalar.subi v207 arg9
  let c512_i32_74 : BitVec 32 := 512#32
  let v209 : BitVec 32 := Scalar.muli v208 c512_i32_74
  let v210 : BitVec 32 := v209
  let v275 : Index := Scalar.indexCast v210
  ![0, 64, v275.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x2048x16x64 : Shape := ⟨4, ![8, 2048, 16, 64]⟩
abbrev S16 : Shape := ⟨1, ![16]⟩
abbrev S1x16x1x1 : Shape := ⟨4, ![1, 16, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x16x2048x2048 : Shape := ⟨4, ![8, 16, 2048, 2048]⟩
abbrev S_ : Shape := ⟨0, ![]⟩
abbrev S8x16x64x2048 : Shape := ⟨4, ![8, 16, 64, 2048]⟩
abbrev S8x2048x1024 : Shape := ⟨3, ![8, 2048, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x16x64, .f32⟩
  | .hbm, ⟨2, _⟩ => ⟨S8x2048x16x64, .f32⟩
  | .hbm, ⟨3, _⟩ => ⟨S16, .f32⟩
  | .hbm, ⟨4, _⟩ => ⟨S1x16x1x1, .f32⟩
  | .hbm, ⟨5, _⟩ => ⟨S2048, .i32⟩
  | .hbm, ⟨6, _⟩ => ⟨S1x2048, .i32⟩
  | .hbm, ⟨7, _⟩ => ⟨S2048x1, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S8x16x2048x2048, .f32⟩
  | .hbm, ⟨12, _⟩ => ⟨S_, .f32⟩
  | .hbm, ⟨13, _⟩ => ⟨S8x16x2048x2048, .f32⟩
  | .hbm, ⟨14, _⟩ => ⟨S8x16x2048x2048, .f32⟩
  | .hbm, ⟨15, _⟩ => ⟨S8x16x2048x2048, .f32⟩
  | .hbm, ⟨16, _⟩ => ⟨S8x16x2048x2048, .f32⟩
  | .hbm, ⟨17, _⟩ => ⟨S8x16x2048x2048, .f32⟩
  | .hbm, ⟨18, _⟩ => ⟨S8x16x2048x2048, .f32⟩
  | .hbm, ⟨19, _⟩ => ⟨S_, .f32⟩
  | .hbm, ⟨20, _⟩ => ⟨S8x16x2048x2048, .f32⟩
  | .hbm, ⟨21, _⟩ => ⟨S8x16x2048x2048, .f32⟩
  | .hbm, ⟨22, _⟩ => ⟨S8x16x2048x2048, .f32⟩
  | .hbm, ⟨23, _⟩ => ⟨S8x16x2048x2048, .f32⟩
  | .hbm, ⟨24, _⟩ => ⟨S8x16x2048x2048, .i1⟩
  | .hbm, ⟨25, _⟩ => ⟨S8x16x2048x2048, .f32⟩
  | .hbm, ⟨26, _⟩ => ⟨S8x16x2048x2048, .f32⟩
  | .hbm, ⟨27, _⟩ => ⟨S8x16x2048x2048, .f32⟩
  | .hbm, ⟨28, _⟩ => ⟨S8x16x2048x2048, .f32⟩
  | .hbm, ⟨29, _⟩ => ⟨S8x16x2048x2048, .f32⟩
  | .hbm, ⟨30, _⟩ => ⟨S8x16x2048x2048, .f32⟩
  | .hbm, ⟨31, _⟩ => ⟨S8x16x2048x2048, .f32⟩
  | .hbm, ⟨32, _⟩ => ⟨S8x16x2048x2048, .f32⟩
  | .hbm, ⟨33, _⟩ => ⟨S8x16x2048x2048, .f32⟩
  | .hbm, ⟨34, _⟩ => ⟨S_, .f32⟩
  | .hbm, ⟨35, _⟩ => ⟨S_, .f32⟩
  | .hbm, ⟨36, _⟩ => ⟨S8x16x2048x2048, .i1⟩
  | .hbm, ⟨37, _⟩ => ⟨S8x16x2048x2048, .f32⟩
  | .hbm, ⟨38, _⟩ => ⟨S8x16x2048x2048, .f32⟩
  | .hbm, ⟨39, _⟩ => ⟨S_, .f32⟩
  | .hbm, ⟨40, _⟩ => ⟨S_, .f32⟩
  | .hbm, ⟨41, _⟩ => ⟨S8x16x2048x2048, .f32⟩
  | .hbm, ⟨42, _⟩ => ⟨S8x16x2048x2048, .f32⟩
  | .hbm, ⟨43, _⟩ => ⟨S8x16x2048x2048, .f32⟩
  | .hbm, ⟨44, _⟩ => ⟨S_, .f32⟩
  | .hbm, ⟨45, _⟩ => ⟨S8x16x2048x2048, .f32⟩
  | .hbm, ⟨46, _⟩ => ⟨S8x16x2048x2048, .f32⟩
  | .hbm, ⟨47, _⟩ => ⟨S8x16x2048x2048, .f32⟩
  | .hbm, ⟨48, _⟩ => ⟨S8x16x2048x2048, .f32⟩
  | .hbm, ⟨49, _⟩ => ⟨S8x16x2048x2048, .i1⟩
  | .hbm, ⟨50, _⟩ => ⟨S8x16x2048x2048, .f32⟩
  | .hbm, ⟨51, _⟩ => ⟨S8x16x2048x2048, .f32⟩
  | .hbm, ⟨52, _⟩ => ⟨S8x16x2048x2048, .f32⟩
  | .hbm, ⟨53, _⟩ => ⟨S8x16x2048x2048, .f32⟩
  | .hbm, ⟨54, _⟩ => ⟨S8x16x2048x2048, .f32⟩
  | .hbm, ⟨55, _⟩ => ⟨S8x16x2048x2048, .f32⟩
  | .hbm, ⟨56, _⟩ => ⟨S8x16x2048x2048, .f32⟩
  | .hbm, ⟨57, _⟩ => ⟨S8x16x2048x2048, .f32⟩
  | .hbm, ⟨58, _⟩ => ⟨S8x16x2048x2048, .f32⟩
  | .hbm, ⟨59, _⟩ => ⟨S8x16x2048x2048, .f32⟩
  | .hbm, ⟨60, _⟩ => ⟨S8x16x2048x2048, .f32⟩
  | .hbm, ⟨61, _⟩ => ⟨S_, .f32⟩
  | .hbm, ⟨62, _⟩ => ⟨S_, .f32⟩
  | .hbm, ⟨63, _⟩ => ⟨S8x16x2048x2048, .i1⟩
  | .hbm, ⟨64, _⟩ => ⟨S8x16x2048x2048, .f32⟩
  | .hbm, ⟨65, _⟩ => ⟨S8x16x2048x2048, .f32⟩
  | .hbm, ⟨66, _⟩ => ⟨S8x16x64x2048, .f32⟩
  | .hbm, ⟨67, _⟩ => ⟨S8x2048x16x64, .f32⟩
  | .hbm, ⟨68, _⟩ => ⟨S8x2048x1024, .f32⟩
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v14 : Ref sig .tc := ⟨.hbm, 38, rfl⟩
abbrev main_call2_cst : Ref sig .tc := ⟨.hbm, 39, rfl⟩
abbrev main_call2_v0 : Ref sig .tc := ⟨.hbm, 40, rfl⟩
abbrev main_v15 : Ref sig .tc := ⟨.hbm, 41, rfl⟩
abbrev main_v16 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩

abbrev nD : Nat := 1
abbrev τ : Topo := Topo.v7x

variable {F : FTy → Type} [FloatOps F]
-- ==== Mlp.lean ====
abbrev S8x2048x1024 : Shape := ⟨3, ![8, 2048, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S8x2048x1024 : Shape := ⟨3, ![8, 2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x4096, .f32⟩
  | .hbm, ⟨22, _⟩ => ⟨S_, .f32⟩
  | .hbm, ⟨23, _⟩ => ⟨S8x2048x4096, .f32⟩
  | .hbm, ⟨24, _⟩ => ⟨S8x2048x4096, .f32⟩
  | .hbm, ⟨25, _⟩ => ⟨S8x2048x4096, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== MlpS.lean ====
abbrev S32x4x1024 : Shape := ⟨3, ![32, 4, 1024]⟩
abbrev S1024 : Shape := ⟨1, ![1024]⟩
abbrev S1024x4096 : Shape := ⟨2, ![1024, 4096]⟩
abbrev S4096x1024 : Shape := ⟨2, ![4096, 1024]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S128x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== MlpSRefIdeal.lean ====
abbrev S32x4x1024 : Shape := ⟨3, ![32, 4, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x4096 : Shape := ⟨3, ![32, 4, 4096]⟩
abbrev S128x1024 : Shape := ⟨2, ![128, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32x4x1024, .f32⟩
  | .hbm, ⟨6, _⟩ => ⟨S_, .f32⟩
  | .hbm, ⟨7, _⟩ => ⟨S32x4, .f32⟩
  | .hbm, ⟨8, _⟩ => ⟨S32x4x1, .f32⟩
  | .hbm, ⟨9, _⟩ => ⟨S_, .f32⟩
  | .hbm, ⟨10, _⟩ => ⟨S32x4x1, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S32x4x1, .f32⟩
  | .hbm, ⟨16, _⟩ => ⟨S32x4x1024, .f32⟩
  | .hbm, ⟨17, _⟩ => ⟨S32x4x1024, .f32⟩
  | .hbm, ⟨18, _⟩ => ⟨S1x1x1024, .f32⟩
  | .hbm, ⟨19, _⟩ => ⟨S32x4x1024, .f32⟩
  | .hbm, ⟨20, _⟩ => ⟨S32x4x1024, .f32⟩
  | .hbm, ⟨21, _⟩ => ⟨S32x4x4096, .f32⟩
  | .hbm, ⟨22, _⟩ => ⟨S_, .f32⟩
  | .hbm, ⟨23, _⟩ => ⟨S32x4x4096, .f32⟩
  | .hbm, ⟨24, _⟩ => ⟨S32x4x4096, .f32⟩
  | .hbm, ⟨25, _⟩ => ⟨S32x4x4096, .f32⟩
  | .hbm, ⟨26, _⟩ => ⟨S32x4x1024, .f32⟩
  | .hbm, ⟨27, _⟩ => ⟨S32x4x1024, .f32⟩
  | .hbm, ⟨28, _⟩ => ⟨S_, .f32⟩
  | .hbm, ⟨29, _⟩ => ⟨S32x4, .f32⟩
  | .hbm, ⟨30, _⟩ => ⟨S32x4x1, .f32⟩
  | .hbm, ⟨31, _⟩ => ⟨S_, .f32⟩
  | .hbm, ⟨32, _⟩ => ⟨S32x4x1, .f32⟩
  | .hbm, ⟨33, _⟩ => ⟨S32x4x1, .f32⟩
  | .hbm, ⟨34, _⟩ => ⟨S_, .f32⟩
  | .hbm, ⟨35, _⟩ => ⟨S32x4x1, .f32⟩
  | .hbm, ⟨36, _⟩ => ⟨S32x4x1, .f32⟩
  | .hbm, ⟨37, _⟩ => ⟨S32x4x1, .f32⟩
  | .hbm, ⟨38, _⟩ => ⟨S32x4x1024, .f32⟩
  | .hbm, ⟨39, _⟩ => ⟨S32x4x1024, .f32⟩
  | .hbm, ⟨40, _⟩ => ⟨S1x1x1024, .f32⟩
  | .hbm, ⟨41, _⟩ => ⟨S32x4x1024, .f32⟩
  | .hbm, ⟨42, _⟩ => ⟨S32x4x1024, .f32⟩
  | .hbm, ⟨43, _⟩ => ⟨S32x4x1024, .f32⟩
  | .hbm, ⟨44, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Qkv.lean ====
abbrev S8x2048x1024 : Shape := ⟨3, ![8, 2048, 1024]⟩
abbrev S1024 : Shape := ⟨1, ![1024]⟩
abbrev S1024x3072 : Shape := ⟨2, ![1024, 3072]⟩
abbrev S16384x1024 : Shape := ⟨2, ![16384, 1024]⟩
abbrev S1024x1024 : Shape := ⟨2, ![1024, 1024]⟩
abbrev S1024x2048 : Shape := ⟨2, ![1024, 2048]⟩
abbrev S2048x1024 : Shape := ⟨2, ![2048, 1024]⟩
abbrev S1x1024 : Shape := ⟨2, ![1, 1024]⟩
abbrev S8x1024x2048 : Shape := ⟨3, ![8, 1024, 2048]⟩
abbrev S512x1024 : Shape := ⟨2, ![512, 1024]⟩
abbrev S1x1024x512 : Shape := ⟨3, ![1, 1024, 512]⟩
abbrev S512 : Shape := ⟨1, ![512]⟩
abbrev S512x1 : Shape := ⟨2, ![512, 1]⟩
abbrev S1024x512 : Shape := ⟨2, ![1024, 512]⟩

abbrev nBuf : Space → Nat
  | .hbm => 12
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S16384x1024, .f32⟩
  | .hbm, ⟨5, _⟩ => ⟨S1024x1024, .bf16⟩
  | .hbm, ⟨6, _⟩ => ⟨S1024x2048, .bf16⟩
  | .hbm, ⟨7, _⟩ => ⟨S2048x1024, .bf16⟩
  | .hbm, ⟨8, _⟩ => ⟨S1x1024, .f32⟩
  | .hbm, ⟨9, _⟩ => ⟨S16384x1024, .f32⟩
  | .hbm, ⟨10, _⟩ => ⟨S8x1024x2048, .f32⟩
  | .hbm, ⟨11, _⟩ => ⟨S8x1024x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkvRefIdeal.lean ====
abbrev S8x2048x1024 : Shape := ⟨3, ![8, 2048, 1024]⟩
abbrev S1024 : Shape := ⟨1, ![1024]⟩
abbrev S1024x3072 : Shape := ⟨2, ![1024, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x3x16x64 : Shape := ⟨5, ![8, 2048, 3, 16, 64]⟩
abbrev S8x2048x1x16x64 : Shape := ⟨5, ![8, 2048, 1, 16, 64]⟩
abbrev S8x2048x16x64 : Shape := ⟨4, ![8, 2048, 16, 64]⟩
abbrev S16384x1024 : Shape := ⟨2, ![16384, 1024]⟩
abbrev S8x16x64x2048 : Shape := ⟨4, ![8, 16, 64, 2048]⟩
abbrev S8x1024x2048 : Shape := ⟨3, ![8, 1024, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x3072, .f32⟩
  | .hbm, ⟨20, _⟩ => ⟨S8x2048x3x16x64, .f32⟩
  | .hbm, ⟨21, _⟩ => ⟨S8x2048x1x16x64, .f32⟩
  | .hbm, ⟨22, _⟩ => ⟨S8x2048x16x64, .f32⟩
  | .hbm, ⟨23, _⟩ => ⟨S8x2048x1x16x64, .f32⟩
  | .hbm, ⟨24, _⟩ => ⟨S8x2048x16x64, .f32⟩
  | .hbm, ⟨25, _⟩ => ⟨S8x2048x1x16x64, .f32⟩
  | .hbm, ⟨26, _⟩ => ⟨S8x2048x16x64, .f32⟩
  | .hbm, ⟨27, _⟩ => ⟨S16384x1024, .f32⟩
  | .hbm, ⟨28, _⟩ => ⟨S8x16x64x2048, .f32⟩
  | .hbm, ⟨29, _⟩ => ⟨S8x1024x2048, .f32⟩
  | .hbm, ⟨30, _⟩ => ⟨S8x16x64x2048, .f32⟩
  | .hbm, ⟨31, _⟩ => ⟨S8x1024x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== QkvS.lean ====
abbrev S32x4x1024 : Shape := ⟨3, ![32, 4, 1024]⟩
abbrev S1024 : Shape := ⟨1, ![1024]⟩
abbrev S1024x3072 : Shape := ⟨2, ![1024, 3072]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x3072, .f32⟩
  | .hbm, ⟨3, _⟩ => ⟨S128x1024, .f32⟩
  | .hbm, ⟨4, _⟩ => ⟨S1024x3072, .bf16⟩
  | .hbm, ⟨5, _⟩ => ⟨S1x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x3072, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== QkvSRefIdeal.lean ====
abbrev S32x4x1024 : Shape := ⟨3, ![32, 4, 1024]⟩
abbrev S1024 : Shape := ⟨1, ![1024]⟩
abbrev S1024x3072 : Shape := ⟨2, ![1024, 3072]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x3072 : Shape := ⟨3, ![32, 4, 3072]⟩
abbrev S32x4x3x16x64 : Shape := ⟨5, ![32, 4, 3, 16, 64]⟩
abbrev S32x4x1x16x64 : Shape := ⟨5, ![32, 4, 1, 16, 64]⟩
abbrev S32x4x16x64 : Shape := ⟨4, ![32, 4, 16, 64]⟩
abbrev S128x1024 : Shape := ⟨2, ![128, 1024]⟩

abbrev nBuf : Space → Nat
  | .hbm => 30
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x3072, .f32⟩
  | .hbm, ⟨3, _⟩ => ⟨S32x4x1024, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x1024, .f32⟩
  | .hbm, ⟨15, _⟩ => ⟨S32x4x1024, .f32⟩
  | .hbm, ⟨16, _⟩ => ⟨S1x1x1024, .f32⟩
  | .hbm, ⟨17, _⟩ => ⟨S32x4x1024, .f32⟩
  | .hbm, ⟨18, _⟩ => ⟨S32x4x1024, .f32⟩
  | .hbm, ⟨19, _⟩ => ⟨S32x4x3072, .f32⟩
  | .hbm, ⟨20, _⟩ => ⟨S32x4x3x16x64, .f32⟩
  | .hbm, ⟨21, _⟩ => ⟨S32x4x1x16x64, .f32⟩
  | .hbm, ⟨22, _⟩ => ⟨S32x4x16x64, .f32⟩
  | .hbm, ⟨23, _⟩ => ⟨S128x1024, .f32⟩
  | .hbm, ⟨24, _⟩ => ⟨S32x4x1x16x64, .f32⟩
  | .hbm, ⟨25, _⟩ => ⟨S32x4x16x64, .f32⟩
  | .hbm, ⟨26, _⟩ => ⟨S128x1024, .f32⟩
  | .hbm, ⟨27, _⟩ => ⟨S32x4x1x16x64, .f32⟩
  | .hbm, ⟨28, _⟩ => ⟨S32x4x16x64, .f32⟩
  | .hbm, ⟨29, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kv.lean ====
abbrev S8x2048x1024 : Shape := ⟨3, ![8, 2048, 1024]⟩
abbrev S1024 : Shape := ⟨1, ![1024]⟩
abbrev S1024x2048 : Shape := ⟨2, ![1024, 2048]⟩
abbrev S16384x1024 : Shape := ⟨2, ![16384, 1024]⟩
abbrev S2048x1024 : Shape := ⟨2, ![2048, 1024]⟩
abbrev S1x1024 : Shape := ⟨2, ![1, 1024]⟩
abbrev S8x1024x2048 : Shape := ⟨3, ![8, 1024, 2048]⟩
abbrev S512x1024 : Shape := ⟨2, ![512, 1024]⟩
abbrev S1x1024x512 : Shape := ⟨3, ![1, 1024, 512]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩

abbrev nBuf : Space → Nat
  | .hbm => 11
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S16384x1024, .f32⟩
  | .hbm, ⟨5, _⟩ => ⟨S2048x1024, .bf16⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S8x1024x2048, .f32⟩
  | .hbm, ⟨10, _⟩ => ⟨S8x1024x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KvRefIdeal.lean ====
abbrev S8x2048x1024 : Shape := ⟨3, ![8, 2048, 1024]⟩
abbrev S1024 : Shape := ⟨1, ![1024]⟩
abbrev S1024x2048 : Shape := ⟨2, ![1024, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S8x2048x2x16x64 : Shape := ⟨5, ![8, 2048, 2, 16, 64]⟩
abbrev S8x2048x1x16x64 : Shape := ⟨5, ![8, 2048, 1, 16, 64]⟩
abbrev S8x2048x16x64 : Shape := ⟨4, ![8, 2048, 16, 64]⟩
abbrev S16384x1024 : Shape := ⟨2, ![16384, 1024]⟩
abbrev S8x16x64x2048 : Shape := ⟨4, ![8, 16, 64, 2048]⟩
abbrev S8x1024x2048 : Shape := ⟨3, ![8, 1024, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2048, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2048, .f32⟩
  | .hbm, ⟨20, _⟩ => ⟨S8x2048x2x16x64, .f32⟩
  | .hbm, ⟨21, _⟩ => ⟨S8x2048x1x16x64, .f32⟩
  | .hbm, ⟨22, _⟩ => ⟨S8x2048x16x64, .f32⟩
  | .hbm, ⟨23, _⟩ => ⟨S8x2048x1x16x64, .f32⟩
  | .hbm, ⟨24, _⟩ => ⟨S8x2048x16x64, .f32⟩
  | .hbm, ⟨25, _⟩ => ⟨S16384x1024, .f32⟩
  | .hbm, ⟨26, _⟩ => ⟨S16384x1024, .f32⟩
  | .hbm, ⟨27, _⟩ => ⟨S8x16x64x2048, .f32⟩
  | .hbm, ⟨28, _⟩ => ⟨S8x1024x2048, .f32⟩
  | .hbm, ⟨29, _⟩ => ⟨S8x16x64x2048, .f32⟩
  | .hbm, ⟨30, _⟩ => ⟨S8x1024x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== KvS.lean ====
abbrev S32x4x1024 : Shape := ⟨3, ![32, 4, 1024]⟩
abbrev S1024 : Shape := ⟨1, ![1024]⟩
abbrev S1024x2048 : Shape := ⟨2, ![1024, 2048]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x2048, .f32⟩
  | .hbm, ⟨3, _⟩ => ⟨S128x1024, .f32⟩
  | .hbm, ⟨4, _⟩ => ⟨S1024x2048, .bf16⟩
  | .hbm, ⟨5, _⟩ => ⟨S1x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x2048, .bf16⟩
  | .local _ .vmem, ⟨3, _⟩ => ⟨S128x1024, .f32⟩
  | .local _ .vmem, ⟨4, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== KvSRefIdeal.lean ====
abbrev S32x4x1024 : Shape := ⟨3, ![32, 4, 1024]⟩
abbrev S1024 : Shape := ⟨1, ![1024]⟩
abbrev S1024x2048 : Shape := ⟨2, ![1024, 2048]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x2048 : Shape := ⟨3, ![32, 4, 2048]⟩
abbrev S32x4x2x16x64 : Shape := ⟨5, ![32, 4, 2, 16, 64]⟩
abbrev S32x4x1x16x64 : Shape := ⟨5, ![32, 4, 1, 16, 64]⟩
abbrev S32x4x16x64 : Shape := ⟨4, ![32, 4, 16, 64]⟩
abbrev S128x1024 : Shape := ⟨2, ![128, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x2048, .f32⟩
  | .hbm, ⟨3, _⟩ => ⟨S32x4x1024, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x1024, .f32⟩
  | .hbm, ⟨15, _⟩ => ⟨S32x4x1024, .f32⟩
  | .hbm, ⟨16, _⟩ => ⟨S1x1x1024, .f32⟩
  | .hbm, ⟨17, _⟩ => ⟨S32x4x1024, .f32⟩
  | .hbm, ⟨18, _⟩ => ⟨S32x4x1024, .f32⟩
  | .hbm, ⟨19, _⟩ => ⟨S32x4x2048, .f32⟩
  | .hbm, ⟨20, _⟩ => ⟨S32x4x2x16x64, .f32⟩
  | .hbm, ⟨21, _⟩ => ⟨S32x4x1x16x64, .f32⟩
  | .hbm, ⟨22, _⟩ => ⟨S32x4x16x64, .f32⟩
  | .hbm, ⟨23, _⟩ => ⟨S128x1024, .f32⟩
  | .hbm, ⟨24, _⟩ => ⟨S32x4x1x16x64, .f32⟩
  | .hbm, ⟨25, _⟩ => ⟨S32x4x16x64, .f32⟩
  | .hbm, ⟨26, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Q.lean ====
abbrev S8x2048x1024 : Shape := ⟨3, ![8, 2048, 1024]⟩
abbrev S1024 : Shape := ⟨1, ![1024]⟩
abbrev S1024x3072 : Shape := ⟨2, ![1024, 3072]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S1024x3072, .bf16⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QRefIdeal.lean ====
abbrev S8x2048x1024 : Shape := ⟨3, ![8, 2048, 1024]⟩
abbrev S1024 : Shape := ⟨1, ![1024]⟩
abbrev S1024x3072 : Shape := ⟨2, ![1024, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x3x16x64 : Shape := ⟨5, ![8, 2048, 3, 16, 64]⟩
abbrev S8x2048x1x16x64 : Shape := ⟨5, ![8, 2048, 1, 16, 64]⟩
abbrev S8x2048x16x64 : Shape := ⟨4, ![8, 2048, 16, 64]⟩
abbrev S16384x1024 : Shape := ⟨2, ![16384, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x3072, .f32⟩
  | .hbm, ⟨20, _⟩ => ⟨S8x2048x3x16x64, .f32⟩
  | .hbm, ⟨21, _⟩ => ⟨S8x2048x1x16x64, .f32⟩
  | .hbm, ⟨22, _⟩ => ⟨S8x2048x16x64, .f32⟩
  | .hbm, ⟨23, _⟩ => ⟨S16384x1024, .f32⟩
  | .hbm, ⟨24, _⟩ => ⟨S8x2048x1x16x64, .f32⟩
  | .hbm, ⟨25, _⟩ => ⟨S8x2048x16x64, .f32⟩
  | .hbm, ⟨26, _⟩ => ⟨S16384x1024, .f32⟩
  | .hbm, ⟨27, _⟩ => ⟨S8x2048x1x16x64, .f32⟩
  | .hbm, ⟨28, _⟩ => ⟨S8x2048x16x64, .f32⟩
  | .hbm, ⟨29, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Out.lean ====
abbrev S8x2048x16x64 : Shape := ⟨4, ![8, 2048, 16, 64]⟩
abbrev S1024x1024 : Shape := ⟨2, ![1024, 1024]⟩
abbrev S1024 : Shape := ⟨1, ![1024]⟩
abbrev S8x2048x1024 : Shape := ⟨3, ![8, 2048, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S8x2048x16x64, .f32⟩
  | .hbm, ⟨1, _⟩ => ⟨S1024x1024, .f32⟩
  | .hbm, ⟨2, _⟩ => ⟨S1024, .f32⟩
  | .hbm, ⟨3, _⟩ => ⟨S8x2048x1024, .f32⟩
  | .hbm, ⟨4, _⟩ => ⟨S16384x1024, .f32⟩
  | .hbm, ⟨5, _⟩ => ⟨S1024x1024, .bf16⟩
  | .hbm, ⟨6, _⟩ => ⟨S16384x1024, .f32⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S8x2048x16x64 : Shape := ⟨4, ![8, 2048, 16, 64]⟩
abbrev S1024x1024 : Shape := ⟨2, ![1024, 1024]⟩
abbrev S1024 : Shape := ⟨1, ![1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x16x64, .f32⟩
  | .hbm, ⟨1, _⟩ => ⟨S1024x1024, .f32⟩
  | .hbm, ⟨2, _⟩ => ⟨S1024, .f32⟩
  | .hbm, ⟨3, _⟩ => ⟨S8x2048x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S16384x1024, .f32⟩
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Shift.lean ====
abbrev S32x2048x16x64 : Shape := ⟨4, ![32, 2048, 16, 64]⟩
abbrev S32x4x16x64 : Shape := ⟨4, ![32, 4, 16, 64]⟩
abbrev S128x1024 : Shape := ⟨2, ![128, 1024]⟩
abbrev S32x16x64x2048 : Shape := ⟨4, ![32, 16, 64, 2048]⟩
abbrev S32x1024x2048 : Shape := ⟨3, ![32, 1024, 2048]⟩
abbrev S32x4x1024 : Shape := ⟨3, ![32, 4, 1024]⟩
abbrev S32x1024x4 : Shape := ⟨3, ![32, 1024, 4]⟩
abbrev S_ : Shape := ⟨0, ![]⟩
abbrev S32x1024x128 : Shape := ⟨3, ![32, 1024, 128]⟩
abbrev S1x256x2048 : Shape := ⟨3, ![1, 256, 2048]⟩
abbrev S1x256x128 : Shape := ⟨3, ![1, 256, 128]⟩
abbrev S1x256x2044 : Shape := ⟨3, ![1, 256, 2044]⟩
abbrev S256x2044 : Shape := ⟨2, ![256, 2044]⟩
abbrev S1x256x4 : Shape := ⟨3, ![1, 256, 4]⟩
abbrev S256x4 : Shape := ⟨2, ![256, 4]⟩
abbrev S256x2048 : Shape := ⟨2, ![256, 2048]⟩

abbrev nBuf : Space → Nat
  | .hbm => 22
  | .vmem => 12
  | .smem => 0
  | _ => 0

abbrev bufTy : (tb : Table) → Fin (tcTables nBuf tb) → BufTy
  | .hbm, ⟨0, _⟩ => ⟨S32x2048x16x64, .f32⟩
  | .hbm, ⟨1, _⟩ => ⟨S32x2048x16x64, .f32⟩
  | .hbm, ⟨2, _⟩ => ⟨S32x4x16x64, .f32⟩
  | .hbm, ⟨3, _⟩ => ⟨S32x4x16x64, .f32⟩
  | .hbm, ⟨4, _⟩ => ⟨S128x1024, .f32⟩
  | .hbm, ⟨5, _⟩ => ⟨S128x1024, .f32⟩
  | .hbm, ⟨6, _⟩ => ⟨S32x16x64x2048, .f32⟩
  | .hbm, ⟨7, _⟩ => ⟨S32x1024x2048, .f32⟩
  | .hbm, ⟨8, _⟩ => ⟨S32x16x64x2048, .f32⟩
  | .hbm, ⟨9, _⟩ => ⟨S32x1024x2048, .f32⟩
  | .hbm, ⟨10, _⟩ => ⟨S32x4x1024, .f32⟩
  | .hbm, ⟨11, _⟩ => ⟨S32x1024x4, .f32⟩
  | .hbm, ⟨12, _⟩ => ⟨S_, .i32⟩
  | .hbm, ⟨13, _⟩ => ⟨S_, .f32⟩
  | .hbm, ⟨14, _⟩ => ⟨S32x1024x128, .f32⟩
  | .hbm, ⟨15, _⟩ => ⟨S32x4x1024, .f32⟩
  | .hbm, ⟨16, _⟩ => ⟨S32x1024x4, .f32⟩
  | .hbm, ⟨17, _⟩ => ⟨S_, .i32⟩
  | .hbm, ⟨18, _⟩ => ⟨S_, .f32⟩
  | .hbm, ⟨19, _⟩ => ⟨S32x1024x128, .f32⟩
  | .hbm, ⟨20, _⟩ => ⟨S32x1024x2048, .f32⟩
  | .hbm, ⟨21, _⟩ => ⟨S32x1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x128, .f32⟩
  | .local _ .vmem, ⟨3, _⟩ => ⟨S1x256x128, .f32⟩
  | .local _ .vmem, ⟨4, _⟩ => ⟨S1x256x2048, .f32⟩
  | .local _ .vmem, ⟨5, _⟩ => ⟨S1x256x2048, .f32⟩
  | .local _ .vmem, ⟨6, _⟩ => ⟨S1x256x128, .f32⟩
  | .local _ .vmem, ⟨7, _⟩ => ⟨S1x256x128, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | _, _ => ⟨S32x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ShiftRefIdeal.lean ====
abbrev S32x2048x16x64 : Shape := ⟨4, ![32, 2048, 16, 64]⟩
abbrev S32x4x16x64 : Shape := ⟨4, ![32, 4, 16, 64]⟩
abbrev S32x2052x16x64 : Shape := ⟨4, ![32, 2052, 16, 64]⟩
abbrev S32x16x64x2048 : Shape := ⟨4, ![32, 16, 64, 2048]⟩
abbrev S32x1024x2048 : Shape := ⟨3, ![32, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S32x2048x16x64, .f32⟩
  | .hbm, ⟨1, _⟩ => ⟨S32x2048x16x64, .f32⟩
  | .hbm, ⟨2, _⟩ => ⟨S32x4x16x64, .f32⟩
  | .hbm, ⟨3, _⟩ => ⟨S32x4x16x64, .f32⟩
  | .hbm, ⟨4, _⟩ => ⟨S32x2052x16x64, .f32⟩
  | .hbm, ⟨5, _⟩ => ⟨S32x2048x16x64, .f32⟩
  | .hbm, ⟨6, _⟩ => ⟨S32x2052x16x64, .f32⟩
  | .hbm, ⟨7, _⟩ => ⟨S32x2048x16x64, .f32⟩
  | .hbm, ⟨8, _⟩ => ⟨S32x16x64x2048, .f32⟩
  | .hbm, ⟨9, _⟩ => ⟨S32x1024x2048, .f32⟩
  | .hbm, ⟨10, _⟩ => ⟨S32x16x64x2048, .f32⟩
  | .hbm, ⟨11, _⟩ => ⟨S32x1024x2048, .f32⟩
  | _, _ => ⟨S32x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Dil.lean ====
abbrev S8x2048x3x16x64 : Shape := ⟨5, ![8, 2048, 3, 16, 64]⟩
abbrev S8x2048x16x64 : Shape := ⟨4, ![8, 2048, 16, 64]⟩
abbrev S16 : Shape := ⟨1, ![16]⟩
abbrev S_ : Shape := ⟨0, ![]⟩
abbrev S8x2048x1x16x64 : Shape := ⟨5, ![8, 2048, 1, 16, 64]⟩
abbrev S16384x1024 : Shape := ⟨2, ![16384, 1024]⟩
abbrev S1x16 : Shape := ⟨2, ![1, 16]⟩
abbrev S8x2048x1024 : Shape := ⟨3, ![8, 2048, 1024]⟩
abbrev S1x2048x128 : Shape := ⟨3, ![1, 2048, 128]⟩
abbrev S2048x128 : Shape := ⟨2, ![2048, 128]⟩
abbrev S128x128 : Shape := ⟨2, ![128, 128]⟩
abbrev S1x1 : Shape := ⟨2, ![1, 1]⟩
abbrev S1x128x128 : Shape := ⟨3, ![1, 128, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S1x256x128 : Shape := ⟨3, ![1, 256, 128]⟩

abbrev nBuf : Space → Nat
  | .hbm => 34
  | .vmem => 18
  | .smem => 1
  | _ => 0

abbrev bufTy : (tb : Table) → Fin (tcTables nBuf tb) → BufTy
  | .hbm, ⟨0, _⟩ => ⟨S8x2048x3x16x64, .f32⟩
  | .hbm, ⟨1, _⟩ => ⟨S8x2048x16x64, .f32⟩
  | .hbm, ⟨2, _⟩ => ⟨S8x2048x16x64, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S8x2048x1x16x64, .f32⟩
  | .hbm, ⟨17, _⟩ => ⟨S8x2048x16x64, .f32⟩
  | .hbm, ⟨18, _⟩ => ⟨S16384x1024, .f32⟩
  | .hbm, ⟨19, _⟩ => ⟨S8x2048x1x16x64, .f32⟩
  | .hbm, ⟨20, _⟩ => ⟨S8x2048x16x64, .f32⟩
  | .hbm, ⟨21, _⟩ => ⟨S16384x1024, .f32⟩
  | .hbm, ⟨22, _⟩ => ⟨S8x2048x1x16x64, .f32⟩
  | .hbm, ⟨23, _⟩ => ⟨S8x2048x16x64, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1x16, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .smem, ⟨0, _⟩ => ⟨S1x16, .f32⟩
  | _, _ => ⟨S8x2048x3x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def k0_off1 (i : grid0.Coords) (c0_i32_7 : BitVec 32) : Fin 2 → Nat :=
  let c0 : Index := 0#32
  let c2_i32 : BitVec 32 := 2#32
  let arg1 : BitVec 32 := BitVec.ofNat 32 (i 1).val
  let v35 : BitVec 32 := Scalar.muli c2_i32 arg1
  let v36 : BitVec 32 := Scalar.addi v35 c0_i32_7
  let v37 : Index := Scalar.indexCast v36
  ![0, v37.toNat]
@[reducible] def k0_t1_loop : Scf.Loop 32 :=
  let c0_i32_21 : BitVec 32 := 0#32
  let c4_i32 : BitVec 32 := 4#32
  let v75 : BitVec 32 := Scalar.addi c0_i32_21 c4_i32
  let c1_i32_22 : BitVec 32 := 1#32
  ⟨c0_i32_21, v75, c1_i32_22⟩
def k0_off2 (k0_t1 : Fin k0_t1_loop.trips) (c0_i32_38 : BitVec 32) : Fin 3 → Nat :=
  let c0_56 : Index := 0#32
  let c0_i32_21 : BitVec 32 := 0#32
  let c1_i32_22 : BitVec 32 := 1#32
  let arg15 : BitVec 32 := Scf.iv c0_i32_21 c1_i32_22 k0_t1
  let v91 : BitVec 32 := Scalar.addi arg15 c0_i32_38
  let c16_i32_46 : BitVec 32 := 16#32
  let c0_i32_47 : BitVec 32 := 0#32
  let v109 : BitVec 1 := Scalar.cmpi .eq c16_i32_46 c0_i32_47
  let c1_i32_48 : BitVec 32 := 1#32
  let v110 : BitVec 32 := Scalar.select v109 c1_i32_48 c16_i32_46
  let v111 : BitVec 32 := Scalar.remsi v91 v110
  let c0_i32_50 : BitVec 32 := 0#32
  let v113 : BitVec 1 := Scalar.cmpi .slt v111 c0_i32_50
  let c0_i32_51 : BitVec 32 := 0#32
  let v114 : BitVec 1 := Scalar.cmpi .slt v110 c0_i32_51
  let v115 : BitVec 1 := Scalar.xori v113 v114
  let c0_i32_49 : BitVec 32 := 0#32
  let v112 : BitVec 1 := Scalar.cmpi .ne v111 c0_i32_49
  let v116 : BitVec 1 := Scalar.andi v115 v112
  let v117 : BitVec 32 := Scalar.addi v111 v110
  let v118 : BitVec 32 := Scalar.select v116 v117 v111
  let c128_i32_52 : BitVec 32 := 128#32
  let v119 : BitVec 32 := Scalar.muli v118 c128_i32_52
  let c0_i32_40 : BitVec 32 := 0#32
  let v93 : BitVec 1 := Scalar.cmpi .sgt v91 c0_i32_40
  let v94 : BitVec 32 := Scalar.extui v93
  let c0_i32_41 : BitVec 32 := 0#32
  let v95 : BitVec 1 := Scalar.cmpi .slt v91 c0_i32_41
  let v96 : BitVec 32 := Scalar.extui v95
  let v97 : BitVec 32 := Scalar.subi v94 v96
  let c16_i32_39 : BitVec 32 := 16#32
  let c0_i32_42 : BitVec 32 := 0#32
  let v98 : BitVec 1 := Scalar.cmpi .sgt c16_i32_39 c0_i32_42
  let v99 : BitVec 32 := Scalar.extui v98
  let c0_i32_43 : BitVec 32 := 0#32
  let v100 : BitVec 1 := Scalar.cmpi .slt c16_i32_39 c0_i32_43
  let v101 : BitVec 32 := Scalar.extui v100
  let v102 : BitVec 32 := Scalar.subi v99 v101
  let v103 : BitVec 1 := Scalar.cmpi .ne v97 v102
  let v104 : BitVec 32 := Scalar.remsi v91 c16_i32_39
  let c0_i32_44 : BitVec 32 := 0#32
  let v105 : BitVec 1 := Scalar.cmpi .ne v104 c0_i32_44
  let v106 : BitVec 1 := Scalar.andi v103 v105
  let v92 : BitVec 32 := Scalar.divsi v91 c16_i32_39
  let c1_i32_45 : BitVec 32 := 1#32
  let v107 : BitVec 32 := Scalar.subi v92 c1_i32_45
  let v108 : BitVec 32 := Scalar.select v106 v107 v92
  let v120 : BitVec 32 := Scalar.addi v119 v108
  let v125 : Index := Scalar.indexCast v120
  let c0_57 : Index := 0#32
  ![0, v125.toNat, 0]
def k0_off3 (k0_t1 : Fin k0_t1_loop.trips) (c0_i32_38 : BitVec 32) : Fin 3 → Nat :=
  let c0_62 : Index := 0#32
  let c0_i32_21 : BitVec 32 := 0#32
  let c1_i32_22 : BitVec 32 := 1#32
  let arg15 : BitVec 32 := Scf.iv c0_i32_21 c1_i32_22 k0_t1
  let v91 : BitVec 32 := Scalar.addi arg15 c0_i32_38
  let c16_i32_46 : BitVec 32 := 16#32
  let c0_i32_47 : BitVec 32 := 0#32
  let v109 : BitVec 1 := Scalar.cmpi .eq c16_i32_46 c0_i32_47
  let c1_i32_48 : BitVec 32 := 1#32
  let v110 : BitVec 32 := Scalar.select v109 c1_i32_48 c16_i32_46
  let v111 : BitVec 32 := Scalar.remsi v91 v110
  let c0_i32_50 : BitVec 32 := 0#32
  let v113 : BitVec 1 := Scalar.cmpi .slt v111 c0_i32_50
  let c0_i32_51 : BitVec 32 := 0#32
  let v114 : BitVec 1 := Scalar.cmpi .slt v110 c0_i32_51
  let v115 : BitVec 1 := Scalar.xori v113 v114
  let c0_i32_49 : BitVec 32 := 0#32
  let v112 : BitVec 1 := Scalar.cmpi .ne v111 c0_i32_49
  let v116 : BitVec 1 := Scalar.andi v115 v112
  let v117 : BitVec 32 := Scalar.addi v111 v110
  let v118 : BitVec 32 := Scalar.select v116 v117 v111
  let c1_i32_53 : BitVec 32 := 1#32
  let v121 : BitVec 32 := Scalar.subi v118 c1_i32_53
  let c0_i32_54 : BitVec 32 := 0#32
  let v122 : BitVec 32 := Scalar.maxsi v121 c0_i32_54
  let c128_i32_55 : BitVec 32 := 128#32
  let v123 : BitVec 32 := Scalar.muli v122 c128_i32_55
  let c0_i32_40 : BitVec 32 := 0#32
  let v93 : BitVec 1 := Scalar.cmpi .sgt v91 c0_i32_40
  let v94 : BitVec 32 := Scalar.extui v93
  let c0_i32_41 : BitVec 32 := 0#32
  let v95 : BitVec 1 := Scalar.cmpi .slt v91 c0_i32_41
  let v96 : BitVec 32 := Scalar.extui v95
  let v97 : BitVec 32 := Scalar.subi v94 v96
  let c16_i32_39 : BitVec 32 := 16#32
  let c0_i32_42 : BitVec 32 := 0#32
  let v98 : BitVec 1 := Scalar.cmpi .sgt c16_i32_39 c0_i32_42
  let v99 : BitVec 32 := Scalar.extui v98
  let c0_i32_43 : BitVec 32 := 0#32
  let v100 : BitVec 1 := Scalar.cmpi .slt c16_i32_39 c0_i32_43
  let v101 : BitVec 32 := Scalar.extui v100
  let v102 : BitVec 32 := Scalar.subi v99 v101
  let v103 : BitVec 1 := Scalar.cmpi .ne v97 v102
  let v104 : BitVec 32 := Scalar.remsi v91 c16_i32_39
  let c0_i32_44 : BitVec 32 := 0#32
  let v105 : BitVec 1 := Scalar.cmpi .ne v104 c0_i32_44
  let v106 : BitVec 1 := Scalar.andi v103 v105
  let v92 : BitVec 32 := Scalar.divsi v91 c16_i32_39
  let c1_i32_45 : BitVec 32 := 1#32
  let v107 : BitVec 32 := Scalar.subi v92 c1_i32_45
  let v108 : BitVec 32 := Scalar.select v106 v107 v92
  let v124 : BitVec 32 := Scalar.addi v123 v108
  let v134 : Index := Scalar.indexCast v124
  let c0_63 : Index := 0#32
  ![0, v134.toNat, 0]
def k0_off4 (k0_t1 : Fin k0_t1_loop.trips) (c0_i32_38 : BitVec 32) : Fin 2 → Nat :=
  let c0_i32_21 : BitVec 32 := 0#32
  let c1_i32_22 : BitVec 32 := 1#32
  let arg15 : BitVec 32 := Scf.iv c0_i32_21 c1_i32_22 k0_t1
  let v91 : BitVec 32 := Scalar.addi arg15 c0_i32_38
  let c16_i32_46 : BitVec 32 := 16#32
  let c0_i32_47 : BitVec 32 := 0#32
  let v109 : BitVec 1 := Scalar.cmpi .eq c16_i32_46 c0_i32_47
  let c1_i32_48 : BitVec 32 := 1#32
  let v110 : BitVec 32 := Scalar.select v109 c1_i32_48 c16_i32_46
  let v111 : BitVec 32 := Scalar.remsi v91 v110
  let c0_i32_50 : BitVec 32 := 0#32
  let v113 : BitVec 1 := Scalar.cmpi .slt v111 c0_i32_50
  let c0_i32_51 : BitVec 32 := 0#32
  let v114 : BitVec 1 := Scalar.cmpi .slt v110 c0_i32_51
  let v115 : BitVec 1 := Scalar.xori v113 v114
  let c0_i32_49 : BitVec 32 := 0#32
  let v112 : BitVec 1 := Scalar.cmpi .ne v111 c0_i32_49
  let v116 : BitVec 1 := Scalar.andi v115 v112
  let v117 : BitVec 32 := Scalar.addi v111 v110
  let v118 : BitVec 32 := Scalar.select v116 v117 v111
  let c128_i32_52 : BitVec 32 := 128#32
  let v119 : BitVec 32 := Scalar.muli v118 c128_i32_52
  let c0_i32_40 : BitVec 32 := 0#32
  let v93 : BitVec 1 := Scalar.cmpi .sgt v91 c0_i32_40
  let v94 : BitVec 32 := Scalar.extui v93
  let c0_i32_41 : BitVec 32 := 0#32
  let v95 : BitVec 1 := Scalar.cmpi .slt v91 c0_i32_41
  let v96 : BitVec 32 := Scalar.extui v95
  let v97 : BitVec 32 := Scalar.subi v94 v96
  let c16_i32_39 : BitVec 32 := 16#32
  let c0_i32_42 : BitVec 32 := 0#32
  let v98 : BitVec 1 := Scalar.cmpi .sgt c16_i32_39 c0_i32_42
  let v99 : BitVec 32 := Scalar.extui v98
  let c0_i32_43 : BitVec 32 := 0#32
  let v100 : BitVec 1 := Scalar.cmpi .slt c16_i32_39 c0_i32_43
  let v101 : BitVec 32 := Scalar.extui v100
  let v102 : BitVec 32 := Scalar.subi v99 v101
  let v103 : BitVec 1 := Scalar.cmpi .ne v97 v102
  let v104 : BitVec 32 := Scalar.remsi v91 c16_i32_39
  let c0_i32_44 : BitVec 32 := 0#32
  let v105 : BitVec 1 := Scalar.cmpi .ne v104 c0_i32_44
  let v106 : BitVec 1 := Scalar.andi v103 v105
  let v92 : BitVec 32 := Scalar.divsi v91 c16_i32_39
  let c1_i32_45 : BitVec 32 := 1#32
  let v107 : BitVec 32 := Scalar.subi v92 c1_i32_45
  let v108 : BitVec 32 := Scalar.select v106 v107 v92
  let v120 : BitVec 32 := Scalar.addi v119 v108
  let v539 : Index := Scalar.indexCast v120
  let c0_204 : Index := 0#32
  ![v539.toNat, 0]
@[reducible] def k0_t2_loop : Scf.Loop 32 :=
  let c0_i32_26 : BitVec 32 := 0#32
  let c4_i32_27 : BitVec 32 := 4#32
  let v82 : BitVec 32 := Scalar.addi c0_i32_26 c4_i32_27
  let c1_i32_28 : BitVec 32 := 1#32
  ⟨c0_i32_26, v82, c1_i32_28⟩
def k0_off5 (k0_t2 : Fin k0_t2_loop.trips) (c0_i32_38 : BitVec 32) : Fin 3 → Nat :=
  let c0_55 : Index := 0#32
  let c0_i32_26 : BitVec 32 := 0#32
  let c1_i32_28 : BitVec 32 := 1#32
  let arg15 : BitVec 32 := Scf.iv c0_i32_26 c1_i32_28 k0_t2
  let v91 : BitVec 32 := Scalar.addi arg15 c0_i32_38
  let c4_i32_46 : BitVec 32 := 4#32
  let c0_i32_47 : BitVec 32 := 0#32
  let v109 : BitVec 1 := Scalar.cmpi .eq c4_i32_46 c0_i32_47
  let c1_i32_48 : BitVec 32 := 1#32
  let v110 : BitVec 32 := Scalar.select v109 c1_i32_48 c4_i32_46
  let v111 : BitVec 32 := Scalar.remsi v91 v110
  let c0_i32_50 : BitVec 32 := 0#32
  let v113 : BitVec 1 := Scalar.cmpi .slt v111 c0_i32_50
  let c0_i32_51 : BitVec 32 := 0#32
  let v114 : BitVec 1 := Scalar.cmpi .slt v110 c0_i32_51
  let v115 : BitVec 1 := Scalar.xori v113 v114
  let c0_i32_49 : BitVec 32 := 0#32
  let v112 : BitVec 1 := Scalar.cmpi .ne v111 c0_i32_49
  let v116 : BitVec 1 := Scalar.andi v115 v112
  let v117 : BitVec 32 := Scalar.addi v111 v110
  let v118 : BitVec 32 := Scalar.select v116 v117 v111
  let c512_i32 : BitVec 32 := 512#32
  let v119 : BitVec 32 := Scalar.muli v118 c512_i32
  let c0_i32_40 : BitVec 32 := 0#32
  let v93 : BitVec 1 := Scalar.cmpi .sgt v91 c0_i32_40
  let v94 : BitVec 32 := Scalar.extui v93
  let c0_i32_41 : BitVec 32 := 0#32
  let v95 : BitVec 1 := Scalar.cmpi .slt v91 c0_i32_41
  let v96 : BitVec 32 := Scalar.extui v95
  let v97 : BitVec 32 := Scalar.subi v94 v96
  let c4_i32_39 : BitVec 32 := 4#32
  let c0_i32_42 : BitVec 32 := 0#32
  let v98 : BitVec 1 := Scalar.cmpi .sgt c4_i32_39 c0_i32_42
  let v99 : BitVec 32 := Scalar.extui v98
  let c0_i32_43 : BitVec 32 := 0#32
  let v100 : BitVec 1 := Scalar.cmpi .slt c4_i32_39 c0_i32_43
  let v101 : BitVec 32 := Scalar.extui v100
  let v102 : BitVec 32 := Scalar.subi v99 v101
  let v103 : BitVec 1 := Scalar.cmpi .ne v97 v102
  let v104 : BitVec 32 := Scalar.remsi v91 c4_i32_39
  let c0_i32_44 : BitVec 32 := 0#32
  let v105 : BitVec 1 := Scalar.cmpi .ne v104 c0_i32_44
  let v106 : BitVec 1 := Scalar.andi v103 v105
  let v92 : BitVec 32 := Scalar.divsi v91 c4_i32_39
  let c1_i32_45 : BitVec 32 := 1#32
  let v107 : BitVec 32 := Scalar.subi v92 c1_i32_45
  let v108 : BitVec 32 := Scalar.select v106 v107 v92
  let v120 : BitVec 32 := Scalar.addi v119 v108
  let v125 : Index := Scalar.indexCast v120
  let c0_56 : Index := 0#32
  ![0, v125.toNat, 0]
def k0_off6 (k0_t2 : Fin k0_t2_loop.trips) (c0_i32_38 : BitVec 32) : Fin 3 → Nat :=
  let c0_61 : Index := 0#32
  let c0_i32_26 : BitVec 32 := 0#32
  let c1_i32_28 : BitVec 32 := 1#32
  let arg15 : BitVec 32 := Scf.iv c0_i32_26 c1_i32_28 k0_t2
  let v91 : BitVec 32 := Scalar.addi arg15 c0_i32_38
  let c4_i32_46 : BitVec 32 := 4#32
  let c0_i32_47 : BitVec 32 := 0#32
  let v109 : BitVec 1 := Scalar.cmpi .eq c4_i32_46 c0_i32_47
  let c1_i32_48 : BitVec 32 := 1#32
  let v110 : BitVec 32 := Scalar.select v109 c1_i32_48 c4_i32_46
  let v111 : BitVec 32 := Scalar.remsi v91 v110
  let c0_i32_50 : BitVec 32 := 0#32
  let v113 : BitVec 1 := Scalar.cmpi .slt v111 c0_i32_50
  let c0_i32_51 : BitVec 32 := 0#32
  let v114 : BitVec 1 := Scalar.cmpi .slt v110 c0_i32_51
  let v115 : BitVec 1 := Scalar.xori v113 v114
  let c0_i32_49 : BitVec 32 := 0#32
  let v112 : BitVec 1 := Scalar.cmpi .ne v111 c0_i32_49
  let v116 : BitVec 1 := Scalar.andi v115 v112
  let v117 : BitVec 32 := Scalar.addi v111 v110
  let v118 : BitVec 32 := Scalar.select v116 v117 v111
  let c1_i32_52 : BitVec 32 := 1#32
  let v121 : BitVec 32 := Scalar.subi v118 c1_i32_52
  let c0_i32_53 : BitVec 32 := 0#32
  let v122 : BitVec 32 := Scalar.maxsi v121 c0_i32_53
  let c512_i32_54 : BitVec 32 := 512#32
  let v123 : BitVec 32 := Scalar.muli v122 c512_i32_54
  let c0_i32_40 : BitVec 32 := 0#32
  let v93 : BitVec 1 := Scalar.cmpi .sgt v91 c0_i32_40
  let v94 : BitVec 32 := Scalar.extui v93
  let c0_i32_41 : BitVec 32 := 0#32
  let v95 : BitVec 1 := Scalar.cmpi .slt v91 c0_i32_41
  let v96 : BitVec 32 := Scalar.extui v95
  let v97 : BitVec 32 := Scalar.subi v94 v96
  let c4_i32_39 : BitVec 32 := 4#32
  let c0_i32_42 : BitVec 32 := 0#32
  let v98 : BitVec 1 := Scalar.cmpi .sgt c4_i32_39 c0_i32_42
  let v99 : BitVec 32 := Scalar.extui v98
  let c0_i32_43 : BitVec 32 := 0#32
  let v100 : BitVec 1 := Scalar.cmpi .slt c4_i32_39 c0_i32_43
  let v101 : BitVec 32 := Scalar.extui v100
  let v102 : BitVec 32 := Scalar.subi v99 v101
  let v103 : BitVec 1 := Scalar.cmpi .ne v97 v102
  let v104 : BitVec 32 := Scalar.remsi v91 c4_i32_39
  let c0_i32_44 : BitVec 32 := 0#32
  let v105 : BitVec 1 := Scalar.cmpi .ne v104 c0_i32_44
  let v106 : BitVec 1 := Scalar.andi v103 v105
  let v92 : BitVec 32 := Scalar.divsi v91 c4_i32_39
  let c1_i32_45 : BitVec 32 := 1#32
  let v107 : BitVec 32 := Scalar.subi v92 c1_i32_45
  let v108 : BitVec 32 := Scalar.select v106 v107 v92
  let v124 : BitVec 32 := Scalar.addi v123 v108
  let v134 : Index := Scalar.indexCast v124
  let c0_62 : Index := 0#32
  ![0, v134.toNat, 0]
def k0_off7 (k0_t2 : Fin k0_t2_loop.trips) (c0_i32_38 : BitVec 32) : Fin 2 → Nat :=
  let c0_i32_26 : BitVec 32 := 0#32
  let c1_i32_28 : BitVec 32 := 1#32
  let arg15 : BitVec 32 := Scf.iv c0_i32_26 c1_i32_28 k0_t2
  let v91 : BitVec 32 := Scalar.addi arg15 c0_i32_38
  let c4_i32_46 : BitVec 32 := 4#32
  let c0_i32_47 : BitVec 32 := 0#32
  let v109 : BitVec 1 := Scalar.cmpi .eq c4_i32_46 c0_i32_47
  let c1_i32_48 : BitVec 32 := 1#32
  let v110 : BitVec 32 := Scalar.select v109 c1_i32_48 c4_i32_46
  let v111 : BitVec 32 := Scalar.remsi v91 v110
  let c0_i32_50 : BitVec 32 := 0#32
  let v113 : BitVec 1 := Scalar.cmpi .slt v111 c0_i32_50
  let c0_i32_51 : BitVec 32 := 0#32
  let v114 : BitVec 1 := Scalar.cmpi .slt v110 c0_i32_51
  let v115 : BitVec 1 := Scalar.xori v113 v114
  let c0_i32_49 : BitVec 32 := 0#32
  let v112 : BitVec 1 := Scalar.cmpi .ne v111 c0_i32_49
  let v116 : BitVec 1 := Scalar.andi v115 v112
  let v117 : BitVec 32 := Scalar.addi v111 v110
  let v118 : BitVec 32 := Scalar.select v116 v117 v111
  let c512_i32 : BitVec 32 := 512#32
  let v119 : BitVec 32 := Scalar.muli v118 c512_i32
  let c0_i32_40 : BitVec 32 := 0#32
  let v93 : BitVec 1 := Scalar.cmpi .sgt v91 c0_i32_40
  let v94 : BitVec 32 := Scalar.extui v93
  let c0_i32_41 : BitVec 32 := 0#32
  let v95 : BitVec 1 := Scalar.cmpi .slt v91 c0_i32_41
  let v96 : BitVec 32 := Scalar.extui v95
  let v97 : BitVec 32 := Scalar.subi v94 v96
  let c4_i32_39 : BitVec 32 := 4#32
  let c0_i32_42 : BitVec 32 := 0#32
  let v98 : BitVec 1 := Scalar.cmpi .sgt c4_i32_39 c0_i32_42
  let v99 : BitVec 32 := Scalar.extui v98
  let c0_i32_43 : BitVec 32 := 0#32
  let v100 : BitVec 1 := Scalar.cmpi .slt c4_i32_39 c0_i32_43
  let v101 : BitVec 32 := Scalar.extui v100
  let v102 : BitVec 32 := Scalar.subi v99 v101
  let v103 : BitVec 1 := Scalar.cmpi .ne v97 v102
  let v104 : BitVec 32 := Scalar.remsi v91 c4_i32_39
  let c0_i32_44 : BitVec 32 := 0#32
  let v105 : BitVec 1 := Scalar.cmpi .ne v104 c0_i32_44
  let v106 : BitVec 1 := Scalar.andi v103 v105
  let v92 : BitVec 32 := Scalar.divsi v91 c4_i32_39
  let c1_i32_45 : BitVec 32 := 1#32
  let v107 : BitVec 32 := Scalar.subi v92 c1_i32_45
  let v108 : BitVec 32 := Scalar.select v106 v107 v92
  let v120 : BitVec 32 := Scalar.addi v119 v108
  let v539 : Index := Scalar.indexCast v120
  let c0_203 : Index := 0#32
  ![v539.toNat, 0]
@[reducible] def k0_t3_loop : Scf.Loop 32 :=
  let c0_i32_31 : BitVec 32 := 0#32
  let c4_i32_32 : BitVec 32 := 4#32
  let v89 : BitVec 32 := Scalar.addi c0_i32_31 c4_i32_32
  let c1_i32_33 : BitVec 32 := 1#32
  ⟨c0_i32_31, v89, c1_i32_33⟩
def k0_off8 (k0_t3 : Fin k0_t3_loop.trips) (c0_i32_38 : BitVec 32) : Fin 3 → Nat :=
  let c0_55 : Index := 0#32
  let c0_i32_31 : BitVec 32 := 0#32
  let c1_i32_33 : BitVec 32 := 1#32
  let arg15 : BitVec 32 := Scf.iv c0_i32_31 c1_i32_33 k0_t3
  let v91 : BitVec 32 := Scalar.addi arg15 c0_i32_38
  let c1_i32_46 : BitVec 32 := 1#32
  let c0_i32_47 : BitVec 32 := 0#32
  let v109 : BitVec 1 := Scalar.cmpi .eq c1_i32_46 c0_i32_47
  let c1_i32_48 : BitVec 32 := 1#32
  let v110 : BitVec 32 := Scalar.select v109 c1_i32_48 c1_i32_46
  let v111 : BitVec 32 := Scalar.remsi v91 v110
  let c0_i32_50 : BitVec 32 := 0#32
  let v113 : BitVec 1 := Scalar.cmpi .slt v111 c0_i32_50
  let c0_i32_51 : BitVec 32 := 0#32
  let v114 : BitVec 1 := Scalar.cmpi .slt v110 c0_i32_51
  let v115 : BitVec 1 := Scalar.xori v113 v114
  let c0_i32_49 : BitVec 32 := 0#32
  let v112 : BitVec 1 := Scalar.cmpi .ne v111 c0_i32_49
  let v116 : BitVec 1 := Scalar.andi v115 v112
  let v117 : BitVec 32 := Scalar.addi v111 v110
  let v118 : BitVec 32 := Scalar.select v116 v117 v111
  let c2048_i32 : BitVec 32 := 2048#32
  let v119 : BitVec 32 := Scalar.muli v118 c2048_i32
  let c0_i32_40 : BitVec 32 := 0#32
  let v93 : BitVec 1 := Scalar.cmpi .sgt v91 c0_i32_40
  let v94 : BitVec 32 := Scalar.extui v93
  let c0_i32_41 : BitVec 32 := 0#32
  let v95 : BitVec 1 := Scalar.cmpi .slt v91 c0_i32_41
  let v96 : BitVec 32 := Scalar.extui v95
  let v97 : BitVec 32 := Scalar.subi v94 v96
  let c1_i32_39 : BitVec 32 := 1#32
  let c0_i32_42 : BitVec 32 := 0#32
  let v98 : BitVec 1 := Scalar.cmpi .sgt c1_i32_39 c0_i32_42
  let v99 : BitVec 32 := Scalar.extui v98
  let c0_i32_43 : BitVec 32 := 0#32
  let v100 : BitVec 1 := Scalar.cmpi .slt c1_i32_39 c0_i32_43
  let v101 : BitVec 32 := Scalar.extui v100
  let v102 : BitVec 32 := Scalar.subi v99 v101
  let v103 : BitVec 1 := Scalar.cmpi .ne v97 v102
  let v104 : BitVec 32 := Scalar.remsi v91 c1_i32_39
  let c0_i32_44 : BitVec 32 := 0#32
  let v105 : BitVec 1 := Scalar.cmpi .ne v104 c0_i32_44
  let v106 : BitVec 1 := Scalar.andi v103 v105
  let v92 : BitVec 32 := Scalar.divsi v91 c1_i32_39
  let c1_i32_45 : BitVec 32 := 1#32
  let v107 : BitVec 32 := Scalar.subi v92 c1_i32_45
  let v108 : BitVec 32 := Scalar.select v106 v107 v92
  let v120 : BitVec 32 := Scalar.addi v119 v108
  let v125 : Index := Scalar.indexCast v120
  let c0_56 : Index := 0#32
  ![0, v125.toNat, 0]
def k0_off9 (k0_t3 : Fin k0_t3_loop.trips) (c0_i32_38 : BitVec 32) : Fin 3 → Nat :=
  let c0_61 : Index := 0#32
  let c0_i32_31 : BitVec 32 := 0#32
  let c1_i32_33 : BitVec 32 := 1#32
  let arg15 : BitVec 32 := Scf.iv c0_i32_31 c1_i32_33 k0_t3
  let v91 : BitVec 32 := Scalar.addi arg15 c0_i32_38
  let c1_i32_46 : BitVec 32 := 1#32
  let c0_i32_47 : BitVec 32 := 0#32
  let v109 : BitVec 1 := Scalar.cmpi .eq c1_i32_46 c0_i32_47
  let c1_i32_48 : BitVec 32 := 1#32
  let v110 : BitVec 32 := Scalar.select v109 c1_i32_48 c1_i32_46
  let v111 : BitVec 32 := Scalar.remsi v91 v110
  let c0_i32_50 : BitVec 32 := 0#32
  let v113 : BitVec 1 := Scalar.cmpi .slt v111 c0_i32_50
  let c0_i32_51 : BitVec 32 := 0#32
  let v114 : BitVec 1 := Scalar.cmpi .slt v110 c0_i32_51
  let v115 : BitVec 1 := Scalar.xori v113 v114
  let c0_i32_49 : BitVec 32 := 0#32
  let v112 : BitVec 1 := Scalar.cmpi .ne v111 c0_i32_49
  let v116 : BitVec 1 := Scalar.andi v115 v112
  let v117 : BitVec 32 := Scalar.addi v111 v110
  let v118 : BitVec 32 := Scalar.select v116 v117 v111
  let c1_i32_52 : BitVec 32 := 1#32
  let v121 : BitVec 32 := Scalar.subi v118 c1_i32_52
  let c0_i32_53 : BitVec 32 := 0#32
  let v122 : BitVec 32 := Scalar.maxsi v121 c0_i32_53
  let c2048_i32_54 : BitVec 32 := 2048#32
  let v123 : BitVec 32 := Scalar.muli v122 c2048_i32_54
  let c0_i32_40 : BitVec 32 := 0#32
  let v93 : BitVec 1 := Scalar.cmpi .sgt v91 c0_i32_40
  let v94 : BitVec 32 := Scalar.extui v93
  let c0_i32_41 : BitVec 32 := 0#32
  let v95 : BitVec 1 := Scalar.cmpi .slt v91 c0_i32_41
  let v96 : BitVec 32 := Scalar.extui v95
  let v97 : BitVec 32 := Scalar.subi v94 v96
  let c1_i32_39 : BitVec 32 := 1#32
  let c0_i32_42 : BitVec 32 := 0#32
  let v98 : BitVec 1 := Scalar.cmpi .sgt c1_i32_39 c0_i32_42
  let v99 : BitVec 32 := Scalar.extui v98
  let c0_i32_43 : BitVec 32 := 0#32
  let v100 : BitVec 1 := Scalar.cmpi .slt c1_i32_39 c0_i32_43
  let v101 : BitVec 32 := Scalar.extui v100
  let v102 : BitVec 32 := Scalar.subi v99 v101
  let v103 : BitVec 1 := Scalar.cmpi .ne v97 v102
  let v104 : BitVec 32 := Scalar.remsi v91 c1_i32_39
  let c0_i32_44 : BitVec 32 := 0#32
  let v105 : BitVec 1 := Scalar.cmpi .ne v104 c0_i32_44
  let v106 : BitVec 1 := Scalar.andi v103 v105
  let v92 : BitVec 32 := Scalar.divsi v91 c1_i32_39
  let c1_i32_45 : BitVec 32 := 1#32
  let v107 : BitVec 32 := Scalar.subi v92 c1_i32_45
  let v108 : BitVec 32 := Scalar.select v106 v107 v92
  let v124 : BitVec 32 := Scalar.addi v123 v108
  let v134 : Index := Scalar.indexCast v124
  let c0_62 : Index := 0#32
  ![0, v134.toNat, 0]
def k0_off10 (k0_t3 : Fin k0_t3_loop.trips) (c0_i32_38 : BitVec 32) : Fin 2 → Nat :=
  let c0_i32_31 : BitVec 32 := 0#32
  let c1_i32_33 : BitVec 32 := 1#32
  let arg15 : BitVec 32 := Scf.iv c0_i32_31 c1_i32_33 k0_t3
  let v91 : BitVec 32 := Scalar.addi arg15 c0_i32_38
  let c1_i32_46 : BitVec 32 := 1#32
  let c0_i32_47 : BitVec 32 := 0#32
  let v109 : BitVec 1 := Scalar.cmpi .eq c1_i32_46 c0_i32_47
  let c1_i32_48 : BitVec 32 := 1#32
  let v110 : BitVec 32 := Scalar.select v109 c1_i32_48 c1_i32_46
  let v111 : BitVec 32 := Scalar.remsi v91 v110
  let c0_i32_50 : BitVec 32 := 0#32
  let v113 : BitVec 1 := Scalar.cmpi .slt v111 c0_i32_50
  let c0_i32_51 : BitVec 32 := 0#32
  let v114 : BitVec 1 := Scalar.cmpi .slt v110 c0_i32_51
  let v115 : BitVec 1 := Scalar.xori v113 v114
  let c0_i32_49 : BitVec 32 := 0#32
  let v112 : BitVec 1 := Scalar.cmpi .ne v111 c0_i32_49
  let v116 : BitVec 1 := Scalar.andi v115 v112
  let v117 : BitVec 32 := Scalar.addi v111 v110
  let v118 : BitVec 32 := Scalar.select v116 v117 v111
  let c2048_i32 : BitVec 32 := 2048#32
  let v119 : BitVec 32 := Scalar.muli v118 c2048_i32
  let c0_i32_40 : BitVec 32 := 0#32
  let v93 : BitVec 1 := Scalar.cmpi .sgt v91 c0_i32_40
  let v94 : BitVec 32 := Scalar.extui v93
  let c0_i32_41 : BitVec 32 := 0#32
  let v95 : BitVec 1 := Scalar.cmpi .slt v91 c0_i32_41
  let v96 : BitVec 32 := Scalar.extui v95
  let v97 : BitVec 32 := Scalar.subi v94 v96
  let c1_i32_39 : BitVec 32 := 1#32
  let c0_i32_42 : BitVec 32 := 0#32
  let v98 : BitVec 1 := Scalar.cmpi .sgt c1_i32_39 c0_i32_42
  let v99 : BitVec 32 := Scalar.extui v98
  let c0_i32_43 : BitVec 32 := 0#32
  let v100 : BitVec 1 := Scalar.cmpi .slt c1_i32_39 c0_i32_43
  let v101 : BitVec 32 := Scalar.extui v100
  let v102 : BitVec 32 := Scalar.subi v99 v101
  let v103 : BitVec 1 := Scalar.cmpi .ne v97 v102
  let v104 : BitVec 32 := Scalar.remsi v91 c1_i32_39
  let c0_i32_44 : BitVec 32 := 0#32
  let v105 : BitVec 1 := Scalar.cmpi .ne v104 c0_i32_44
  let v106 : BitVec 1 := Scalar.andi v103 v105
  let v92 : BitVec 32 := Scalar.divsi v91 c1_i32_39
  let c1_i32_45 : BitVec 32 := 1#32
  let v107 : BitVec 32 := Scalar.subi v92 c1_i32_45
  let v108 : BitVec 32 := Scalar.select v106 v107 v92
  let v120 : BitVec 32 := Scalar.addi v119 v108
  let v539 : Index := Scalar.indexCast v120
  let c0_203 : Index := 0#32
  ![v539.toNat, 0]
@[reducible] def k0_t4_loop : Scf.Loop 32 :=
  let c0_i32_35 : BitVec 32 := 0#32
  let c8_i32 : BitVec 32 := 8#32
  let v90 : BitVec 32 := Scalar.addi c0_i32_35 c8_i32
  let c1_i32_36 : BitVec 32 := 1#32
  ⟨c0_i32_35, v90, c1_i32_36⟩
def k0_mult1 (k0_t4 : Fin k0_t4_loop.trips) : BitVec 32 :=
  let c0_i32_35 : BitVec 32 := 0#32
  let c1_i32_36 : BitVec 32 := 1#32
  let arg15 : BitVec 32 := Scf.iv c0_i32_35 c1_i32_36 k0_t4
  let c256_i32 : BitVec 32 := 256#32
  let v91 : BitVec 32 := Scalar.muli arg15 c256_i32
  v91
def k0_off11 (k0_t4 : Fin k0_t4_loop.trips) : Fin 2 → Nat :=
  let c0_i32_35 : BitVec 32 := 0#32
  let c1_i32_36 : BitVec 32 := 1#32
  let arg15 : BitVec 32 := Scf.iv c0_i32_35 c1_i32_36 k0_t4
  let c256_i32 : BitVec 32 := 256#32
  let v91 : BitVec 32 := Scalar.muli arg15 c256_i32
  let v92 : BitVec 32 := v91
  let v93 : Index := Scalar.indexCast v92
  let c0_38 : Index := 0#32
  ![v93.toNat, 0]
def k0_off12 (k0_t4 : Fin k0_t4_loop.trips) : Fin 3 → Nat :=
  let c0_44 : Index := 0#32
  let c0_i32_35 : BitVec 32 := 0#32
  let c1_i32_36 : BitVec 32 := 1#32
  let arg15 : BitVec 32 := Scf.iv c0_i32_35 c1_i32_36 k0_t4
  let c256_i32 : BitVec 32 := 256#32
  let v91 : BitVec 32 := Scalar.muli arg15 c256_i32
  let v92 : BitVec 32 := v91
  let v125 : Index := Scalar.indexCast v92
  let c0_45 : Index := 0#32
  ![0, v125.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DilRefIdeal.lean ====
abbrev S8x2048x3x16x64 : Shape := ⟨5, ![8, 2048, 3, 16, 64]⟩
abbrev S8x2048x16x64 : Shape := ⟨4, ![8, 2048, 16, 64]⟩
abbrev S16 : Shape := ⟨1, ![16]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x2048x1x16x64 : Shape := ⟨5, ![8, 2048, 1, 16, 64]⟩
abbrev S8x16x2048x2048 : Shape := ⟨4, ![8, 16, 2048, 2048]⟩
abbrev S16x1x1 : Shape := ⟨3, ![16, 1, 1]⟩
abbrev S1x2048x2048 : Shape := ⟨3, ![1, 2048, 2048]⟩
abbrev S16x2048x2048 : Shape := ⟨3, ![16, 2048, 2048]⟩
abbrev S1x16x2048x2048 : Shape := ⟨4, ![1, 16, 2048, 2048]⟩
abbrev S8x16x2048 : Shape := ⟨3, ![8, 16, 2048]⟩
abbrev S8x16x2048x1 : Shape := ⟨4, ![8, 16, 2048, 1]⟩
abbrev S8x16x64x2048 : Shape := ⟨4, ![8, 16, 64, 2048]⟩
abbrev S8x2048x16 : Shape := ⟨3, ![8, 2048, 16]⟩
abbrev S1x8x2048x16 : Shape := ⟨4, ![1, 8, 2048, 16]⟩
abbrev S3x8x2048x16 : Shape := ⟨4, ![3, 8, 2048, 16]⟩
abbrev S3x8x2048x16x1 : Shape := ⟨5, ![3, 8, 2048, 16, 1]⟩
abbrev S1x8x2048x16x64 : Shape := ⟨5, ![1, 8, 2048, 16, 64]⟩
abbrev S3x8x2048x16x64 : Shape := ⟨5, ![3, 8, 2048, 16, 64]⟩
abbrev S8x2048x1024 : Shape := ⟨3, ![8, 2048, 1024]⟩

abbrev nBuf : Space → Nat
  | .hbm => 263
  | .vmem => 0
  | .smem => 0
  | _ => 0

abbrev hbmTy0_0 (i : Nat) : BufTy := match i % 128 with
  | 0 => ⟨S8x2048x3x16x64, .f32⟩
  | 1 => ⟨S8x2048x16x64, .f32⟩
  | 2 => ⟨S8x2048x16x64, .f32⟩
  | 3 => ⟨S16, .f32⟩
  | 4 => ⟨S_, .f32⟩
  | 5 => ⟨S16, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S2048, .i32⟩
  | 17 => ⟨S2048x1, .i32⟩
  | 18 => ⟨S1x2048, .i32⟩
  | 19 => ⟨S2048x2048, .i32⟩
  | 20 => ⟨S2048x2048, .i32⟩
  | 21 => ⟨S2048x2048, .i32⟩
  | 22 => ⟨S8x2048x1x16x64, .f32⟩
  | 23 => ⟨S8x2048x16x64, .f32⟩
  | 24 => ⟨S8x16x2048x2048, .f32⟩
  | 25 => ⟨S_, .f32⟩
  | 26 => ⟨S8x16x2048x2048, .f32⟩
  | 27 => ⟨S8x16x2048x2048, .f32⟩
  | 28 => ⟨S_, .i32⟩
  | 29 => ⟨S2048x2048, .i32⟩
  | 30 => ⟨S2048x2048, .i1⟩
  | 31 => ⟨S_, .i32⟩
  | 32 => ⟨S2048x2048, .i32⟩
  | 33 => ⟨S2048x2048, .i1⟩
  | 34 => ⟨S2048x2048, .i1⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S2048x2048, .i32⟩
  | 42 => ⟨S2048x2048, .i32⟩
  | 43 => ⟨S_, .i32⟩
  | 44 => ⟨S2048x2048, .i32⟩
  | 45 => ⟨S2048x2048, .i1⟩
  | 46 => ⟨S_, .i32⟩
  | 47 => ⟨S2048x2048, .i32⟩
  | 48 => ⟨S2048x2048, .i1⟩
  | 49 => ⟨S_, .i32⟩
  | 50 => ⟨S_, .i1⟩
  | 51 => ⟨S2048x2048, .i1⟩
  | 52 => ⟨S2048x2048, .i1⟩
  | 53 => ⟨S2048x2048, .i1⟩
  | 54 => ⟨S2048x2048, .i32⟩
  | 55 => ⟨S2048x2048, .i32⟩
  | 56 => ⟨S2048x2048, .i32⟩
  | 57 => ⟨S_, .i32⟩
  | 58 => ⟨S2048x2048, .i32⟩
  | 59 => ⟨S2048x2048, .i1⟩
  | 60 => ⟨S2048x2048, .i1⟩
  | 61 => ⟨S16x1x1, .f32⟩
  | 62 => ⟨S16x1x1, .f32⟩
  | 63 => ⟨S2048x2048, .f32⟩
  | 64 => ⟨S1x2048x2048, .f32⟩
  | 65 => ⟨S16x2048x2048, .f32⟩
  | 66 => ⟨S16x2048x2048, .f32⟩
  | 67 => ⟨S16x2048x2048, .f32⟩
  | 68 => ⟨S1x16x2048x2048, .f32⟩
  | 69 => ⟨S8x16x2048x2048, .f32⟩
  | 70 => ⟨S8x16x2048x2048, .f32⟩
  | 71 => ⟨S_, .f32⟩
  | 72 => ⟨S_, .f32⟩
  | 73 => ⟨S8x16x2048x2048, .i1⟩
  | 74 => ⟨S8x16x2048x2048, .f32⟩
  | 75 => ⟨S8x16x2048x2048, .f32⟩
  | 76 => ⟨S_, .f32⟩
  | 77 => ⟨S8x16x2048, .f32⟩
  | 78 => ⟨S8x16x2048x1, .f32⟩
  | 79 => ⟨S8x16x2048x2048, .f32⟩
  | 80 => ⟨S8x16x2048x2048, .f32⟩
  | 81 => ⟨S8x16x2048x2048, .f32⟩
  | 82 => ⟨S_, .f32⟩
  | 83 => ⟨S8x16x2048, .f32⟩
  | 84 => ⟨S8x16x2048, .f32⟩
  | 85 => ⟨S8x16x2048, .f32⟩
  | 86 => ⟨S8x16x2048x1, .f32⟩
  | 87 => ⟨S8x16x2048x2048, .f32⟩
  | 88 => ⟨S8x16x2048x2048, .f32⟩
  | 89 => ⟨S8x16x2048x2048, .f32⟩
  | 90 => ⟨S8x16x64x2048, .f32⟩
  | 91 => ⟨S8x2048x16x64, .f32⟩
  | 92 => ⟨S8x2048x16, .f32⟩
  | 93 => ⟨S8x2048x1x16x64, .f32⟩
  | 94 => ⟨S8x2048x16x64, .f32⟩
  | 95 => ⟨S8x16x2048x2048, .f32⟩
  | 96 => ⟨S_, .f32⟩
  | 97 => ⟨S8x16x2048x2048, .f32⟩
  | 98 => ⟨S8x16x2048x2048, .f32⟩
  | 99 => ⟨S_, .i32⟩
  | 100 => ⟨S2048x2048, .i32⟩
  | 101 => ⟨S2048x2048, .i1⟩
  | 102 => ⟨S_, .i32⟩
  | 103 => ⟨S2048x2048, .i32⟩
  | 104 => ⟨S2048x2048, .i1⟩
  | 105 => ⟨S2048x2048, .i1⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S2048x2048, .i32⟩
  | 113 => ⟨S2048x2048, .i32⟩
  | 114 => ⟨S_, .i32⟩
  | 115 => ⟨S2048x2048, .i32⟩
  | 116 => ⟨S2048x2048, .i1⟩
  | 117 => ⟨S_, .i32⟩
  | 118 => ⟨S2048x2048, .i32⟩
  | 119 => ⟨S2048x2048, .i1⟩
  | 120 => ⟨S_, .i32⟩
  | 121 => ⟨S_, .i1⟩
  | 122 => ⟨S2048x2048, .i1⟩
  | 123 => ⟨S2048x2048, .i1⟩
  | 124 => ⟨S2048x2048, .i1⟩
  | 125 => ⟨S2048x2048, .i32⟩
  | 126 => ⟨S2048x2048, .i32⟩
  | 127 => ⟨S2048x2048, .i32⟩
  | _ => ⟨S8x2048x3x16x64, .f32⟩

abbrev hbmTy0_1 (i : Nat) : BufTy := match i % 128 with
  | 0 => ⟨S_, .i32⟩
  | 1 => ⟨S2048x2048, .i32⟩
  | 2 => ⟨S2048x2048, .i1⟩
  | 3 => ⟨S2048x2048, .i1⟩
  | 4 => ⟨S16x1x1, .f32⟩
  | 5 => ⟨S16x1x1, .f32⟩
  | 6 => ⟨S2048x2048, .f32⟩
  | 7 => ⟨S1x2048x2048, .f32⟩
  | 8 => ⟨S16x2048x2048, .f32⟩
  | 9 => ⟨S16x2048x2048, .f32⟩
  | 10 => ⟨S16x2048x2048, .f32⟩
  | 11 => ⟨S1x16x2048x2048, .f32⟩
  | 12 => ⟨S8x16x2048x2048, .f32⟩
  | 13 => ⟨S8x16x2048x2048, .f32⟩
  | 14 => ⟨S_, .f32⟩
  | 15 => ⟨S_, .f32⟩
  | 16 => ⟨S8x16x2048x2048, .i1⟩
  | 17 => ⟨S8x16x2048x2048, .f32⟩
  | 18 => ⟨S8x16x2048x2048, .f32⟩
  | 19 => ⟨S_, .f32⟩
  | 20 => ⟨S8x16x2048, .f32⟩
  | 21 => ⟨S8x16x2048x1, .f32⟩
  | 22 => ⟨S8x16x2048x2048, .f32⟩
  | 23 => ⟨S8x16x2048x2048, .f32⟩
  | 24 => ⟨S8x16x2048x2048, .f32⟩
  | 25 => ⟨S_, .f32⟩
  | 26 => ⟨S8x16x2048, .f32⟩
  | 27 => ⟨S8x16x2048, .f32⟩
  | 28 => ⟨S8x16x2048, .f32⟩
  | 29 => ⟨S8x16x2048x1, .f32⟩
  | 30 => ⟨S8x16x2048x2048, .f32⟩
  | 31 => ⟨S8x16x2048x2048, .f32⟩
  | 32 => ⟨S8x16x2048x2048, .f32⟩
  | 33 => ⟨S8x16x64x2048, .f32⟩
  | 34 => ⟨S8x2048x16x64, .f32⟩
  | 35 => ⟨S8x2048x16, .f32⟩
  | 36 => ⟨S8x2048x1x16x64, .f32⟩
  | 37 => ⟨S8x2048x16x64, .f32⟩
  | 38 => ⟨S8x16x2048x2048, .f32⟩
  | 39 => ⟨S_, .f32⟩
  | 40 => ⟨S8x16x2048x2048, .f32⟩
  | 41 => ⟨S8x16x2048x2048, .f32⟩
  | 42 => ⟨S_, .i32⟩
  | 43 => ⟨S2048x2048, .i32⟩
  | 44 => ⟨S2048x2048, .i1⟩
  | 45 => ⟨S_, .i32⟩
  | 46 => ⟨S2048x2048, .i32⟩
  | 47 => ⟨S2048x2048, .i1⟩
  | 48 => ⟨S2048x2048, .i1⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S2048x2048, .i32⟩
  | 56 => ⟨S2048x2048, .i32⟩
  | 57 => ⟨S_, .i32⟩
  | 58 => ⟨S2048x2048, .i32⟩
  | 59 => ⟨S2048x2048, .i1⟩
  | 60 => ⟨S_, .i32⟩
  | 61 => ⟨S2048x2048, .i32⟩
  | 62 => ⟨S2048x2048, .i1⟩
  | 63 => ⟨S_, .i32⟩
  | 64 => ⟨S_, .i1⟩
  | 65 => ⟨S2048x2048, .i1⟩
  | 66 => ⟨S2048x2048, .i1⟩
  | 67 => ⟨S2048x2048, .i1⟩
  | 68 => ⟨S2048x2048, .i32⟩
  | 69 => ⟨S2048x2048, .i32⟩
  | 70 => ⟨S2048x2048, .i32⟩
  | 71 => ⟨S_, .i32⟩
  | 72 => ⟨S2048x2048, .i32⟩
  | 73 => ⟨S2048x2048, .i1⟩
  | 74 => ⟨S2048x2048, .i1⟩
  | 75 => ⟨S16x1x1, .f32⟩
  | 76 => ⟨S16x1x1, .f32⟩
  | 77 => ⟨S2048x2048, .f32⟩
  | 78 => ⟨S1x2048x2048, .f32⟩
  | 79 => ⟨S16x2048x2048, .f32⟩
  | 80 => ⟨S16x2048x2048, .f32⟩
  | 81 => ⟨S16x2048x2048, .f32⟩
  | 82 => ⟨S1x16x2048x2048, .f32⟩
  | 83 => ⟨S8x16x2048x2048, .f32⟩
  | 84 => ⟨S8x16x2048x2048, .f32⟩
  | 85 => ⟨S_, .f32⟩
  | 86 => ⟨S_, .f32⟩
  | 87 => ⟨S8x16x2048x2048, .i1⟩
  | 88 => ⟨S8x16x2048x2048, .f32⟩
  | 89 => ⟨S8x16x2048x2048, .f32⟩
  | 90 => ⟨S_, .f32⟩
  | 91 => ⟨S8x16x2048, .f32⟩
  | 92 => ⟨S8x16x2048x1, .f32⟩
  | 93 => ⟨S8x16x2048x2048, .f32⟩
  | 94 => ⟨S8x16x2048x2048, .f32⟩
  | 95 => ⟨S8x16x2048x2048, .f32⟩
  | 96 => ⟨S_, .f32⟩
  | 97 => ⟨S8x16x2048, .f32⟩
  | 98 => ⟨S8x16x2048, .f32⟩
  | 99 => ⟨S8x16x2048, .f32⟩
  | 100 => ⟨S8x16x2048x1, .f32⟩
  | 101 => ⟨S8x16x2048x2048, .f32⟩
  | 102 => ⟨S8x16x2048x2048, .f32⟩
  | 103 => ⟨S8x16x2048x2048, .f32⟩
  | 104 => ⟨S8x16x64x2048, .f32⟩
  | 105 => ⟨S8x2048x16x64, .f32⟩
  | 106 => ⟨S8x2048x16, .f32⟩
  | 107 => ⟨S1x8x2048x16, .f32⟩
  | 108 => ⟨S1x8x2048x16, .f32⟩
  | 109 => ⟨S1x8x2048x16, .f32⟩
  | 110 => ⟨S3x8x2048x16, .f32⟩
  | 111 => ⟨S_, .f32⟩
  | 112 => ⟨S8x2048x16, .f32⟩
  | 113 => ⟨S_, .f32⟩
  | 114 => ⟨S8x2048x16, .f32⟩
  | 115 => ⟨S8x2048x16, .f32⟩
  | 116 => ⟨S1x8x2048x16, .f32⟩
  | 117 => ⟨S3x8x2048x16, .f32⟩
  | 118 => ⟨S3x8x2048x16, .f32⟩
  | 119 => ⟨S3x8x2048x16, .f32⟩
  | 120 => ⟨S_, .f32⟩
  | 121 => ⟨S8x2048x16, .f32⟩
  | 122 => ⟨S1x8x2048x16, .f32⟩
  | 123 => ⟨S3x8x2048x16, .f32⟩
  | 124 => ⟨S3x8x2048x16, .f32⟩
  | 125 => ⟨S3x8x2048x16x1, .f32⟩
  | 126 => ⟨S1x8x2048x16x64, .f32⟩
  | 127 => ⟨S1x8x2048x16x64, .f32⟩
  | _ => ⟨S8x2048x3x16x64, .f32⟩

abbrev hbmTy0_2 (i : Nat) : BufTy := match i % 128 with
  | 0 => ⟨S1x8x2048x16x64, .f32⟩
  | 1 => ⟨S3x8x2048x16x64, .f32⟩
  | 2 => ⟨S3x8x2048x16x64, .f32⟩
  | 3 => ⟨S3x8x2048x16x64, .f32⟩
  | 4 => ⟨S_, .f32⟩
  | 5 => ⟨S8x2048x16x64, .f32⟩
  | 6 => ⟨S8x2048x1024, .f32⟩
  | _ => ⟨S8x2048x3x16x64, .f32⟩

abbrev hbmTy (i : Nat) : BufTy := match i / 128 with
  | 0 => hbmTy0_0 i
  | 1 => hbmTy0_1 i
  | 2 => hbmTy0_2 i
  | _ => ⟨S8x2048x3x16x64, .f32⟩

abbrev bufTy : (tb : Table) → Fin (tcTables nBuf tb) → BufTy
  | .hbm, ⟨i, _⟩ => hbmTy i
  | _, _ => ⟨S8x2048x3x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_1 : Ref sig .tc := ⟨.hbm, 43, rfl⟩
abbrev main_call0_v5 : Ref sig .tc := ⟨.hbm, 44, rfl⟩
abbrev main_call0_v6 : Ref sig .tc := ⟨.hbm, 45, rfl⟩
abbrev main_call0_c_2 : Ref sig .tc := ⟨.hbm, 46, rfl⟩
abbrev main_call0_v7 : Ref sig .tc := ⟨.hbm, 47, rfl⟩
abbrev main_call0_v8 : Ref sig .tc := ⟨.hbm, 48, rfl⟩
abbrev main_call0_c_3 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_v25 : Ref sig .tc := ⟨.hbm, 56, rfl⟩
abbrev main_c_6 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_7 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v39 : Ref sig .tc := ⟨.hbm, 75, rfl⟩
abbrev main_cst_8 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_9 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_10 : Ref sig .tc := ⟨.hbm, 96, rfl⟩
abbrev main_v58 : Ref sig .tc := ⟨.hbm, 97, rfl⟩
abbrev main_v59 : Ref sig .tc := ⟨.hbm, 98, rfl⟩
abbrev main_c_11 : Ref sig .tc := ⟨.hbm, 99, rfl⟩
abbrev main_v60 : Ref sig .tc := ⟨.hbm, 100, rfl⟩
abbrev main_v61 : Ref sig .tc := ⟨.hbm, 101, rfl⟩
abbrev main_c_12 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_c_13 : Ref sig .tc := ⟨.hbm, 106, rfl⟩
abbrev main_call2_v0 : Ref sig .tc := ⟨.hbm, 107, rfl⟩
abbrev main_call2_c : Ref sig .tc := ⟨.hbm, 108, rfl⟩
abbrev main_call2_v1 : Ref sig .tc := ⟨.hbm, 109, rfl⟩
abbrev main_call2_c_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_c_1 : Ref sig .tc := ⟨.hbm, 114, rfl⟩
abbrev main_call2_v5 : Ref sig .tc := ⟨.hbm, 115, rfl⟩
abbrev main_call2_v6 : Ref sig .tc := ⟨.hbm, 116, rfl⟩
abbrev main_call2_c_2 : Ref sig .tc := ⟨.hbm, 117, rfl⟩
abbrev main_call2_v7 : Ref sig .tc := ⟨.hbm, 118, rfl⟩
abbrev main_call2_v8 : Ref sig .tc := ⟨.hbm, 119, rfl⟩
abbrev main_call2_c_3 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_v12 : Ref sig .tc := ⟨.hbm, 124, rfl⟩
abbrev main_call2_v13 : Ref sig .tc := ⟨.hbm, 125, rfl⟩
abbrev main_call2_v14 : Ref sig .tc := ⟨.hbm, 126, rfl⟩
abbrev main_v65 : Ref sig .tc := ⟨.hbm, 127, rfl⟩
abbrev main_c_14 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_cst_15 : Ref sig .tc := ⟨.hbm, 142, rfl⟩
abbrev main_call3_v0 : Ref sig .tc := ⟨.hbm, 143, rfl⟩
abbrev main_call3_v1 : Ref sig .tc := ⟨.hbm, 144, rfl⟩
abbrev main_call3_v2 : Ref sig .tc := ⟨.hbm, 145, rfl⟩
abbrev main_v79 : Ref sig .tc := ⟨.hbm, 146, rfl⟩
abbrev main_cst_16 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_cst_17 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_cst_18 : Ref sig .tc := ⟨.hbm, 167, rfl⟩
abbrev main_v98 : Ref sig .tc := ⟨.hbm, 168, rfl⟩
abbrev main_v99 : Ref sig .tc := ⟨.hbm, 169, rfl⟩
abbrev main_c_19 : Ref sig .tc := ⟨.hbm, 170, rfl⟩
abbrev main_v100 : Ref sig .tc := ⟨.hbm, 171, rfl⟩
abbrev main_v101 : Ref sig .tc := ⟨.hbm, 172, rfl⟩
abbrev main_c_20 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_c_21 : Ref sig .tc := ⟨.hbm, 177, rfl⟩
abbrev main_call4_v0 : Ref sig .tc := ⟨.hbm, 178, rfl⟩
abbrev main_call4_c : Ref sig .tc := ⟨.hbm, 179, rfl⟩
abbrev main_call4_v1 : Ref sig .tc := ⟨.hbm, 180, rfl⟩
abbrev main_call4_c_0 : Ref sig .tc := ⟨.hbm, 181, rfl⟩
abbrev main_call4_v2 : Ref sig .tc := ⟨.hbm, 182, rfl⟩
abbrev main_call4_v3 : Ref sig .tc := ⟨.hbm, 183, rfl⟩
abbrev main_call4_v4 : Ref sig .tc := ⟨.hbm, 184, rfl⟩
abbrev main_call4_c_1 : Ref sig .tc := ⟨.hbm, 185, rfl⟩
abbrev main_call4_v5 : Ref sig .tc := ⟨.hbm, 186, rfl⟩
abbrev main_call4_v6 : Ref sig .tc := ⟨.hbm, 187, rfl⟩
abbrev main_call4_c_2 : Ref sig .tc := ⟨.hbm, 188, rfl⟩
abbrev main_call4_v7 : Ref sig .tc := ⟨.hbm, 189, rfl⟩
abbrev main_call4_v8 : Ref sig .tc := ⟨.hbm, 190, rfl⟩
abbrev main_call4_c_3 : Ref sig .tc := ⟨.hbm, 191, rfl⟩
abbrev main_call4_v9 : Ref sig .tc := ⟨.hbm, 192, rfl⟩
abbrev main_call4_v10 : Ref sig .tc := ⟨.hbm, 193, rfl⟩
abbrev main_call4_v11 : Ref sig .tc := ⟨.hbm, 194, rfl⟩
abbrev main_call4_v12 : Ref sig .tc := ⟨.hbm, 195, rfl⟩
abbrev main_call4_v13 : Ref sig .tc := ⟨.hbm, 196, rfl⟩
abbrev main_call4_v14 : Ref sig .tc := ⟨.hbm, 197, rfl⟩
abbrev main_v105 : Ref sig .tc := ⟨.hbm, 198, rfl⟩
abbrev main_c_22 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_cst_23 : Ref sig .tc := ⟨.hbm, 213, rfl⟩
abbrev main_call5_v0 : Ref sig .tc := ⟨.hbm, 214, rfl⟩
abbrev main_call5_v1 : Ref sig .tc := ⟨.hbm, 215, rfl⟩
abbrev main_call5_v2 : Ref sig .tc := ⟨.hbm, 216, rfl⟩
abbrev main_v119 : Ref sig .tc := ⟨.hbm, 217, rfl⟩
abbrev main_cst_24 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_25 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_26 : Ref sig .tc := ⟨.hbm, 239, rfl⟩
abbrev main_v139 : Ref sig .tc := ⟨.hbm, 240, rfl⟩
abbrev main_cst_27 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_cst_28 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_cst_29 : Ref sig .tc := ⟨.hbm, 260, rfl⟩
abbrev main_v157 : Ref sig .tc := ⟨.hbm, 261, rfl⟩
abbrev main_v158 : Ref sig .tc := ⟨.hbm, 262, rfl⟩

abbrev nD : Nat := 1
abbrev τ : Topo := Topo.v7x

variable {F : FTy → Type} [FloatOps F]
-- ==== OutS.lean ====
abbrev S32x4x16x64 : Shape := ⟨4, ![32, 4, 16, 64]⟩
abbrev S1024x1024 : Shape := ⟨2, ![1024, 1024]⟩
abbrev S1024 : Shape := ⟨1, ![1024]⟩
abbrev S32x4x1024 : Shape := ⟨3, ![32, 4, 1024]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩

abbrev nBuf : Space → Nat
  | .hbm => 9
  | .vmem => 5
  | .smem => 0
  | _ => 0

abbrev bufTy : (tb : Table) → Fin (tcTables nBuf tb) → BufTy
  | .hbm, ⟨0, _⟩ => ⟨S32x4x16x64, .f32⟩
  | .hbm, ⟨1, _⟩ => ⟨S1024x1024, .f32⟩
  | .hbm, ⟨2, _⟩ => ⟨S1024, .f32⟩
  | .hbm, ⟨3, _⟩ => ⟨S32x4x1024, .f32⟩
  | .hbm, ⟨4, _⟩ => ⟨S128x1024, .f32⟩
  | .hbm, ⟨5, _⟩ => ⟨S1024x1024, .bf16⟩
  | .hbm, ⟨6, _⟩ => ⟨S128x1024, .f32⟩
  | .hbm, ⟨7, _⟩ => ⟨S1x1024, .f32⟩
  | .hbm, ⟨8, _⟩ => ⟨S128x1024, .f32⟩
  | .local _ .vmem, ⟨0, _⟩ => ⟨S128x1024, .f32⟩
  | .local _ .vmem, ⟨1, _⟩ => ⟨S1024x1024, .bf16⟩
  | .local _ .vmem, ⟨2, _⟩ => ⟨S1x1024, .f32⟩
  | .local _ .vmem, ⟨3, _⟩ => ⟨S128x1024, .f32⟩
  | .local _ .vmem, ⟨4, _⟩ => ⟨S128x1024, .f32⟩
  | _, _ => ⟨S32x4x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== OutSRefIdeal.lean ====
abbrev S32x4x16x64 : Shape := ⟨4, ![32, 4, 16, 64]⟩
abbrev S1024x1024 : Shape := ⟨2, ![1024, 1024]⟩
abbrev S1024 : Shape := ⟨1, ![1024]⟩
abbrev S32x4x1024 : Shape := ⟨3, ![32, 4, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S128x1024 : Shape := ⟨2, ![128, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32x4x16x64, .f32⟩
  | .hbm, ⟨1, _⟩ => ⟨S1024x1024, .f32⟩
  | .hbm, ⟨2, _⟩ => ⟨S1024, .f32⟩
  | .hbm, ⟨3, _⟩ => ⟨S32x4x1024, .f32⟩
  | .hbm, ⟨4, _⟩ => ⟨S32x4x1024, .f32⟩
  | .hbm, ⟨5, _⟩ => ⟨S32x4x1024, .f32⟩
  | .hbm, ⟨6, _⟩ => ⟨S32x4x1024, .f32⟩
  | .hbm, ⟨7, _⟩ => ⟨S_, .f32⟩
  | .hbm, ⟨8, _⟩ => ⟨S32x4, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S_, .f32⟩
  | .hbm, ⟨14, _⟩ => ⟨S32x4x1, .f32⟩
  | .hbm, ⟨15, _⟩ => ⟨S32x4x1, .f32⟩
  | .hbm, ⟨16, _⟩ => ⟨S32x4x1, .f32⟩
  | .hbm, ⟨17, _⟩ => ⟨S32x4x1024, .f32⟩
  | .hbm, ⟨18, _⟩ => ⟨S32x4x1024, .f32⟩
  | .hbm, ⟨19, _⟩ => ⟨S1x1x1024, .f32⟩
  | .hbm, ⟨20, _⟩ => ⟨S32x4x1024, .f32⟩
  | .hbm, ⟨21, _⟩ => ⟨S32x4x1024, .f32⟩
  | .hbm, ⟨22, _⟩ => ⟨S32x4x1024, .f32⟩
  | .hbm, ⟨23, _⟩ => ⟨S128x1024, .f32⟩
  | _, _ => ⟨S32x4x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Sb.Row.lean ====
module

public import Idealize.ShloMosaic.Lib.Pipeline.ValueKit

@[expose] public section

noncomputable section

namespace Cert.Sb

open Idealize.ShloMosaic Finset

/-- The logarithm of one minus the stick that a score breaks off: `-max(z, 0) - log(1 + exp(-|z|))`. -/
def ellf (z : EReal) : EReal :=
  0 - max z 0 - Ideal.log (1 + Ideal.exp (0 - FloatOps.absf (F := Ideal) (φ := .f32) z))

/-- What key `k` leaves of the stick, for the query at position `R`: nothing is broken off at or after `R`. -/
def L (z : ℕ → EReal) (R k : ℕ) : EReal := if k < R then ellf (z k) else 0

/-- The sum of `L` over the keys from `n` on. -/
def T (z : ℕ → EReal) (R n : ℕ) : EReal := ∑ k ∈ Ico n 2048, L z R k

/-- The weight of key `k`. -/
def wgt (z : ℕ → EReal) (R k : ℕ) : EReal :=
  if k < R then Ideal.exp (z k + ellf (z k) + T z R (k + 1)) else 0

/-- The weighted sum over the keys from `n` on. -/
def A (z v : ℕ → EReal) (R n : ℕ) : EReal := ∑ k ∈ Ico n 2048, wgt z R k * v k

theorem T_of_le (z : ℕ → EReal) (R n : ℕ) (h : R ≤ n) : T z R n = 0 := by
  refine Finset.sum_eq_zero fun k hk => ?_
  have := Finset.mem_Ico.mp hk
  rw [L, if_neg (by omega)]

theorem A_of_le (z v : ℕ → EReal) (R n : ℕ) (h : R ≤ n) : A z v R n = 0 := by
  refine Finset.sum_eq_zero fun k hk => ?_
  have := Finset.mem_Ico.mp hk
  rw [wgt, if_neg (by omega), zero_mul]

/-- A sum over a tile of `N` keys is a sum over an interval of positions. -/
theorem sum_tile (N s : ℕ) (f : ℕ → EReal) : ∑ x : Fin N, f (s + x) = ∑ k ∈ Ico s (s + N), f k := by
  rw [Fin.sum_univ_eq_sum_range (fun x => f (s + x)) N, Finset.range_eq_Ico, Finset.sum_Ico_add]
  simp [add_comm]

theorem sum_later (N s y : ℕ) (hy : y < N) (f : ℕ → EReal) :
    ∑ x : Fin N, f (s + x) * (if y < (x : ℕ) then 1 else 0) = ∑ k ∈ Ico (s + y + 1) (s + N), f k := by
  have h : ∀ x : Fin N, f (s + x) * (if y < (x : ℕ) then (1 : EReal) else 0)
      = (fun k => if s + y < k then f k else 0) (s + x) := by
    intro x
    by_cases hx : y < (x : ℕ)
    · have : s + y < s + x := by omega
      simp [hx]
    · have : ¬ s + y < s + x := by omega
      simp [hx]
  rw [Finset.sum_congr rfl fun x _ => h x, sum_tile N s (fun k => if s + y < k then f k else 0), ← Finset.sum_filter]
  refine Finset.sum_congr ?_ fun _ _ => rfl
  ext k
  simp only [Finset.mem_filter, Finset.mem_Ico]
  omega

theorem T_split (z : ℕ → EReal) (R a b : ℕ) (h : a ≤ b) (hb : b ≤ 2048) :
    ∑ k ∈ Ico a b, L z R k + T z R b = T z R a := Finset.sum_Ico_consecutive _ h hb

theorem A_split (z v : ℕ → EReal) (R a b : ℕ) (h : a ≤ b) (hb : b ≤ 2048) :
    ∑ k ∈ Ico a b, wgt z R k * v k + A z v R b = A z v R a := Finset.sum_Ico_consecutive _ h hb

/-- The product with the matrix of later keys, and the tail behind the tile: what is left after key `y`. -/
theorem rem_eq (z : ℕ → EReal) (R N s y : ℕ) (hy : y < N) (hs : s + N ≤ 2048) :
    ∑ x : Fin N, L z R (s + x) * (if y < (x : ℕ) then 1 else 0) + T z R (s + N) = T z R (s + y + 1) := by
  rw [sum_later N s y hy (L z R), T_split _ _ _ _ (by omega) hs]

theorem T_head (z : ℕ → EReal) (R s : ℕ) (hs : s < 2048) : T z R (s + 1) + L z R s = T z R s := by
  rw [add_comm, T, T, ← Finset.sum_eq_sum_Ico_succ_bot hs]

theorem acc_eq (z v : ℕ → EReal) (R N s : ℕ) (hs : s + N ≤ 2048) :
    A z v R (s + N) + ∑ x : Fin N, wgt z R (s + x) * v (s + x) = A z v R s := by
  rw [sum_tile N s (fun k => wgt z R k * v k), add_comm, A_split _ _ _ _ _ (by omega) hs]

end Cert.Sb
end
-- ==== Proof.Sb.Tile.lean ====
module

public import proofs.«01_k».proof.Proof.Gen.KernelIdeal.Value
public import Idealize.ShloMosaic.Lib.Pipeline.ValueKit
public import proofs.«01_k».proof.Proof.Sb.Row

@[expose] public section

set_option maxRecDepth 16384

noncomputable section

namespace Cert.KernelIdeal.Sb

open Cert.KernelIdeal Cert.KernelIdeal.Gen Idealize.ShloMosaic Idealize.ShloMosaic.TcCoe Idealize.SL.Sem
open Idealize.ShloMosaic.Pipeline Cert.Sb

/-! ## A tile of 512 keys that no mask touches -/

section Full

variable (v9 : FVec Ideal S512x512 .bf16) (b : Elt Ideal .f32) (q : FVec Ideal S256x64 .bf16)
  (tail : FVec Ideal S256x1 .f32) (acc : FVec Ideal S256x64 .f32) (kt vt : Vec Ideal S1x64x512 .f32)
  (z : Fin 256 → ℕ → EReal) (v : Fin 64 → ℕ → EReal) (R : Fin 256 → ℕ) (s : ℕ)
  (hl : ∀ x y : Fin 512, v9 (ix2 x y) = if (y : ℕ) < (x : ℕ) then 1 else 0)
  (hz : ∀ (r : Fin 256) (y : Fin 512), ∑ x : Fin 64, q (ix2 r x) * kt (ix3 0 x y) + b = z r (s + y))
  (hv : ∀ (d : Fin 64) (y : Fin 512), vt (ix3 0 d y) = v d (s + y))
  (hs : s + 512 ≤ 2048) (hR : ∀ r, s + 512 ≤ R r)
  (ht : ∀ r, tail (ix2 r 0) = T (z r) (R r) (s + 512))
  (ha : ∀ r d, acc (ix2 r d) = A (z r) (v d) (R r) (s + 512))

include hz in
theorem z_apply (r : Fin 256) (y : Fin 512) : k0_pay28 b q kt (ix2 r y) = z r (s + y) := by
  pointwise [k0_pay28, k0_pay26]
  exact hz r y

include hz in
theorem e_apply (r : Fin 256) (y : Fin 512) : k0_pay29 b q kt (ix2 r y) = ellf (z r (s + y)) := by
  pointwise [k0_pay29]
  rw [z_apply b q kt z s hz]; rfl

include hz hR in
theorem l_apply (r : Fin 256) (y : Fin 512) : k0_pay29 b q kt (ix2 r y) = L (z r) (R r) (s + y) := by
  rw [e_apply b q kt z s hz, L, if_pos]
  have := hR r; omega

include hl hz hs hR ht in
theorem rem_apply (r : Fin 256) (y : Fin 512) :
    k0_pay30 v9 b q tail kt (ix2 r y) = T (z r) (R r) (s + y + 1) := by
  pointwise [k0_pay30]
  simp only [l_apply b q kt z R s hz hR, hl, ht]
  exact rem_eq _ _ _ _ _ y.isLt hs

include hl hz hs hR ht in
theorem tail_apply (r : Fin 256) : k0_pay31 v9 b q tail kt (ix2 r 0) = T (z r) (R r) s := by
  pointwise [k0_pay31]
  rw [rem_apply v9 b q tail kt z R s hl hz hs hR ht, l_apply b q kt z R s hz hR]
  exact T_head _ _ _ (by omega)

include hl hz hv hs hR ht ha in
theorem acc_apply (r : Fin 256) (d : Fin 64) :
    k0_pay32 v9 b q tail acc kt vt (ix2 r d) = A (z r) (v d) (R r) s := by
  pointwise [k0_pay32, k0_pay27]
  simp only [rem_apply v9 b q tail kt z R s hl hz hs hR ht, e_apply b q kt z s hz, z_apply b q kt z s hz, hv, ha]
  rw [← acc_eq (z r) (v d) (R r) 512 s hs]
  congr 1
  refine Finset.sum_congr rfl fun y _ => ?_
  rw [wgt, if_pos]
  have := hR r; omega

end Full

/-! ## The upper half of the diagonal's tile: 512 keys, masked -/

section High

variable (v9 : FVec Ideal S512x512 .bf16) (b : Elt Ideal .f32) (q : FVec Ideal S256x64 .bf16)
  (v7 : IVec S256x512 1)
  (tail : FVec Ideal S256x1 .f32) (acc : FVec Ideal S256x64 .f32) (kt vt : FVec Ideal S64x512 .bf16)
  (z : Fin 256 → ℕ → EReal) (v : Fin 64 → ℕ → EReal) (R : Fin 256 → ℕ) (s : ℕ)
  (hl : ∀ x y : Fin 512, v9 (ix2 x y) = if (y : ℕ) < (x : ℕ) then 1 else 0)
  (hm : ∀ (r : Fin 256) (y : Fin 512), v7 (ix2 r y) = if s + (y : ℕ) < R r then 1#1 else 0#1)
  (hz : ∀ (r : Fin 256) (y : Fin 512), ∑ x : Fin 64, q (ix2 r x) * kt (ix2 x y) + b = z r (s + y))
  (hv : ∀ (d : Fin 64) (y : Fin 512), vt (ix2 d y) = v d (s + y))
  (hs : s + 512 ≤ 2048)
  (ht : ∀ r, tail (ix2 r 0) = T (z r) (R r) (s + 512))
  (ha : ∀ r d, acc (ix2 r d) = A (z r) (v d) (R r) (s + 512))

include hz in
theorem zh_apply (r : Fin 256) (y : Fin 512) : k0_pay81 b q kt (ix2 r y) = z r (s + y) := by
  pointwise [k0_pay81]
  exact hz r y

include hz in
theorem eh_apply (r : Fin 256) (y : Fin 512) : k0_pay82 b q kt (ix2 r y) = ellf (z r (s + y)) := by
  pointwise [k0_pay82]
  rw [zh_apply b q kt z s hz]; rfl

include hm hz in
theorem lh_apply (r : Fin 256) (y : Fin 512) : k0_pay83 v7 b q kt (ix2 r y) = L (z r) (R r) (s + y) := by
  pointwise [k0_pay83]
  rw [eh_apply b q kt z s hz, L, hm]
  by_cases h : s + (y : ℕ) < R r <;> simp [h, Scalar.select]

include hl hm hz hs ht in
theorem remh_apply (r : Fin 256) (y : Fin 512) :
    k0_pay84 v7 v9 b q tail kt (ix2 r y) = T (z r) (R r) (s + y + 1) := by
  pointwise [k0_pay84]
  simp only [lh_apply b q v7 kt z R s hm hz, hl, ht]
  exact rem_eq _ _ _ _ _ y.isLt hs

include hl hm hz hs ht in
theorem tailh_apply (r : Fin 256) : k0_pay85 v7 v9 b q tail kt (ix2 r 0) = T (z r) (R r) s := by
  pointwise [k0_pay85]
  rw [remh_apply v9 b q v7 tail kt z R s hl hm hz hs ht, lh_apply b q v7 kt z R s hm hz]
  exact T_head _ _ _ (by omega)

include hl hm hz hv hs ht ha in
theorem acch_apply (r : Fin 256) (d : Fin 64) :
    k0_pay86 v7 v9 b q tail acc kt vt (ix2 r d) = A (z r) (v d) (R r) s := by
  pointwise [k0_pay86]
  simp only [remh_apply v9 b q v7 tail kt z R s hl hm hz hs ht, eh_apply b q kt z s hz, zh_apply b q kt z s hz, hv, ha, hm]
  rw [← acc_eq (z r) (v d) (R r) 512 s hs]
  congr 1
  refine Finset.sum_congr rfl fun y _ => ?_
  rw [wgt]
  by_cases h : s + (y : ℕ) < R r <;> simp [h, Scalar.select]

end High

/-! ## The lower half of the diagonal's tile: 256 keys, masked -/

section Low

variable (v9 : FVec Ideal S512x512 .bf16) (b : Elt Ideal .f32) (q : FVec Ideal S256x64 .bf16)
  (v4 : IVec S256x256 1)
  (kt vt : Vec Ideal S1x64x512 .f32)
  (z : Fin 256 → ℕ → EReal) (v : Fin 64 → ℕ → EReal) (R : Fin 256 → ℕ) (s : ℕ)
  (hl : ∀ x y : Fin 512, v9 (ix2 x y) = if (y : ℕ) < (x : ℕ) then 1 else 0)
  (hm : ∀ (r : Fin 256) (y : Fin 256), v4 (ix2 r y) = if s + (y : ℕ) < R r then 1#1 else 0#1)
  (hz : ∀ (r : Fin 256) (y : Fin 512), ∑ x : Fin 64, q (ix2 r x) * kt (ix3 0 x y) + b = z r (s + y))
  (hv : ∀ (d : Fin 64) (y : Fin 512), vt (ix3 0 d y) = v d (s + y))
  (hs : s + 256 ≤ 2048) (hR : ∀ r, R r ≤ s + 256)

include hz in
theorem zl_apply (r : Fin 256) (y : Fin 256) : k0_pay74 b q kt (ix2 r y) = z r (s + y) := by
  pointwise [k0_pay74, k0_pay71]
  exact hz r ⟨y, by omega⟩

include hz in
theorem el_apply (r : Fin 256) (y : Fin 256) : k0_pay75 b q kt (ix2 r y) = ellf (z r (s + y)) := by
  pointwise [k0_pay75]
  rw [zl_apply b q kt z s hz]; rfl

include hm hz in
theorem ll_apply (r : Fin 256) (y : Fin 256) : k0_pay76 v4 b q kt (ix2 r y) = L (z r) (R r) (s + y) := by
  pointwise [k0_pay76]
  rw [el_apply b q kt z s hz, L, hm]
  by_cases h : s + (y : ℕ) < R r <;> simp [h, Scalar.select]

include hl hm hz hs hR in
theorem reml_apply (r : Fin 256) (y : Fin 256) :
    k0_pay77 v4 v9 b q kt (ix2 r y) = T (z r) (R r) (s + y + 1) := by
  pointwise [k0_pay77, k0_pay69]
  simp only [ll_apply b q v4 kt z R s hm hz, hl]
  rw [← rem_eq _ _ 256 s y y.isLt hs, T_of_le _ _ _ (hR r), add_zero]

include hl hm hz hs hR in
theorem taill_apply (r : Fin 256) : k0_pay79 (k0_pay76 v4 b q kt) (k0_pay77 v4 v9 b q kt) (ix2 r 0) = T (z r) (R r) s := by
  pointwise [k0_pay79]
  rw [reml_apply v9 b q v4 kt z R s hl hm hz hs hR, ll_apply b q v4 kt z R s hm hz]
  exact T_head _ _ _ (by omega)

include hl hm hz hv hs hR in
theorem accl_apply (r : Fin 256) (d : Fin 64) :
    k0_pay80 v4 k0_pay70 (k0_pay73 vt) (k0_pay78 v4 v9 b q kt) (Scalar.ofBits .f32 0x00000000#32) (ix2 r d) = A (z r) (v d) (R r) s := by
  have hv' : ∀ y : Fin 256, k0_pay73 vt (ix2 d y) = v d (s + y) := fun y => by
    pointwise [k0_pay73, k0_pay72]
    exact hv d ⟨y, by omega⟩
  have hw : ∀ y : Fin 256, k0_pay78 v4 v9 b q kt (ix2 r y)
      = Ideal.exp (z r (s + y) + ellf (z r (s + y)) + T (z r) (R r) (s + y + 1)) := fun y => by
    pointwise [k0_pay78]
    rw [reml_apply v9 b q v4 kt z R s hl hm hz hs hR, el_apply b q kt z s hz, zl_apply b q kt z s hz]
  pointwise [k0_pay80, k0_pay70]
  simp only [hw, hv', hm]
  rw [← acc_eq (z r) (v d) (R r) 256 s hs, A_of_le _ _ _ _ (hR r), zero_add]
  refine Finset.sum_congr rfl fun y _ => ?_
  rw [wgt]
  by_cases h : s + (y : ℕ) < R r <;> simp [h, Scalar.select]

end Low

end Cert.KernelIdeal.Sb
end
-- ==== Proof.Sb.Loop.lean ====
module

public import proofs.«01_k».proof.Proof.Gen.KernelIdeal.Value
public import Idealize.ShloMosaic.Lib.Pipeline.ValueKit
public import proofs.«01_k».proof.Proof.Sb.Tile

@[expose] public section

set_option maxRecDepth 16384

noncomputable section

namespace Cert.KernelIdeal.Sb

open Cert.KernelIdeal Cert.KernelIdeal.Gen Idealize.ShloMosaic Idealize.ShloMosaic.TcCoe Idealize.SL.Sem
open Idealize.ShloMosaic.Pipeline Cert.Sb

/-! ## Rectangles and trip counts -/

theorem ld3 (x : Vec Ideal S1x128x2048 .f32) (off : Fin 3 → ℕ) (o1 o2 : ℕ) (h : off = ![0, o1, o2])
    (inb : ∀ a, off a + (![1, 64, 512] : Fin 3 → ℕ) a ≤ S1x128x2048.size a) (d : Fin 64) (y : Fin 512)
    (h1 : o1 + (d : ℕ) < 128) (h2 : o2 + (y : ℕ) < 2048) :
    View.ld x (Rect.unit off ![1, 64, 512] inb) (ix3 0 d y) = x (ix3 0 ⟨o1 + d, h1⟩ ⟨o2 + y, h2⟩) := by
  subst h
  pointwise

theorem trips1 (i : grid0.Coords) : (k0_t1_loop i).trips = (i 2).val := by
  have h : ∀ n < 4, (Scf.Loop.trips (⟨0#32, Scalar.addi 0#32 (Scalar.muli (Scalar.divsi (Scalar.subi (BitVec.ofNat 32 n) 0#32) 1#32) 1#32), 1#32⟩ : Scf.Loop 32)) = n := by
    decide +kernel
  exact h _ (i 2).isLt

theorem trips2 (i : grid0.Coords) : (k0_t2_loop i).trips = 0 := by
  have h : ∀ n < 4, (Scf.Loop.trips (⟨Scalar.addi 0#32 (Scalar.muli (Scalar.divsi (Scalar.subi (BitVec.ofNat 32 n) 0#32) 1#32) 1#32), Scalar.addi 0#32 (Scalar.subi (BitVec.ofNat 32 n) 0#32), 1#32⟩ : Scf.Loop 32)) = 0 := by
    decide +kernel
  exact h _ (i 2).isLt

theorem off4 (i : grid0.Coords) (k : Fin (k0_t1_loop i).trips) :
    k0_off4 i k = ![0, 0, 512 * ((i 2).val - 1 - k)] := by
  have h : ∀ n < 4, ∀ k < n, (Scalar.indexCast (Scalar.muli (Scalar.subi (Scalar.subi (BitVec.ofNat 32 n) 1#32) (Scf.iv 0#32 1#32 k)) 512#32) : BitVec 32).toNat = 512 * (n - 1 - k) := by
    decide +kernel
  have hk : (k : ℕ) < (i 2).val := lt_of_lt_of_eq k.isLt (trips1 i)
  exact congrArg (fun n => ![0, 0, n]) (h _ (i 2).isLt _ hk)

theorem off5 (i : grid0.Coords) (k : Fin (k0_t1_loop i).trips) :
    k0_off5 i k = ![0, 64, 512 * ((i 2).val - 1 - k)] := by
  have := off4 i k
  exact congrArg (fun n => ![0, 64, n]) (congrFun this 2)

theorem off2 (i : grid0.Coords) : k0_off2 i = ![0, 0, 512 * (i 2).val] := by
  have h : ∀ n < 4, (Scalar.indexCast (Scalar.muli (BitVec.ofNat 32 n) 512#32) : BitVec 32).toNat = 512 * n := by
    decide +kernel
  exact congrArg (fun n => ![0, 0, n]) (h _ (i 2).isLt)

theorem off3 (i : grid0.Coords) : k0_off3 i = ![0, 64, 512 * (i 2).val] :=
  congrArg (fun n => ![0, 64, n]) (congrFun (off2 i) 2)

/-! ## A head's scores and values, as functions of the key's position -/

/-- The scores of the queries `q` against the keys at rows `o …` of the block, the bias added. -/
def Z (x3 : Vec Ideal S1x128x2048 .f32) (o : Fin 65) (q : FVec Ideal S256x64 .bf16) (b : Elt Ideal .f32)
    (r : Fin 256) (k : ℕ) : EReal :=
  if h : k < 2048 then ∑ x : Fin 64, q (ix2 r x) * x3 (ix3 0 ⟨o + x, by omega⟩ ⟨k, h⟩) + b else 0

/-- The values at row `o + d` of the block. -/
def W (x4 : Vec Ideal S1x128x2048 .f32) (o : Fin 65) (d : Fin 64) (k : ℕ) : EReal :=
  if h : k < 2048 then x4 (ix3 0 ⟨o + d, by omega⟩ ⟨k, h⟩) else 0

theorem Z_ld (x3 : Vec Ideal S1x128x2048 .f32) (o : Fin 65) (q : FVec Ideal S256x64 .bf16) (b : Elt Ideal .f32)
    (off : Fin 3 → ℕ) (s : ℕ) (h : off = ![0, (o : ℕ), s]) (inb : ∀ a, off a + (![1, 64, 512] : Fin 3 → ℕ) a ≤ S1x128x2048.size a)
    (hs : s + 512 ≤ 2048) (r : Fin 256) (y : Fin 512) :
    ∑ x : Fin 64, q (ix2 r x) * View.ld x3 (Rect.unit off ![1, 64, 512] inb) (ix3 0 x y) + b = Z x3 o q b r (s + y) := by
  have hy : s + (y : ℕ) < 2048 := by omega
  rw [Z, dif_pos hy]
  congr 1
  refine Finset.sum_congr rfl fun x _ => ?_
  rw [ld3 x3 off o s h inb x y (by omega) hy]

theorem W_ld (x4 : Vec Ideal S1x128x2048 .f32) (o : Fin 65)
    (off : Fin 3 → ℕ) (s : ℕ) (h : off = ![0, (o : ℕ), s]) (inb : ∀ a, off a + (![1, 64, 512] : Fin 3 → ℕ) a ≤ S1x128x2048.size a)
    (hs : s + 512 ≤ 2048) (d : Fin 64) (y : Fin 512) :
    View.ld x4 (Rect.unit off ![1, 64, 512] inb) (ix3 0 d y) = W x4 o d (s + y) := by
  have hy : s + (y : ℕ) < 2048 := by omega
  rw [W, dif_pos hy, ld3 x4 off o s h inb d y (by omega) hy]

/-- A carried pair holds the sums over the keys from `s` on. -/
def Good (z : Fin 256 → ℕ → EReal) (v : Fin 64 → ℕ → EReal) (R : Fin 256 → ℕ) (s : ℕ)
    (tail : FVec Ideal S256x1 .f32) (acc : FVec Ideal S256x64 .f32) : Prop :=
  (∀ r, tail (ix2 r 0) = T (z r) (R r) s) ∧ ∀ r d, acc (ix2 r d) = A (z r) (v d) (R r) s

/-- The eight carried arrays hold the four pairs' sums over the keys from `s` on. -/
def Good4 (x3 x4 : Vec Ideal S1x128x2048 .f32) (b0 b1 : Elt Ideal .f32) (q0 q1 q2 q3 : FVec Ideal S256x64 .bf16) (n s : ℕ)
    (w : FVec Ideal S256x1 .f32 × FVec Ideal S256x64 .f32 × FVec Ideal S256x1 .f32 × FVec Ideal S256x64 .f32 × FVec Ideal S256x1 .f32 × FVec Ideal S256x64 .f32 × FVec Ideal S256x1 .f32 × FVec Ideal S256x64 .f32) : Prop :=
  Good (Z x3 0 q0 b0) (W x4 0) (fun r => 512 * n + r) s w.1 w.2.1 ∧
  Good (Z x3 0 q1 b0) (W x4 0) (fun r => 512 * n + 256 + r) s w.2.2.1 w.2.2.2.1 ∧
  Good (Z x3 64 q2 b1) (W x4 64) (fun r => 512 * n + r) s w.2.2.2.2.1 w.2.2.2.2.2.1 ∧
  Good (Z x3 64 q3 b1) (W x4 64) (fun r => 512 * n + 256 + r) s w.2.2.2.2.2.2.1 w.2.2.2.2.2.2.2

theorem step (v9 : FVec Ideal S512x512 .bf16) (b : Elt Ideal .f32) (q : FVec Ideal S256x64 .bf16)
    (tail : FVec Ideal S256x1 .f32) (acc : FVec Ideal S256x64 .f32) (x3 x4 : Vec Ideal S1x128x2048 .f32) (o : Fin 65)
    (off : Fin 3 → ℕ) (s : ℕ) (h : off = ![0, (o : ℕ), s]) (inb : ∀ a, off a + (![1, 64, 512] : Fin 3 → ℕ) a ≤ S1x128x2048.size a)
    (R : Fin 256 → ℕ)
    (hl : ∀ x y : Fin 512, v9 (ix2 x y) = if (y : ℕ) < (x : ℕ) then 1 else 0)
    (hs : s + 512 ≤ 2048) (hR : ∀ r, s + 512 ≤ R r)
    (hg : Good (Z x3 o q b) (W x4 o) R (s + 512) tail acc) :
    Good (Z x3 o q b) (W x4 o) R s (k0_pay31 v9 b q tail (View.ld x3 (Rect.unit off ![1, 64, 512] inb)))
      (k0_pay32 v9 b q tail acc (View.ld x3 (Rect.unit off ![1, 64, 512] inb)) (View.ld x4 (Rect.unit off ![1, 64, 512] inb))) :=
  ⟨tail_apply v9 b q tail _ _ R s hl (Z_ld x3 o q b off s h inb hs) hs hR hg.1,
   acc_apply v9 b q tail acc _ _ _ _ R s hl (Z_ld x3 o q b off s h inb hs) (W_ld x4 o off s h inb hs) hs hR hg.1 hg.2⟩

section Trip

variable (𝒱 : Variants) (c : Dev nD) (bd : Option 𝒱.V) (i : grid0.Coords) (arg3 : Memref sig .tc .smem S1x16 .f32) (harg3 : arg3.IsWhole) (arg4 : Memref sig .tc .vmem S512x512 .bf16) (harg4 : arg4.IsWhole) (arg5 : Memref sig .tc .vmem S1x512x128 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x512x128 .f32) (harg8 : arg8.IsWhole) (arg2 : BitVec 32) (v9 : FVec Ideal S512x512 .bf16) (v15 : Elt Ideal .f32) (v19 : Elt Ideal .f32) (v24 : FVec Ideal S256x64 .bf16) (v29 : FVec Ideal S256x64 .bf16) (v34 : FVec Ideal S256x64 .bf16) (v39 : FVec Ideal S256x64 .bf16) (x3 x4 : Vec Ideal S1x128x2048 .f32)

theorem trip_good (hl : ∀ x y : Fin 512, v9 (ix2 x y) = if (y : ℕ) < (x : ℕ) then 1 else 0)
    (k : Fin (k0_t1_loop i).trips) (w)
    (hw : Good4 x3 x4 v15 v19 v24 v29 v34 v39 (i 2).val (512 * ((i 2).val - k)) w) :
    Good4 x3 x4 v15 v19 v24 v29 v34 v39 (i 2).val (512 * ((i 2).val - (k + 1)))
      (tripR_k0_t1 𝒱 c bd i arg3 harg3 arg4 harg4 arg5 harg5 arg6 harg6 arg7 harg7 arg8 harg8 arg2 v9 v15 v19 v24 v29 v34 v39 (harg6.unread x3) (harg7.unread x4) k w) := by
  have hk : (k : ℕ) < (i 2).val := lt_of_lt_of_eq k.isLt (trips1 i)
  have hn : (i 2).val < 4 := (i 2).isLt
  have e1 : 512 * ((i 2).val - k) = 512 * ((i 2).val - 1 - k) + 512 := by omega
  have e2 : 512 * ((i 2).val - (k + 1)) = 512 * ((i 2).val - 1 - k) := by omega
  rw [e1] at hw
  rw [e2]
  obtain ⟨h1, h2, h3, h4⟩ := hw
  unfold tripR_k0_t1 trip_k0_t1
  dsimp only
  frame_out
  have s1 := step v9 v15 v24 _ _ x3 x4 0 (k0_off4 i k) _ (off4 i k) (k0_off4_inb i k) _ hl (by omega) (fun r => by omega) h1
  have s2 := step v9 v15 v29 _ _ x3 x4 0 (k0_off4 i k) _ (off4 i k) (k0_off4_inb i k) _ hl (by omega) (fun r => by omega) h2
  have s3 := step v9 v19 v34 _ _ x3 x4 64 (k0_off5 i k) _ (off5 i k) (k0_off5_inb i k) _ hl (by omega) (fun r => by omega) h3
  have s4 := step v9 v19 v39 _ _ x3 x4 64 (k0_off5 i k) _ (off5 i k) (k0_off5_inb i k) _ hl (by omega) (fun r => by omega) h4
  exact ⟨s1, s2, s3, s4⟩

theorem st_good (hl : ∀ x y : Fin 512, v9 (ix2 x y) = if (y : ℕ) < (x : ℕ) then 1 else 0) (w)
    (hw : Good4 x3 x4 v15 v19 v24 v29 v34 v39 (i 2).val (512 * (i 2).val) w) (k : ℕ) (hk : k ≤ (k0_t1_loop i).trips) :
    Good4 x3 x4 v15 v19 v24 v29 v34 v39 (i 2).val (512 * ((i 2).val - k))
      (st_k0_t1 𝒱 c bd i arg3 harg3 arg4 harg4 arg5 harg5 arg6 harg6 arg7 harg7 arg8 harg8 arg2 v9 v15 v19 v24 v29 v34 v39 (harg6.unread x3) (harg7.unread x4) w k) := by
  induction k with
  | zero => rw [st_k0_t1_zero]; exact hw
  | succ k ih =>
    have := trip_good 𝒱 c bd i arg3 harg3 arg4 harg4 arg5 harg5 arg6 harg6 arg7 harg7 arg8 harg8 arg2 v9 v15 v19 v24 v29 v34 v39 x3 x4 hl ⟨k, hk⟩ _ (ih (by omega))
    rw [show k + 1 = ((⟨k, hk⟩ : Fin (k0_t1_loop i).trips) : ℕ) + 1 from rfl, st_k0_t1_succ]
    exact this

theorem loops_good (hl : ∀ x y : Fin 512, v9 (ix2 x y) = if (y : ℕ) < (x : ℕ) then 1 else 0) (v196 : BitVec 32) (w)
    (hw : Good4 x3 x4 v15 v19 v24 v29 v34 v39 (i 2).val (512 * (i 2).val) w) :
    Good4 x3 x4 v15 v19 v24 v29 v34 v39 (i 2).val 0
      (st_k0_t2 𝒱 c bd i arg3 harg3 arg4 harg4 arg5 harg5 arg6 harg6 arg7 harg7 arg8 harg8 arg2 v9 v15 v19 v24 v29 v34 v39 v196 (harg6.unread x3) (harg7.unread x4)
        (st_k0_t1 𝒱 c bd i arg3 harg3 arg4 harg4 arg5 harg5 arg6 harg6 arg7 harg7 arg8 harg8 arg2 v9 v15 v19 v24 v29 v34 v39 (harg6.unread x3) (harg7.unread x4) w (k0_t1_loop i).trips)
        (k0_t2_loop i).trips) := by
  rw [trips2, st_k0_t2_zero]
  have := st_good 𝒱 c bd i arg3 harg3 arg4 harg4 arg5 harg5 arg6 harg6 arg7 harg7 arg8 harg8 arg2 v9 v15 v19 v24 v29 v34 v39 x3 x4 hl w hw (k0_t1_loop i).trips le_rfl
  rw [show (i 2).val - (k0_t1_loop i).trips = 0 by rw [trips1]; omega] at this
  exact this

end Trip

end Cert.KernelIdeal.Sb
end
-- ==== Proof.Sb.Read.lean ====
module

public import proofs.«01_k».proof.Proof.Gen.KernelIdeal.Value
public import Idealize.ShloMosaic.Lib.Pipeline.ValueKit
public import proofs.«01_k».proof.Proof.Sb.Loop

@[expose] public section

set_option maxRecDepth 16384

noncomputable section

namespace Cert.KernelIdeal.Sb

open Cert.KernelIdeal Cert.KernelIdeal.Gen Idealize.ShloMosaic Idealize.ShloMosaic.TcCoe Idealize.SL.Sem
open Idealize.ShloMosaic.Pipeline Cert.Sb

variable (m : (ℓ : Loc nD τ sig) → Buf (Elt Ideal) ℓ)

theorem idx0 : ∀ t : Fin cfg0.N, win0_0.index t = ![0, 0] :=
  (by decide +kernel : ∀ t : Fin grid0.N, _)

theorem idx1 : ∀ t : Fin cfg0.N, win0_1.index t = ![0, 0] :=
  (by decide +kernel : ∀ t : Fin grid0.N, _)

theorem idx2 : ∀ t : Fin cfg0.N, win0_2.index t = ![(grid0.coords t 0).val, (grid0.coords t 2).val, (grid0.coords t 1).val] :=
  (by decide +kernel : ∀ t : Fin grid0.N, _)

theorem idx3 : ∀ t : Fin cfg0.N, win0_3.index t = ![(grid0.coords t 0).val, (grid0.coords t 1).val, 0] :=
  (by decide +kernel : ∀ t : Fin grid0.N, _)

theorem idx4 : ∀ t : Fin cfg0.N, win0_4.index t = ![(grid0.coords t 0).val, (grid0.coords t 1).val, 0] :=
  (by decide +kernel : ∀ t : Fin grid0.N, _)

theorem idx5 : ∀ t : Fin cfg0.N, win0_5.index t = ![(grid0.coords t 0).val, (grid0.coords t 2).val, (grid0.coords t 1).val] :=
  (by decide +kernel : ∀ t : Fin grid0.N, _)
/-- The batch, the pair of heads and the tile of queries of point `t`. -/
def cb (t : Fin cfg0.N) : Fin 8 := grid0.coords t 0
def ch (t : Fin cfg0.N) : Fin 8 := grid0.coords t 1
def cm (t : Fin cfg0.N) : Fin 4 := grid0.coords t 2

/-- The matrix of later keys, as the host computes it. -/
def later : FVec Ideal S512x512 .bf16 := uitofp .bf16 (cmpi .sgt (iotaInDim S512x512 32 0) (iotaInDim S512x512 32 1))

theorem later_apply (x y : Fin 512) : later (ix2 x y) = if (y : ℕ) < (x : ℕ) then 1 else 0 := by
  pointwise [later]
  rw [WordCmp.cmpi_sgt_ofNat (by omega) (by omega)]
  by_cases h : (y : ℕ) < (x : ℕ) <;> simp [h, FloatOps.uitofp]

theorem rd1 (c : Dev nD) (t : Fin cfg0.N) (x y : Fin 512) :
    iblk m c 1 t (ix2 x y) = later (ix2 x y) := by
  have e : iblk m c 1 t (ix2 x y) = V m c main_v9 (ix2 x y) := by
    blk_simp [iblk]
    blk_ext [idx1 t]
  rw [e]
  entry_read
  rfl

theorem rd0 (c : Dev nD) (t : Fin cfg0.N) (y : Fin 16) :
    iblk m c 0 t (ix2 0 y) = m ((c : Thread nD τ).loc main_arg3) (ix1 y) := by
  blk_simp [iblk]
  entry_read
  pointwise
  blk_ext [idx0 t]

theorem rd2 (c : Dev nD) (t : Fin cfg0.N) (p : Fin 512) (e : Fin 128) :
    iblk m c 2 t (ix3 0 p e) = m ((c : Thread nD τ).loc main_arg0)
      (ix4 (cb t) ⟨512 * (cm t) + p, by omega⟩ ⟨2 * (ch t) + e / 64, by omega⟩ ⟨e % 64, by omega⟩) := by
  blk_simp [iblk]
  entry_read
  pointwise
  blk_ext [idx2 t, cb, cm, ch]

theorem rd3 (c : Dev nD) (t : Fin cfg0.N) (e : Fin 128) (κ : Fin 2048) :
    iblk m c 3 t (ix3 0 e κ) = m ((c : Thread nD τ).loc main_arg1)
      (ix4 (cb t) κ ⟨2 * (ch t) + e / 64, by omega⟩ ⟨e % 64, by omega⟩) := by
  blk_simp [iblk]
  entry_read
  pointwise
  blk_ext [idx3 t, cb, ch]

theorem rd4 (c : Dev nD) (t : Fin cfg0.N) (e : Fin 128) (κ : Fin 2048) :
    iblk m c 4 t (ix3 0 e κ) = m ((c : Thread nD τ).loc main_arg2)
      (ix4 (cb t) κ ⟨2 * (ch t) + e / 64, by omega⟩ ⟨e % 64, by omega⟩) := by
  blk_simp [iblk]
  entry_read
  pointwise
  blk_ext [idx4 t, cb, ch]
end Cert.KernelIdeal.Sb
end
-- ==== Proof.Sb.Point.lean ====
module

public import proofs.«01_k».proof.Proof.Gen.KernelIdeal.Value
public import Idealize.ShloMosaic.Lib.Pipeline.ValueKit
public import proofs.«01_k».proof.Proof.Sb.Read

@[expose] public section

set_option maxRecDepth 16384

noncomputable section

namespace Cert.KernelIdeal.Sb

open Cert.KernelIdeal Cert.KernelIdeal.Gen Idealize.ShloMosaic Idealize.ShloMosaic.TcCoe Idealize.SL.Sem
open Idealize.ShloMosaic.Pipeline Cert.Sb

variable (m : (ℓ : Loc nD τ sig) → Buf (Elt Ideal) ℓ)

theorem off1 (i : grid0.Coords) (hh : Fin 2) : k0_off1 i (BitVec.ofNat 32 hh) = ![0, 2 * (i 1).val + hh] := by
  have h : ∀ n < 8, ∀ hh < 2, (Scalar.indexCast (Scalar.addi (Scalar.muli 2#32 (BitVec.ofNat 32 n)) (BitVec.ofNat 32 hh)) : BitVec 32).toNat = 2 * n + hh := by
    decide +kernel
  exact congrArg (fun n => ![0, n]) (h _ (i 1).isLt hh hh.isLt)

/-- The scores of the query at row `p`, against the keys of the head that lane `e` belongs to. -/
def zrow (x0 : Vec Ideal S1x16 .f32) (x2 : Vec Ideal S1x512x128 .f32) (x3 : Vec Ideal S1x128x2048 .f32) (hp : Fin 8)
    (p : Fin 512) (e : Fin 128) (κ : ℕ) : EReal :=
  if h : κ < 2048 then
    ∑ x : Fin 64, x2 (ix3 0 p ⟨64 * (e / 64) + x, by omega⟩) * Ideal.ofBits .f32 0x3E000000#32
      * x3 (ix3 0 ⟨64 * (e / 64) + x, by omega⟩ ⟨κ, h⟩) + x0 (ix2 0 ⟨2 * hp + e / 64, by omega⟩)
  else 0

/-- The values of lane `e`. -/
def vrow (x4 : Vec Ideal S1x128x2048 .f32) (e : Fin 128) (κ : ℕ) : EReal :=
  if h : κ < 2048 then x4 (ix3 0 e ⟨κ, h⟩) else 0

theorem good_low (v9 : FVec Ideal S512x512 .bf16) (b : Elt Ideal .f32) (q : FVec Ideal S256x64 .bf16)
    (x3 x4 : Vec Ideal S1x128x2048 .f32) (o : Fin 65)
    (off : Fin 3 → ℕ) (n : ℕ) (h : off = ![0, (o : ℕ), 512 * n]) (hn : n < 4) (inb : ∀ a, off a + (![1, 64, 512] : Fin 3 → ℕ) a ≤ S1x128x2048.size a)
    (hl : ∀ x y : Fin 512, v9 (ix2 x y) = if (y : ℕ) < (x : ℕ) then 1 else 0) :
    Good (Z x3 o q b) (W x4 o) (fun r => 512 * n + r) (512 * n)
      (k0_pay79 (k0_pay76 k0_pay62 b q (View.ld x3 (Rect.unit off ![1, 64, 512] inb))) (k0_pay77 k0_pay62 v9 b q (View.ld x3 (Rect.unit off ![1, 64, 512] inb))))
      (k0_pay80 k0_pay62 k0_pay70 (k0_pay73 (View.ld x4 (Rect.unit off ![1, 64, 512] inb))) (k0_pay78 k0_pay62 v9 b q (View.ld x3 (Rect.unit off ![1, 64, 512] inb))) (Scalar.ofBits .f32 0x00000000#32)) := by
  have hm : ∀ (r : Fin 256) (y : Fin 256), k0_pay62 (ix2 r y) = if 512 * n + (y : ℕ) < 512 * n + r then 1#1 else 0#1 := by
    intro r y
    pointwise [k0_pay62]
    rw [WordCmp.cmpi_slt_ofNat (by omega) (by omega)]
    by_cases hy : (y : ℕ) < (r : ℕ) <;> simp [hy]
  exact ⟨taill_apply v9 b q _ _ _ _ _ hl hm (Z_ld x3 o q b off _ h inb (by omega)) (by omega) (fun r => by omega),
    accl_apply v9 b q _ _ _ _ _ _ _ hl hm (Z_ld x3 o q b off _ h inb (by omega)) (W_ld x4 o off _ h inb (by omega)) (by omega) (fun r => by omega)⟩

theorem good_high (v9 : FVec Ideal S512x512 .bf16) (b : Elt Ideal .f32) (q : FVec Ideal S256x64 .bf16)
    (x3 x4 : Vec Ideal S1x128x2048 .f32) (o : Fin 65)
    (off : Fin 3 → ℕ) (n : ℕ) (h : off = ![0, (o : ℕ), 512 * n]) (hn : n < 4) (inb : ∀ a, off a + (![1, 64, 512] : Fin 3 → ℕ) a ≤ S1x128x2048.size a)
    (hl : ∀ x y : Fin 512, v9 (ix2 x y) = if (y : ℕ) < (x : ℕ) then 1 else 0) :
    Good (Z x3 o q b) (W x4 o) (fun r => 512 * n + 256 + r) (512 * n)
      (k0_pay85 k0_pay63 v9 b q k0_pay69 (k0_pay71 (View.ld x3 (Rect.unit off ![1, 64, 512] inb))))
      (k0_pay86 k0_pay63 v9 b q k0_pay69 k0_pay70 (k0_pay71 (View.ld x3 (Rect.unit off ![1, 64, 512] inb))) (k0_pay72 (View.ld x4 (Rect.unit off ![1, 64, 512] inb)))) := by
  have hm : ∀ (r : Fin 256) (y : Fin 512), k0_pay63 (ix2 r y) = if 512 * n + (y : ℕ) < 512 * n + 256 + r then 1#1 else 0#1 := by
    intro r y
    pointwise [k0_pay63]
    have e : IntOp.addi (BitVec.ofNat 32 (r : ℕ)) 256#32 = BitVec.ofNat 32 (256 + r) := by
      rw [add_comm, BitVec.ofNat_add]; rfl
    rw [e, WordCmp.cmpi_slt_ofNat (by omega) (by omega)]
    by_cases hy : (y : ℕ) < 256 + (r : ℕ)
    · simp [hy, add_assoc]
    · simp [hy, add_assoc]
  have hz : ∀ (r : Fin 256) (y : Fin 512), ∑ x : Fin 64, q (ix2 r x) * k0_pay71 (View.ld x3 (Rect.unit off ![1, 64, 512] inb)) (ix2 x y) + b = Z x3 o q b r (512 * n + y) := by
    intro r y
    rw [← Z_ld x3 o q b off _ h inb (by omega)]
    pointwise [k0_pay71]
  have hv : ∀ (d : Fin 64) (y : Fin 512), k0_pay72 (View.ld x4 (Rect.unit off ![1, 64, 512] inb)) (ix2 d y) = W x4 o d (512 * n + y) := by
    intro d y
    rw [← W_ld x4 o off _ h inb (by omega)]
    pointwise [k0_pay72]
  have ht : ∀ r : Fin 256, k0_pay69 (F := Ideal) (ix2 r 0) = T (Z x3 o q b r) (512 * n + 256 + r) (512 * n + 512) := by
    intro r
    rw [T_of_le _ _ _ (by omega)]
    pointwise [k0_pay69]
  have ha : ∀ (r : Fin 256) (d : Fin 64), k0_pay70 (F := Ideal) (ix2 r d) = A (Z x3 o q b r) (W x4 o d) (512 * n + 256 + r) (512 * n + 512) := by
    intro r d
    rw [A_of_le _ _ _ _ (by omega)]
    pointwise [k0_pay70]
  exact ⟨tailh_apply v9 b q _ _ _ _ (fun r => 512 * n + 256 + r) _ hl hm hz (by omega) ht,
    acch_apply v9 b q _ _ _ _ _ _ _ (fun r => 512 * n + 256 + r) _ hl hm hz hv (by omega) ht ha⟩

theorem later_eq (c : Dev nD) (t : Fin cfg0.N) (x y : Fin 512) :
    k0_pay64 (iblk m c 1 t) (ix2 x y) = if (y : ℕ) < (x : ℕ) then 1 else 0 := by
  pointwise [k0_pay64]
  exact (rd1 m c t x y).trans (later_apply x y)

theorem Z_eq_zrow (x0 : Vec Ideal S1x16 .f32) (x2 : Vec Ideal S1x512x128 .f32) (x3 : Vec Ideal S1x128x2048 .f32) (hp : Fin 8)
    (o : Fin 65) (q : FVec Ideal S256x64 .bf16) (b : Elt Ideal .f32) (r : Fin 256) (p : Fin 512) (e : Fin 128)
    (ho : (o : ℕ) = 64 * (e / 64)) (hq : ∀ x : Fin 64, q (ix2 r x) = x2 (ix3 0 p ⟨o + x, by omega⟩) * Ideal.ofBits .f32 0x3E000000#32)
    (hb : b = x0 (ix2 0 ⟨2 * hp + e / 64, by omega⟩)) : Z x3 o q b r = zrow x0 x2 x3 hp p e := by
  funext κ
  unfold Z zrow
  by_cases h : κ < 2048
  · rw [dif_pos h, dif_pos h, hb]
    congr 1
    refine Finset.sum_congr rfl fun x _ => ?_
    have eo : (⟨o + x, by omega⟩ : Fin 128) = ⟨64 * (e / 64) + x, by omega⟩ := Fin.ext (by simp [ho])
    rw [hq, eo]
  · rw [dif_neg h, dif_neg h]

theorem W_eq_vrow (x4 : Vec Ideal S1x128x2048 .f32) (o : Fin 65) (d : Fin 64) (e : Fin 128) (h : (e : ℕ) = o + d) :
    W x4 o d = vrow x4 e := by
  funext κ
  unfold W vrow
  have : (⟨o + d, by omega⟩ : Fin 128) = e := Fin.ext h.symm
  rw [this]

section Final

variable (x0 : Vec Ideal S1x16 .f32) (x2 : Vec Ideal S1x512x128 .f32) (x3 x4 : Vec Ideal S1x128x2048 .f32) (i : grid0.Coords)
  (inb0 : ∀ a, k0_off1 i 0#32 a + S1x1.size a ≤ S1x16.size a) (inb1 : ∀ a, k0_off1 i 1#32 a + S1x1.size a ≤ S1x16.size a)
  (hf : 0 < S1x1.numel)

theorem bias_ld (off : Fin 2 → ℕ) (o : ℕ) (h : off = ![0, o]) (inb : ∀ a, off a + S1x1.size a ≤ S1x16.size a) (ho : o < 16) :
    View.ld x0 (Rect.unit off ![1, 1] inb) (Shape.Idx.first hf) = x0 (ix2 0 ⟨o, ho⟩) := by
  subst h
  have e : (Shape.Idx.first hf : S1x1.Idx) = ix2 0 0 := by
    funext a
    have h1 : ∀ a : Fin 2, S1x1.size a = 1 := by decide
    refine Fin.ext ?_
    have h2 : (Shape.Idx.first hf a).val < 1 := lt_of_lt_of_eq (Shape.Idx.first hf a).isLt (h1 a)
    have h3 : ((ix2 0 0 : S1x1.Idx) a).val < 1 := lt_of_lt_of_eq ((ix2 0 0 : S1x1.Idx) a).isLt (h1 a)
    omega
  rw [e]
  pointwise

variable (w : FVec Ideal S256x1 .f32 × FVec Ideal S256x64 .f32 × FVec Ideal S256x1 .f32 × FVec Ideal S256x64 .f32 × FVec Ideal S256x1 .f32 × FVec Ideal S256x64 .f32 × FVec Ideal S256x1 .f32 × FVec Ideal S256x64 .f32)
  (hw : Good4 x3 x4 (View.ld x0 (Rect.unit (k0_off1 i 0#32) ![1, 1] inb0) (Shape.Idx.first hf))
     (View.ld x0 (Rect.unit (k0_off1 i 1#32) ![1, 1] inb1) (Shape.Idx.first hf))
     (k0_pay65 (View.ld x2 (Rect.unit ![0, 0, 0] ![1, 256, 64] inb_S1x512x128_S1x256x64_0_0_0)))
     (k0_pay66 (View.ld x2 (Rect.unit ![0, 256, 0] ![1, 256, 64] inb_S1x512x128_S1x256x64_0_256_0)))
     (k0_pay67 (View.ld x2 (Rect.unit ![0, 0, 64] ![1, 256, 64] inb_S1x512x128_S1x256x64_0_0_64)))
     (k0_pay68 (View.ld x2 (Rect.unit ![0, 256, 64] ![1, 256, 64] inb_S1x512x128_S1x256x64_0_256_64)))
     (i 2).val 0 w)

theorem A_congr {z z' v v' : ℕ → EReal} {R R' : ℕ} {a : EReal} (hz : z = z') (hv : v = v') (hR : R = R')
    (h : a = A z v R 0) : a = A z' v' R' 0 := by
  rw [h, hz, hv, hR]

include hw in
theorem out_low (x : S1x256x128.Idx) (p : Fin 512) (e : Fin 128) (hp : (p : ℕ) = x 1) (he : (e : ℕ) = x 2) :
    k0_pay24 w.2.1 w.2.2.2.2.2.1 x = A (zrow x0 x2 x3 (i 1) p e) (vrow x4 e) (512 * (i 2).val + p) 0 := by
  obtain ⟨h1, -, h3, -⟩ := hw
  have hn : (i 1).val < 8 := (i 1).isLt
  have hxl : ((x 2 : Fin 128) : ℕ) < 128 := (x 2).isLt
  have hx : ((x 2 : Fin 128) : ℕ) = e := he.symm
  have hx1 : ((x 1 : Fin 256) : ℕ) = p := hp.symm
  pointwise [k0_pay24]
  split
  · rename_i h
    have hx2 : (e : ℕ) < 64 := by omega
    refine A_congr (Z_eq_zrow x0 x2 x3 (i 1) 0 _ _ _ p e ?_ ?_ ?_) (W_eq_vrow x4 0 _ e ?_) ?_ ((h1.2 _ _).trans rfl)
    · show 0 = _
      omega
    · intro y
      pointwise [k0_pay65]
      refine congrArg (fun z => x2 z * _) ?_
      refine congr (congrArg (ix3 0) (Fin.ext ?_)) (Fin.ext ?_)
      · simpa using hp.symm
      · simp
    · refine (bias_ld x0 hf _ (2 * (i 1).val + 0) (off1 i 0) inb0 (by omega)).trans (congrArg (fun z => x0 (ix2 0 z)) (Fin.ext ?_))
      show 2 * (i 1).val + 0 = 2 * (i 1).val + (e : ℕ) / 64
      omega
    · show (e : ℕ) = 0 + (x 2 : Fin 128).val
      omega
    · show 512 * (i 2).val + ((x 1 : Fin 256) : ℕ) = _
      omega
  · rename_i h
    have hx2 : ¬ (e : ℕ) < 64 := by omega
    refine A_congr (Z_eq_zrow x0 x2 x3 (i 1) 64 _ _ _ p e ?_ ?_ ?_) (W_eq_vrow x4 64 _ e ?_) ?_ ((h3.2 _ _).trans rfl)
    · show 64 = _
      omega
    · intro y
      pointwise [k0_pay67]
      refine congrArg (fun z => x2 z * _) ?_
      refine congr (congrArg (ix3 0) (Fin.ext ?_)) (Fin.ext ?_)
      · simpa using hp.symm
      · simp
    · refine (bias_ld x0 hf _ (2 * (i 1).val + 1) (off1 i 1) inb1 (by omega)).trans (congrArg (fun z => x0 (ix2 0 z)) (Fin.ext ?_))
      show 2 * (i 1).val + 1 = 2 * (i 1).val + (e : ℕ) / 64
      omega
    · show (e : ℕ) = 64 + ((x 2 : Fin 128).val - 64)
      omega
    · show 512 * (i 2).val + ((x 1 : Fin 256) : ℕ) = _
      omega

include hw in
theorem out_high (x : S1x256x128.Idx) (p : Fin 512) (e : Fin 128) (hp : (p : ℕ) = 256 + x 1) (he : (e : ℕ) = x 2) :
    k0_pay25 w.2.2.2.1 w.2.2.2.2.2.2.2 x = A (zrow x0 x2 x3 (i 1) p e) (vrow x4 e) (512 * (i 2).val + p) 0 := by
  obtain ⟨-, h1, -, h3⟩ := hw
  have hn : (i 1).val < 8 := (i 1).isLt
  have hxl : ((x 2 : Fin 128) : ℕ) < 128 := (x 2).isLt
  have hx : ((x 2 : Fin 128) : ℕ) = e := he.symm
  have hx1 : 256 + ((x 1 : Fin 256) : ℕ) = p := hp.symm
  pointwise [k0_pay25]
  split
  · rename_i h
    have hx2 : (e : ℕ) < 64 := by omega
    refine A_congr (Z_eq_zrow x0 x2 x3 (i 1) 0 _ _ _ p e ?_ ?_ ?_) (W_eq_vrow x4 0 _ e ?_) ?_ ((h1.2 _ _).trans rfl)
    · show 0 = _
      omega
    · intro y
      pointwise [k0_pay66]
      refine congrArg (fun z => x2 z * _) ?_
      refine congr (congrArg (ix3 0) (Fin.ext ?_)) (Fin.ext ?_)
      · simpa using hp.symm
      · simp
    · refine (bias_ld x0 hf _ (2 * (i 1).val + 0) (off1 i 0) inb0 (by omega)).trans (congrArg (fun z => x0 (ix2 0 z)) (Fin.ext ?_))
      show 2 * (i 1).val + 0 = 2 * (i 1).val + (e : ℕ) / 64
      omega
    · show (e : ℕ) = 0 + (x 2 : Fin 128).val
      omega
    · show 512 * (i 2).val + 256 + ((x 1 : Fin 256) : ℕ) = _
      omega
  · rename_i h
    have hx2 : ¬ (e : ℕ) < 64 := by omega
    refine A_congr (Z_eq_zrow x0 x2 x3 (i 1) 64 _ _ _ p e ?_ ?_ ?_) (W_eq_vrow x4 64 _ e ?_) ?_ ((h3.2 _ _).trans rfl)
    · show 64 = _
      omega
    · intro y
      pointwise [k0_pay68]
      refine congrArg (fun z => x2 z * _) ?_
      refine congr (congrArg (ix3 0) (Fin.ext ?_)) (Fin.ext ?_)
      · simpa using hp.symm
      · simp
    · refine (bias_ld x0 hf _ (2 * (i 1).val + 1) (off1 i 1) inb1 (by omega)).trans (congrArg (fun z => x0 (ix2 0 z)) (Fin.ext ?_))
      show 2 * (i 1).val + 1 = 2 * (i 1).val + (e : ℕ) / 64
      omega
    · show (e : ℕ) = 64 + ((x 2 : Fin 128).val - 64)
      omega
    · show 512 * (i 2).val + 256 + ((x 1 : Fin 256) : ℕ) = _
      omega

end Final

set_option maxHeartbeats 2000000 in
theorem point (c : Dev nD) (t : Fin cfg0.N) (y : S1x512x128.Idx) :
    outsAt0 m c t y = A (zrow (iblk m c 0 t) (iblk m c 2 t) (iblk m c 3 t) (grid0.coords t 1) (y 1) (y 2))
      (vrow (iblk m c 4 t) (y 2)) (512 * (grid0.coords t 2).val + (y 1 : Fin 512)) 0 := by
  have hl := later_eq m c t
  have hn : (grid0.coords t 2).val < 4 := (grid0.coords t 2).isLt
  unfold outsAt0
  frame_out
  canon_tiles x h
  · refine out_high _ _ _ _ (grid0.coords t) _ _ _ _ (loops_good _ _ _ _ _ _ _ _ _ _ _ _ _ _ _ _ _ _ _ _ _ _ _ _ _ _ hl _ _ ?_) x (y 1) (y 2) ?_ ?_
    · exact ⟨good_low _ _ _ _ _ 0 _ _ (off2 _) hn _ hl, good_high _ _ _ _ _ 0 _ _ (off2 _) hn _ hl,
        good_low _ _ _ _ _ 64 _ _ (off3 _) hn _ hl, good_high _ _ _ _ _ 64 _ _ (off3 _) hn _ hl⟩
    · exact h1
    · simpa using h2
  · refine out_low _ _ _ _ (grid0.coords t) _ _ _ _ (loops_good _ _ _ _ _ _ _ _ _ _ _ _ _ _ _ _ _ _ _ _ _ _ _ _ _ _ hl _ _ ?_) x (y 1) (y 2) ?_ ?_
    · exact ⟨good_low _ _ _ _ _ 0 _ _ (off2 _) hn _ hl, good_high _ _ _ _ _ 0 _ _ (off2 _) hn _ hl,
        good_low _ _ _ _ _ 64 _ _ (off3 _) hn _ hl, good_high _ _ _ _ _ 64 _ _ (off3 _) hn _ hl⟩
    · simpa using h1
    · simpa using h2

end Cert.KernelIdeal.Sb
end
-- ==== Proof.Sb.Final.lean ====
module

public import proofs.«01_k».proof.Proof.Gen.KernelIdeal.Value
public import Idealize.ShloMosaic.Lib.Pipeline.ValueKit
public import proofs.«01_k».proof.Proof.Sb.Point

@[expose] public section

set_option maxRecDepth 16384

noncomputable section

namespace Cert.KernelIdeal.Sb

open Cert.KernelIdeal Cert.KernelIdeal.Gen Idealize.ShloMosaic Idealize.ShloMosaic.TcCoe Idealize.SL.Sem
open Idealize.ShloMosaic.Pipeline Cert.Sb

variable (m : (ℓ : Loc nD τ sig) → Buf (Elt Ideal) ℓ)

/-- The scores of one query of one head against the keys, the query scaled first. -/
def zrow' (q k : FVec Ideal S8x2048x16x64 .f32) (bias : FVec Ideal S16 .f32) (b : Fin 8) (i : Fin 2048) (h : Fin 16) (κ : ℕ) : EReal :=
  if hκ : κ < 2048 then
    ∑ x : Fin 64, q (ix4 b i h x) * Ideal.ofBits .f32 0x3E000000#32 * k (ix4 b ⟨κ, hκ⟩ h x) + bias (ix1 h)
  else 0

/-- The values of one lane of one head. -/
def vrow' (v : FVec Ideal S8x2048x16x64 .f32) (b : Fin 8) (h : Fin 16) (d : Fin 64) (κ : ℕ) : EReal :=
  if hκ : κ < 2048 then v (ix4 b ⟨κ, hκ⟩ h d) else 0

/-- The attention of one row, at one lane. -/
def G' (q k v : FVec Ideal S8x2048x16x64 .f32) (bias : FVec Ideal S16 .f32) (b : Fin 8) (i : Fin 2048) (e : Fin 1024) : EReal :=
  A (zrow' q k bias b i ⟨e / 64, by omega⟩) (vrow' v b ⟨e / 64, by omega⟩ ⟨e % 64, by omega⟩) i 0

/-- The attention as one function of the arguments. -/
def G (q k v : FVec Ideal S8x2048x16x64 .f32) (bias : FVec Ideal S16 .f32) : FVec Ideal S8x2048x1024 .f32 := fun j =>
  G' q k v bias (j 0) (j 1) (j 2)

theorem zrow_eq (c : Dev nD) (t : Fin cfg0.N) (p : Fin 512) (e : Fin 128) :
    zrow (iblk m c 0 t) (iblk m c 2 t) (iblk m c 3 t) (ch t) p e
      = zrow' (m ((c : Thread nD τ).loc main_arg0)) (m ((c : Thread nD τ).loc main_arg1)) (m ((c : Thread nD τ).loc main_arg3))
        (cb t) ⟨512 * (cm t) + p, by omega⟩ ⟨2 * (ch t) + e / 64, by omega⟩ := by
  funext κ
  unfold zrow zrow'
  by_cases hκ : κ < 2048
  · rw [dif_pos hκ, dif_pos hκ]
    refine congrArg₂ (· + ·) (Finset.sum_congr rfl fun x _ => congrArg₂ (· * ·) (congrArg (· * _) ((rd2 m c t _ _).trans (congrArg _ ?_)))
      ((rd3 m c t _ _).trans (congrArg _ ?_))) (rd0 m c t _)
    · congr 1 <;> apply Fin.ext <;> simp only [Fin.val_mk] <;> omega
    · congr 1 <;> apply Fin.ext <;> simp only [Fin.val_mk] <;> omega
  · rw [dif_neg hκ, dif_neg hκ]

theorem vrow_eq (c : Dev nD) (t : Fin cfg0.N) (e : Fin 128) :
    vrow (iblk m c 4 t) e
      = vrow' (m ((c : Thread nD τ).loc main_arg2)) (cb t) ⟨2 * (ch t) + e / 64, by omega⟩ ⟨e % 64, by omega⟩ := by
  funext κ
  unfold vrow vrow'
  by_cases hκ : κ < 2048
  · rw [dif_pos hκ, dif_pos hκ]
    exact rd4 m c t _ _
  · rw [dif_neg hκ, dif_neg hκ]

theorem row_eq (c : Dev nD) (t : Fin cfg0.N) (p : Fin 512) (e : Fin 128) :
    A (zrow (iblk m c 0 t) (iblk m c 2 t) (iblk m c 3 t) (ch t) p e) (vrow (iblk m c 4 t) e) (512 * (cm t) + p) 0
      = G' (m ((c : Thread nD τ).loc main_arg0)) (m ((c : Thread nD τ).loc main_arg1)) (m ((c : Thread nD τ).loc main_arg2))
        (m ((c : Thread nD τ).loc main_arg3)) (cb t) ⟨512 * (cm t) + p, by omega⟩ ⟨128 * (ch t) + e, by omega⟩ := by
  have h1 : (⟨2 * (ch t) + e / 64, by omega⟩ : Fin 16) = ⟨(128 * (ch t) + e) / 64, by omega⟩ := Fin.ext (by simp only [Fin.val_mk]; omega)
  have h2 : (⟨e % 64, by omega⟩ : Fin 64) = ⟨(128 * (ch t) + e) % 64, by omega⟩ := Fin.ext (by simp only [Fin.val_mk]; omega)
  rw [zrow_eq m c t p e, vrow_eq m c t e]
  unfold G'
  exact congrArg₂ (fun f g => A f g _ 0) (congrArg _ h1) (congrArg₂ (vrow' _ _) h1 h2)

theorem final (c : Dev nD) : (dats m 0 c).arrAt 5 cfg0.N
    = G (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]
  have h1 : (y 1).val < 512 := (y 1).isLt
  have h2 : (y 2).val < 128 := (y 2).isLt
  have e5 : (win0_5.blk t).view.emb y = ix3 (cb t) ⟨512 * (cm t) + (y 1).val, by omega⟩ ⟨128 * (ch t) + (y 2).val, by omega⟩ := by
    blk_ext [idx5 t, cb, cm, ch]
  rw [e5]
  exact (point m c t y).trans (row_eq m c t ⟨(y 1).val, h1⟩ ⟨(y 2).val, h2⟩)
end Cert.KernelIdeal.Sb
end
-- ==== Proof.Ref.Stick.lean ====
module

public import Idealize.ShloMosaic.Lib.Pipeline.ValueKit
public import proofs.«01_k».proof.Proof.Sb.Row

@[expose] public section

noncomputable section

namespace Cert.Sb

open Idealize.ShloMosaic Finset

/-- The softplus function of the reference: `max(x, 0) + log(1 + exp(-|x|))`. -/
def spl (x : EReal) : EReal := max x 0 + Ideal.log (1 + Ideal.exp (-max x (-x)))

theorem coe_max (a b : ℝ) : ((max a b : ℝ) : EReal) = max (a : EReal) (b : EReal) := EReal.coe_strictMono.monotone.map_max

theorem log_one_add_exp (y : ℝ) : Ideal.log (1 + Ideal.exp (y : EReal)) = ((Real.log (1 + Real.exp y) : ℝ) : EReal) := by
  have h : (1 : EReal) + Ideal.exp (y : EReal) = ((1 + Real.exp y : ℝ) : EReal) := by
    show (1 : EReal) + ((Real.exp y : ℝ) : EReal) = _
    rw [EReal.coe_add, EReal.coe_one]
  have hp : ¬ (1 + Real.exp y ≤ 0) := by have := Real.exp_pos y; linarith
  rw [h]
  show (if 1 + Real.exp y ≤ 0 then (⊥ : EReal) else ((Real.log (1 + Real.exp y) : ℝ) : EReal)) = _
  rw [if_neg hp]

theorem log_one_add_exp_bot : Ideal.log (1 + Ideal.exp (⊥ : EReal)) = 0 := by
  show Ideal.log (1 + (0 : EReal)) = 0
  rw [add_zero]
  show (if (1 : ℝ) ≤ 0 then (⊥ : EReal) else ((Real.log 1 : ℝ) : EReal)) = 0
  rw [if_neg (by norm_num), Real.log_one]
  rfl

theorem spl_coe (r : ℝ) : spl (r : EReal) = ((max r 0 + Real.log (1 + Real.exp (-max r (-r))) : ℝ) : EReal) := by
  have h1 : max (r : EReal) 0 = ((max r 0 : ℝ) : EReal) := (coe_max r 0).symm
  have h2 : -max (r : EReal) (-(r : EReal)) = ((-max r (-r) : ℝ) : EReal) := by
    rw [EReal.coe_neg, coe_max, EReal.coe_neg]
  unfold spl
  rw [h1, h2, log_one_add_exp, ← EReal.coe_add]

theorem spl_top : spl ⊤ = ⊤ := by
  have h : -max (⊤ : EReal) (-⊤) = ⊥ := by simp
  unfold spl
  rw [h, log_one_add_exp_bot]
  simp

theorem spl_bot : spl ⊥ = 0 := by
  have h : -max (⊥ : EReal) (-⊥) = ⊥ := by simp
  unfold spl
  rw [h, log_one_add_exp_bot]
  simp

theorem ellf_eq (z : EReal) : ellf z = -spl z := by
  have h : ellf z = 0 - max z 0 - Ideal.log (1 + Ideal.exp (0 - max z (-z))) := rfl
  rw [h, zero_sub, zero_sub]
  induction z with
  | bot =>
    have h : -max (⊥ : EReal) (-⊥) = ⊥ := by simp
    rw [spl_bot, h, log_one_add_exp_bot]
    simp
  | top =>
    have h : -max (⊤ : EReal) (-⊤) = ⊥ := by simp
    rw [spl_top, h, log_one_add_exp_bot]
    simp
  | coe r =>
    have h1 : max (r : EReal) 0 = ((max r 0 : ℝ) : EReal) := (coe_max r 0).symm
    have h2 : -max (r : EReal) (-(r : EReal)) = ((-max r (-r) : ℝ) : EReal) := by
      rw [EReal.coe_neg, coe_max, EReal.coe_neg]
    rw [spl_coe, h1, h2, log_one_add_exp, ← EReal.coe_neg, ← EReal.coe_neg, ← EReal.coe_sub]
    congr 1
    ring

/-- The weight of the reference, in the order the kernel adds. -/
theorem weight_eq (z t : EReal) : -spl (-z) + (ellf z + t - ellf z) = z + ellf z + t := by
  rw [ellf_eq]
  induction z with
  | bot => rw [EReal.neg_bot, spl_top, EReal.neg_top, EReal.bot_add, EReal.bot_add, EReal.bot_add]
  | top => rw [EReal.neg_top, spl_bot, spl_top, EReal.neg_top, EReal.bot_add, EReal.add_bot, EReal.bot_add]; simp
  | coe r =>
    rw [← EReal.coe_neg, spl_coe, spl_coe, ← EReal.coe_neg, ← EReal.coe_neg]
    have h : ∀ (a : ℝ) (t : EReal), (a : EReal) + t - a = t := by
      intro a t
      rw [add_comm, EReal.add_sub_cancel_right]
    rw [h, ← EReal.coe_add, neg_neg, max_comm (-r) r]
    congr 2
    rcases le_total r 0 with hr | hr
    · rw [max_eq_left (by linarith : (0 : ℝ) ≤ -r), max_eq_right hr]; ring
    · rw [max_eq_right (by linarith : -r ≤ (0 : ℝ)), max_eq_left hr]; ring

theorem eighth : Ideal.ofBits .f32 0x3E000000#32 = (((1 : ℝ) / 8 : ℝ) : EReal) := by
  simp [Ideal.ofBits, Ideal.ieee, -EReal.coe_mul]; norm_num

/-- The scale of the scores, taken out of a product of a query and a key. -/
theorem scale_sum {n : ℕ} (c : EReal) (h0 : 0 ≤ c) (ht : c ≠ ⊤) (f g : Fin n → EReal) :
    ∑ x, f x * c * g x = (∑ x, f x * g x) * c := by
  have h : ∀ s : Finset (Fin n), ∑ x ∈ s, f x * c * g x = (∑ x ∈ s, f x * g x) * c := by
    intro s
    induction s using Finset.induction_on with
    | empty => simp
    | insert a s ha ih =>
      rw [Finset.sum_insert ha, Finset.sum_insert ha, ih, EReal.right_distrib_of_nonneg_of_ne_top h0 ht, mul_right_comm]
  exact h _
end Cert.Sb
end
-- ==== Proof.Ref.Window.lean ====
module

public import proofs.«01_k».proof.Proof.Gen.ReferenceIdeal.Read
public import Idealize.ShloMosaic.Lib.Pipeline.ValueKit

@[expose] public section

set_option maxRecDepth 16384

noncomputable section

namespace Cert.ReferenceIdeal.Sb

open Cert.ReferenceIdeal Cert.ReferenceIdeal.Gen Idealize.ShloMosaic

theorem foldl_sum {ι : Type} (f : ι → EReal) (l : List ι) (a : EReal) :
    l.foldl (fun r n => r + f n) a = a + (l.map f).sum := by
  induction l generalizing a with
  | nil => simp
  | cons x l ih => simp [ih, add_assoc]

/-- The indices of a window one wide on all axes but the last. -/
def winEquiv : Fin 2048 ≃ (⟨4, ![1, 1, 1, 2048]⟩ : Shape).Idx where
  toFun n := ix4 0 0 0 n
  invFun j := j 3
  left_inv n := rfl
  right_inv j := by
    refine funext fun a => ?_
    match a with
    | ⟨0, _⟩ => exact Fin.ext (by have : (j 0).val < 1 := (j 0).isLt; show 0 = (j 0).val; omega)
    | ⟨1, _⟩ => exact Fin.ext (by have : (j 1).val < 1 := (j 1).isLt; show 0 = (j 1).val; omega)
    | ⟨2, _⟩ => exact Fin.ext (by have : (j 2).val < 1 := (j 2).isLt; show 0 = (j 2).val; omega)
    | ⟨3, _⟩ => rfl

theorem window_apply (h : S8x16x2048x2048.ReduceWindows ![1, 1, 1, 2048] ![1, 1, 1, 1] ![0, 0, 0, 0] ![0, 0, 0, 2047] S8x16x2048x2048)
    (x : S8x16x2048x2048.Idx → EReal) (b : Fin 8) (hd : Fin 16) (i κ : Fin 2048) :
    Ideal.hostReduceWindowAdd ![1, 1, 1, 2048] ![1, 1, 1, 1] ![0, 0, 0, 0] ![0, 0, 0, 2047] h x 0 (ix4 b hd i κ)
      = ∑ n : Fin 2048, if hn : (κ : ℕ) + n < 2048 then x (ix4 b hd i ⟨κ + n, hn⟩) else 0 := by
  unfold Ideal.hostReduceWindowAdd Host.reduceWindow
  refine (foldl_sum _ _ _).trans ?_
  rw [zero_add, ← Fin.sum_univ_def]
  refine (Equiv.sum_comp (winEquiv.trans (Shape.rowMajor ⟨4, ![1, 1, 1, 2048]⟩)) _).symm.trans (Finset.sum_congr rfl fun n _ => ?_)
  have e : (Shape.rowMajor ⟨4, ![1, 1, 1, 2048]⟩).symm ((winEquiv.trans (Shape.rowMajor ⟨4, ![1, 1, 1, 2048]⟩)) n) = ix4 0 0 0 n :=
    Equiv.symm_apply_apply _ _
  have e' : ∀ a : Fin 4, ((Shape.rowMajor ⟨4, ![1, 1, 1, 2048]⟩).symm ((winEquiv.trans (Shape.rowMajor ⟨4, ![1, 1, 1, 2048]⟩)) n) a).val
      = (ix4 0 0 0 n : Shape.Idx ⟨4, ![1, 1, 1, 2048]⟩) a := fun a => by rw [e]
  have p : ∀ a : Fin 4, ((ix4 b hd i κ : S8x16x2048x2048.Idx) a).val * (![1, 1, 1, 1] : Fin 4 → ℕ) a
      + ((Shape.rowMajor ⟨4, ![1, 1, 1, 2048]⟩).symm ((winEquiv.trans (Shape.rowMajor ⟨4, ![1, 1, 1, 2048]⟩)) n) a).val - (![0, 0, 0, 0] : Fin 4 → ℕ) a
      = (![b.val, hd.val, i.val, κ.val + n.val] : Fin 4 → ℕ) a := by
    intro a
    rw [e' a]
    fin_cases a
    · show b.val * 1 + 0 - 0 = b.val; omega
    · show hd.val * 1 + 0 - 0 = hd.val; omega
    · show i.val * 1 + 0 - 0 = i.val; omega
    · show κ.val * 1 + n.val - 0 = κ.val + n.val; omega
  by_cases hn : κ.val + n.val < 2048
  · rw [dif_pos hn]
    refine (dif_pos ?_).trans (congrArg x (funext fun a => Fin.ext ((p a).trans ?_)))
    · intro a
      refine ⟨?_, lt_of_eq_of_lt (p a) ?_⟩
      · fin_cases a <;> exact Nat.zero_le _
      · fin_cases a
        · exact b.isLt
        · exact hd.isLt
        · exact i.isLt
        · exact hn
    · fin_cases a <;> rfl
  · rw [dif_neg hn]
    refine dif_neg fun hh => hn ?_
    exact lt_of_eq_of_lt (p 3).symm (hh 3).2
end Cert.ReferenceIdeal.Sb
end
-- ==== Proof.Ref.Value.lean ====
module

public import proofs.«01_k».proof.Proof.Gen.ReferenceIdeal.Read
public import Idealize.ShloMosaic.Lib.Pipeline.ValueKit
public import proofs.«01_k».proof.Proof.Sb.Final
public import proofs.«01_k».proof.Proof.Ref.Stick
public import proofs.«01_k».proof.Proof.Ref.Window

@[expose] public section

set_option maxRecDepth 16384

noncomputable section

namespace Cert.ReferenceIdeal.Sb

open Cert.ReferenceIdeal Cert.ReferenceIdeal.Gen Cert.ReferenceIdeal.Read Idealize.ShloMosaic Idealize.ShloMosaic.TcCoe Idealize.SL.Sem
open Cert.Sb Cert.KernelIdeal.Sb

variable (q k v : FVec Ideal S8x2048x16x64 .f32) (bias : FVec Ideal S16 .f32)

theorem select_decide {α : Type} (p : Prop) [Decidable p] (x y : α) :
    Scalar.select (BitVec.ofBool (decide p)) x y = if p then x else y := by
  by_cases h : p <;> simp [h, Scalar.select]

theorem reduceWindowAdd_apply {s t u : Shape} (window strides lo hi : Fin s.rank → ℕ) (x : FVec Ideal s .f32)
    (y : u.Idx → Ideal .f32) (h : s.ReduceWindows window strides lo hi t) (hu : 0 < u.numel) (j : t.Idx) :
    Host.reduceWindowAdd window strides lo hi x y h hu j
      = Ideal.hostReduceWindowAdd window strides lo hi h x (y (Shape.Idx.first hu)) j := rfl

theorem z_apply (b : Fin 8) (h : Fin 16) (i κ : Fin 2048) :
    val_main_v11 (F := Ideal) q k bias (ix4 b h i κ) = zrow' q k bias b i h κ := by
  pointwise [val_main_v11, val_main_v10, val_main_v9, val_main_v8, val_main_v7, val_main_v0, val_main_cst]
  unfold zrow'
  rw [dif_pos κ.isLt]
  refine congrArg (· + _) ?_
  have h0 : (0 : EReal) ≤ Ideal.ofBits .f32 0x3E000000#32 := by
    rw [eighth]
    exact EReal.coe_nonneg.mpr (by norm_num)
  have ht : Ideal.ofBits .f32 0x3E000000#32 ≠ ⊤ := by
    rw [eighth]
    exact EReal.coe_ne_top _
  exact (scale_sum _ h0 ht (fun x => q (ix4 b i h x)) (fun x => k (ix4 b κ h x))).symm

theorem ell_apply (b : Fin 8) (h : Fin 16) (i κ : Fin 2048) :
    val_main_v14 (F := Ideal) q k bias (ix4 b h i κ) = L (zrow' q k bias b i h) i κ := by
  rw [L, ← z_apply]
  unfold val_main_v14 val_main_v13 val_main_call0_v1 val_main_call0_call0_v11 val_main_call0_call0_v10 val_main_call0_call0_v9
    val_main_call0_call0_v8 val_main_call0_call0_v7 val_main_call0_call0_v6 val_main_call0_call0_v4 val_main_call0_call0_v3
    val_main_call0_call0_v1 val_main_call0_v0 val_main_v12
  generalize val_main_v11 (F := Ideal) q k bias = z
  pointwise [val_main_call1_v1, val_main_v6, val_main_v5, val_main_v4, val_main_v3, val_main_v2, val_main_v1, val_main_call1_v2,
    val_main_call1_v0, val_main_cst_0, val_main_call0_call0_cst, val_main_call0_call0_v0, val_main_call0_call0_v2,
    val_main_call0_call0_v5]
  rw [WordCmp.cmpi_slt_ofNat (by omega) (by omega), if_neg (fun hne => hne rfl), select_decide, neg_neg]
  by_cases hκ : (κ : ℕ) < (i : ℕ)
  · rw [if_pos hκ, if_pos hκ, ellf_eq]
    rfl
  · rw [if_neg hκ, if_neg hκ]
    exact Ideal.ofBits_zero_f32

theorem cs_apply (b : Fin 8) (h : Fin 16) (i κ : Fin 2048) :
    val_main_v15 (F := Ideal) q k bias (ix4 b h i κ) = Cert.Sb.T (zrow' q k bias b i h) i κ := by
  have e : val_main_v15 (F := Ideal) q k bias (ix4 b h i κ)
      = Ideal.hostReduceWindowAdd ![1, 1, 1, 2048] ![1, 1, 1, 1] ![0, 0, 0, 0] ![0, 0, 0, 2047]
        reduceWindows_S8x16x2048x2048_S8x16x2048x2048_w1s1p0_0_w1s1p0_0_w1s1p0_0_w2048s1p0_2047
        (val_main_v14 (F := Ideal) q k bias) 0 (ix4 b h i κ) := by
    have h0 : val_main_call2_v0 (F := Ideal) (Shape.Idx.first h_S_) = 0 := Ideal.ofBits_zero_f32
    unfold val_main_v15
    generalize val_main_v14 (F := Ideal) q k bias = x
    rw [reduceWindowAdd_apply, h0]
  rw [e, window_apply]
  have e2 : ∀ n : Fin 2048, (if hn : (κ : ℕ) + n < 2048 then val_main_v14 (F := Ideal) q k bias (ix4 b h i ⟨κ + n, hn⟩) else 0)
      = (fun j => if j < 2048 then L (zrow' q k bias b i h) i j else 0) (κ + n) := by
    intro n
    by_cases hn : (κ : ℕ) + n < 2048
    · rw [dif_pos hn, ell_apply]
      exact (if_pos hn).symm
    · rw [dif_neg hn]
      exact (if_neg hn).symm
  rw [Finset.sum_congr rfl fun n _ => e2 n, sum_tile 2048 κ (fun j => if j < 2048 then L (zrow' q k bias b i h) i j else 0),
    ← Finset.sum_filter, Cert.Sb.T]
  refine Finset.sum_congr ?_ fun _ _ => rfl
  ext j
  simp only [Finset.mem_filter, Finset.mem_Ico]
  omega

theorem a_apply (b : Fin 8) (h : Fin 16) (i κ : Fin 2048) :
    val_main_v20 (F := Ideal) q k bias (ix4 b h i κ) = wgt (zrow' q k bias b i h) i κ := by
  have e : (κ : ℕ) < i → val_main_v16 (F := Ideal) q k bias (ix4 b h i κ)
      = ellf (zrow' q k bias b i h κ) + Cert.Sb.T (zrow' q k bias b i h) i (κ + 1) - ellf (zrow' q k bias b i h κ) := by
    intro hκ
    rw [val_main_v16_apply, ell_apply, cs_apply, ← T_head _ _ _ κ.isLt, L, if_pos hκ, add_comm (ellf _)]
    rfl
  have ez := z_apply q k bias b h i κ
  unfold val_main_v20 val_main_v19 val_main_v18 val_main_v17 val_main_call3_v1 val_main_call3_call0_v11 val_main_call3_call0_v10
    val_main_call3_call0_v9 val_main_call3_call0_v8 val_main_call3_call0_v7 val_main_call3_call0_v6 val_main_call3_call0_v4
    val_main_call3_call0_v3 val_main_call3_call0_v1 val_main_call3_v0
  revert e ez
  generalize val_main_v11 (F := Ideal) q k bias = z
  generalize val_main_v16 (F := Ideal) q k bias = l
  intro e ez
  pointwise [val_main_call4_v1, val_main_v6, val_main_v5, val_main_v4, val_main_v3, val_main_v2, val_main_v1, val_main_call4_v2,
    val_main_call4_v0, val_main_cst_1, val_main_call3_call0_cst, val_main_call3_call0_v0, val_main_call3_call0_v2,
    val_main_call3_call0_v5]
  rw [WordCmp.cmpi_slt_ofNat (by omega) (by omega), if_neg (fun hne => hne rfl), select_decide, ez, wgt]
  by_cases hκ : (κ : ℕ) < (i : ℕ)
  · rw [if_pos hκ, if_pos hκ, e hκ]
    exact congrArg Ideal.exp (weight_eq _ _)
  · rw [if_neg hκ, if_neg hκ]
    exact Ideal.ofBits_zero_f32

theorem o_apply (b : Fin 8) (i : Fin 2048) (e : Fin 1024) :
    val_main_v23 (F := Ideal) q k v bias (ix3 b i e) = G' q k v bias b i e := by
  pointwise [val_main_v23, val_main_v22, val_main_v21]
  unfold G' A
  rw [← Finset.range_eq_Ico, Finset.sum_range]
  refine Finset.sum_congr rfl fun κ _ => ?_
  rw [a_apply, mul_comm]
  refine congrArg₂ (· * ·) rfl ?_
  unfold vrow'
  rw [dif_pos κ.isLt]

theorem out_eq : val_main_v23 (F := Ideal) q k v bias = G q k v bias := by
  funext j
  have hj : j = ix3 (j 0) (j 1) (j 2) := funext fun a => by
    match a with
    | ⟨0, _⟩ => rfl
    | ⟨1, _⟩ => rfl
    | ⟨2, _⟩ => rfl
  rw [hj]
  exact o_apply q k v bias (j 0) (j 1) (j 2)
end Cert.ReferenceIdeal.Sb
end
-- ==== Proof.Dec.Norm.lean ====
module

public import Idealize.ShloMosaic.Lib.Pipeline.ValueKit

@[expose] public section

set_option maxRecDepth 16384

noncomputable section

namespace Cert.Dec

open Idealize.ShloMosaic

/-- A row over the root of its mean square, times the gains. -/
def rmsN (f g : Fin 1024 → EReal) (e : Fin 1024) : EReal :=
  f e * Ideal.rsqrt (Ideal.div (∑ k : Fin 1024, f k * f k) (Ideal.ofBits .f32 0x44800000#32) + Ideal.ofBits .f32 0x358637BD#32) * g e

/-- A normed row against a column of weights. -/
def proj (f g w : Fin 1024 → EReal) : EReal := ∑ x : Fin 1024, rmsN f g x * w x

/-- A row times a matrix of weights. -/
def mix (f : Fin 1024 → EReal) (w : Fin 1024 → Fin 1024 → EReal) (o : Fin 1024) : EReal := ∑ k : Fin 1024, f k * w k o

/-- The squared ramp of one hidden unit. -/
def ramp (u : Fin 1024 → EReal) (w : Fin 1024 → EReal) : EReal :=
  max (∑ x : Fin 1024, u x * w x) 0 * max (∑ x : Fin 1024, u x * w x) 0

/-- The feed-forward of one row, before it is added to the row. -/
def ffn (u : Fin 1024 → EReal) (win : Fin 1024 → Fin 4096 → EReal) (wout : Fin 4096 → Fin 1024 → EReal) (o : Fin 1024) : EReal :=
  ∑ k : Fin 4096, ramp u (fun x => win x k) * wout k o

/-- The feed-forward of one row. -/
def feed (f g1 : Fin 1024 → EReal) (win : Fin 1024 → Fin 4096 → EReal) (wout : Fin 4096 → Fin 1024 → EReal) (g2 : Fin 1024 → EReal)
    (e : Fin 1024) : EReal :=
  f e + rmsN (ffn (rmsN f g1) win wout) g2 e

/-- A sum over the hidden units, quarter by quarter. -/
theorem sum_quarters (f : Fin 4096 → EReal) :
    ∑ k : Fin 4096, f k = (∑ k : Fin 1024, f ⟨k, by omega⟩ + ∑ k : Fin 1024, f ⟨1024 + k, by omega⟩)
      + ∑ k : Fin 1024, f ⟨2048 + k, by omega⟩ + ∑ k : Fin 1024, f ⟨3072 + k, by omega⟩ := by
  have h3 := Fin.sum_univ_add (a := 3072) (b := 1024) f
  have h2 := Fin.sum_univ_add (a := 2048) (b := 1024) (fun k => f (Fin.castAdd 1024 k))
  have h1 := Fin.sum_univ_add (a := 1024) (b := 1024) (fun k => f (Fin.castAdd 1024 (Fin.castAdd 1024 k)))
  rw [h3, h2, h1]
  rfl
end Cert.Dec
end
-- ==== Proof.Mlp.Point.lean ====
module

public import proofs.«01_k».proof.Proof.Gen.MlpIdeal.Value
public import Idealize.ShloMosaic.Lib.Pipeline.ValueKit
public import proofs.«01_k».proof.Proof.Dec.Norm

@[expose] public section

set_option maxRecDepth 16384

noncomputable section

namespace Cert.MlpIdeal.Dec

open Cert.MlpIdeal Cert.MlpIdeal.Gen Idealize.ShloMosaic Idealize.ShloMosaic.TcCoe Idealize.SL.Sem
open Idealize.ShloMosaic.Pipeline Cert.Dec

theorem pay2_apply (v0 : Vec Ideal S512x1024 .f32) (v2 : Vec Ideal S1x1024 .f32) (p : Fin 512) (e : Fin 1024) :
    k0_pay2 v0 v2 (ix2 p e) = rmsN (fun k => v0 (ix2 p k)) (fun k => v2 (ix2 0 k)) e := by
  pointwise [k0_pay2, k0_pay1]
  rfl

theorem pay3_apply (v0 : Vec Ideal S512x1024 .f32) (v2 : Vec Ideal S1x1024 .f32) (w v : Vec Ideal S1024x1024 .bf16) (p : Fin 512) (e : Fin 1024) :
    k0_pay3 v0 v2 w v (ix2 p e) = ∑ k : Fin 1024, ramp (rmsN (fun k => v0 (ix2 p k)) (fun k => v2 (ix2 0 k))) (fun x => w (ix2 x k)) * v (ix2 k e) := by
  have h := pay2_apply v0 v2
  unfold k0_pay3
  generalize k0_pay2 v0 v2 = u at h ⊢
  pointwise
  simp only [h, ramp]

theorem out_apply (x0 : Vec Ideal S512x1024 .f32) (x1 : Vec Ideal S1x1024 .f32) (x2 : Vec Ideal S1024x4096 .bf16)
    (x3 : Vec Ideal S4096x1024 .bf16) (x4 : Vec Ideal S1x1024 .f32) (p : Fin 512) (e : Fin 1024) :
    out0_5 x0 x1 x2 x3 x4 (ix2 p e) = feed (fun k => x0 (ix2 p k)) (fun k => x1 (ix2 0 k)) (fun x k => x2 (ix2 x k))
      (fun k o => x3 (ix2 k o)) (fun k => x4 (ix2 0 k)) e := by
  have ez : (![0, 0] : Fin 2 → ℕ) = fun _ => 0 := by decide
  unfold out0_5
  rw [View.canon_unit_zero ez, View.ld_unit_zero ez, View.ld_unit_zero ez, View.ld_unit_zero ez]
  have h2 := pay2_apply x0 x1
  have h3 := pay3_apply x0 x1
  unfold k0_pay6 k0_pay4
  generalize k0_pay2 x0 x1 = u at h2 ⊢
  have h3' := h3 (View.ld x2 r0_2) (View.ld x3 r0_3)
  generalize k0_pay3 x0 x1 (View.ld x2 r0_2) (View.ld x3 r0_3) = w at h3' ⊢
  have hid : ffn (rmsN (fun k => x0 (ix2 p k)) (fun k => x1 (ix2 0 k))) (fun x k => x2 (ix2 x k)) (fun k o => x3 (ix2 k o))
      = fun o => w (ix2 p o)
        + ∑ k : Fin 1024, max (∑ x, u (ix2 p x) * x2 (ix2 x ⟨1024 + k, by omega⟩)) 0 * max (∑ x, u (ix2 p x) * x2 (ix2 x ⟨1024 + k, by omega⟩)) 0 * x3 (ix2 ⟨1024 + k, by omega⟩ o)
        + ∑ k : Fin 1024, max (∑ x, u (ix2 p x) * x2 (ix2 x ⟨2048 + k, by omega⟩)) 0 * max (∑ x, u (ix2 p x) * x2 (ix2 x ⟨2048 + k, by omega⟩)) 0 * x3 (ix2 ⟨2048 + k, by omega⟩ o)
        + ∑ k : Fin 1024, max (∑ x, u (ix2 p x) * x2 (ix2 x ⟨3072 + k, by omega⟩)) 0 * max (∑ x, u (ix2 p x) * x2 (ix2 x ⟨3072 + k, by omega⟩)) 0 * x3 (ix2 ⟨3072 + k, by omega⟩ o) := by
    funext o
    rw [h3']
    unfold ffn
    rw [sum_quarters]
    simp only [h2, ramp]
    pointwise
  rw [feed, hid]
  unfold rmsN
  pointwise [k0_pay1, k0_pay5]
end Cert.MlpIdeal.Dec
end
-- ==== Proof.Mlp.Final.lean ====
module

public import proofs.«01_k».proof.Proof.Mlp.Point

@[expose] public section

set_option maxRecDepth 16384

noncomputable section

namespace Cert.MlpIdeal.Dec

open Cert.MlpIdeal Cert.MlpIdeal.Gen Idealize.ShloMosaic Idealize.ShloMosaic.TcCoe Idealize.SL.Sem
open Idealize.ShloMosaic.Pipeline Cert.Dec

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

/-- The point of the grid as a number. -/
def pt (t : Fin cfg0.N) : Fin 32 := t

theorem rd0 (c : Dev nD) (t : Fin cfg0.N) (p : Fin 512) (e : Fin 1024) :
    iblk m c 0 t (ix2 p e) = m ((c : Thread nD τ).loc main_arg0)
      (ix3 ⟨(512 * (pt t).val + p) / 2048, by omega⟩ ⟨(512 * (pt t).val + p) % 2048, by omega⟩ e) := by
  blk_simp [iblk]
  entry_read
  pointwise
  blk_ext [idx0 t, pt]

theorem rd1 (c : Dev nD) (t : Fin cfg0.N) (e : Fin 1024) :
    iblk m c 1 t (ix2 0 e) = m ((c : Thread nD τ).loc main_arg1) (ix1 e) := by
  blk_simp [iblk]
  entry_read
  pointwise
  blk_ext [idx1 t]

theorem rd2 (c : Dev nD) (t : Fin cfg0.N) (x : Fin 1024) (k : Fin 4096) :
    iblk m c 2 t (ix2 x k) = m ((c : Thread nD τ).loc main_arg2) (ix2 x k) := by
  blk_simp [iblk]
  entry_read
  pointwise
  blk_ext [idx2 t]

theorem rd3 (c : Dev nD) (t : Fin cfg0.N) (k : Fin 4096) (o : Fin 1024) :
    iblk m c 3 t (ix2 k o) = m ((c : Thread nD τ).loc main_arg3) (ix2 k o) := by
  blk_simp [iblk]
  entry_read
  pointwise
  blk_ext [idx3 t]

theorem rd4 (c : Dev nD) (t : Fin cfg0.N) (e : Fin 1024) :
    iblk m c 4 t (ix2 0 e) = m ((c : Thread nD τ).loc main_arg4) (ix1 e) := by
  blk_simp [iblk]
  entry_read
  pointwise
  blk_ext [idx4 t]

/-- The feed-forward as one function of the arguments. -/
def G (h : FVec Ideal S8x2048x1024 .f32) (g1 : FVec Ideal S1024 .f32) (win : FVec Ideal S1024x4096 .f32)
    (wout : FVec Ideal S4096x1024 .f32) (g2 : FVec Ideal S1024 .f32) (r : Fin 16384) (e : Fin 1024) : EReal :=
  feed (fun k => h (ix3 ⟨(r : ℕ) / 2048, by omega⟩ ⟨(r : ℕ) % 2048, by omega⟩ k)) (fun k => g1 (ix1 k)) (fun x k => win (ix2 x k))
    (fun k o => wout (ix2 k o)) (fun k => g2 (ix1 k)) e

theorem final (c : Dev nD) : (dats m 0 c).arrAt 5 cfg0.N
    = fun j => G (m ((c : Thread nD τ).loc main_arg0)) (m ((c : Thread nD τ).loc main_arg1)) (m ((c : Thread nD τ).loc main_arg2))
      (m ((c : Thread nD τ).loc main_arg3)) (m ((c : Thread nD τ).loc main_arg4)) (j 0) (j 1) := by
  refine (dats m 0 c).arrAt_eq_of_covers 5 _ (by decide +kernel) fun t _ y => ?_
  blk_simp
  rw [after0_5]
  have h0 : (y 0).val < 512 := (y 0).isLt
  have h1 : (y 1).val < 1024 := (y 1).isLt
  have e5 : (win0_5.blk t).view.emb y = ix2 ⟨512 * (pt t).val + (y 0).val, by omega⟩ ⟨(y 1).val, h1⟩ := by
    blk_ext [idx5 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out_apply _ _ _ _ _ _ _).trans ?_)
  unfold G
  simp only [rd0, rd1, rd2, rd3, rd4]
  rfl
end Cert.MlpIdeal.Dec
end
-- ==== Proof.Mlp.Ref.lean ====
module

public import proofs.«01_k».proof.Proof.Gen.MlpRefIdeal.Read
public import proofs.«01_k».proof.Proof.Mlp.Final

@[expose] public section

set_option maxRecDepth 16384

noncomputable section

namespace Cert.MlpRefIdeal.Dec

open Cert.MlpRefIdeal Cert.MlpRefIdeal.Gen Cert.MlpRefIdeal.Read Idealize.ShloMosaic Idealize.ShloMosaic.TcCoe Idealize.SL.Sem
open Cert.Dec

variable (h : FVec Ideal S8x2048x1024 .f32) (g1 : FVec Ideal S1024 .f32) (win : FVec Ideal S1024x4096 .f32)
    (wout : FVec Ideal S4096x1024 .f32) (g2 : FVec Ideal S1024 .f32)

theorem u_apply (b : Fin 8) (i : Fin 2048) (e : Fin 1024) :
    val_main_v12 (F := Ideal) h g1 (ix3 b i e) = rmsN (fun k => h (ix3 b i k)) (fun k => g1 (ix1 k)) e := by
  unfold rmsN
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

theorem f_apply (b : Fin 8) (i : Fin 2048) (e : Fin 1024) :
    val_main_v16 (F := Ideal) h g1 win wout (ix3 b i e)
      = ffn (rmsN (fun k => h (ix3 b i k)) (fun k => g1 (ix1 k))) (fun x k => win (ix2 x k)) (fun k o => wout (ix2 k o)) e := by
  have hu := u_apply h g1 b i
  unfold val_main_v16 val_main_v15 val_main_v14 val_main_v13
  generalize val_main_v12 (F := Ideal) h g1 = u at hu ⊢
  unfold ffn ramp
  simp only [← hu]
  pointwise [val_main_call0_v0, val_main_call0_cst]

theorem o_apply (b : Fin 8) (i : Fin 2048) (e : Fin 1024) :
    val_main_v30 (F := Ideal) h g1 win wout g2 (ix3 b i e)
      = feed (fun k => h (ix3 b i k)) (fun k => g1 (ix1 k)) (fun x k => win (ix2 x k)) (fun k o => wout (ix2 k o)) (fun k => g2 (ix1 k)) e := by
  have hf := f_apply h g1 win wout b i
  unfold val_main_v30 val_main_v29 val_main_v26 val_main_v25 val_main_v24 val_main_v23 val_main_v21 val_main_v19 val_main_v18 val_main_v17
  generalize val_main_v16 (F := Ideal) h g1 win wout = u at hf ⊢
  have hf' := funext hf
  rw [feed, ← hf']
  unfold rmsN
  pointwise [val_main_v28, val_main_v27, val_main_v22, val_main_cst_4, val_main_v20, val_main_cst_3, val_main_cst_2]

theorem out_eq : val_main_v31 (F := Ideal) h g1 win wout g2 = fun j => Cert.MlpIdeal.Dec.G h g1 win wout g2 (j 0) (j 1) := by
  funext j
  have hj : j = ix2 (j 0) (j 1) := funext fun a => by
    match a with
    | ⟨0, _⟩ => rfl
    | ⟨1, _⟩ => rfl
  rw [hj]
  have ho := o_apply h g1 win wout g2
  unfold val_main_v31
  generalize val_main_v30 (F := Ideal) h g1 win wout g2 = u at ho ⊢
  pointwise
  exact ho _ _ _
end Cert.MlpRefIdeal.Dec
end
-- ==== Proof.MlpS.Point.lean ====
module

public import proofs.«01_k».proof.Proof.Gen.MlpSIdeal.Value
public import Idealize.ShloMosaic.Lib.Pipeline.ValueKit
public import proofs.«01_k».proof.Proof.Dec.Norm

@[expose] public section

set_option maxRecDepth 16384

noncomputable section

namespace Cert.MlpSIdeal.Dec

open Cert.MlpSIdeal Cert.MlpSIdeal.Gen Idealize.ShloMosaic Idealize.ShloMosaic.TcCoe Idealize.SL.Sem
open Idealize.ShloMosaic.Pipeline Cert.Dec

theorem pay2_apply (v0 : Vec Ideal S128x1024 .f32) (v2 : Vec Ideal S1x1024 .f32) (p : Fin 128) (e : Fin 1024) :
    k0_pay2 v0 v2 (ix2 p e) = rmsN (fun k => v0 (ix2 p k)) (fun k => v2 (ix2 0 k)) e := by
  pointwise [k0_pay2, k0_pay1]
  rfl

theorem pay3_apply (v0 : Vec Ideal S128x1024 .f32) (v2 : Vec Ideal S1x1024 .f32) (w v : Vec Ideal S1024x1024 .bf16) (p : Fin 128) (e : Fin 1024) :
    k0_pay3 v0 v2 w v (ix2 p e) = ∑ k : Fin 1024, ramp (rmsN (fun k => v0 (ix2 p k)) (fun k => v2 (ix2 0 k))) (fun x => w (ix2 x k)) * v (ix2 k e) := by
  have h := pay2_apply v0 v2
  unfold k0_pay3
  generalize k0_pay2 v0 v2 = u at h ⊢
  pointwise
  simp only [h, ramp]

theorem out_apply (x0 : Vec Ideal S128x1024 .f32) (x1 : Vec Ideal S1x1024 .f32) (x2 : Vec Ideal S1024x4096 .bf16)
    (x3 : Vec Ideal S4096x1024 .bf16) (x4 : Vec Ideal S1x1024 .f32) (p : Fin 128) (e : Fin 1024) :
    out0_5 x0 x1 x2 x3 x4 (ix2 p e) = feed (fun k => x0 (ix2 p k)) (fun k => x1 (ix2 0 k)) (fun x k => x2 (ix2 x k))
      (fun k o => x3 (ix2 k o)) (fun k => x4 (ix2 0 k)) e := by
  have ez : (![0, 0] : Fin 2 → ℕ) = fun _ => 0 := by decide
  unfold out0_5
  rw [View.canon_unit_zero ez, View.ld_unit_zero ez, View.ld_unit_zero ez, View.ld_unit_zero ez]
  have h2 := pay2_apply x0 x1
  have h3 := pay3_apply x0 x1
  unfold k0_pay6 k0_pay4
  generalize k0_pay2 x0 x1 = u at h2 ⊢
  have h3' := h3 (View.ld x2 r0_2) (View.ld x3 r0_3)
  generalize k0_pay3 x0 x1 (View.ld x2 r0_2) (View.ld x3 r0_3) = w at h3' ⊢
  have hid : ffn (rmsN (fun k => x0 (ix2 p k)) (fun k => x1 (ix2 0 k))) (fun x k => x2 (ix2 x k)) (fun k o => x3 (ix2 k o))
      = fun o => w (ix2 p o)
        + ∑ k : Fin 1024, max (∑ x, u (ix2 p x) * x2 (ix2 x ⟨1024 + k, by omega⟩)) 0 * max (∑ x, u (ix2 p x) * x2 (ix2 x ⟨1024 + k, by omega⟩)) 0 * x3 (ix2 ⟨1024 + k, by omega⟩ o)
        + ∑ k : Fin 1024, max (∑ x, u (ix2 p x) * x2 (ix2 x ⟨2048 + k, by omega⟩)) 0 * max (∑ x, u (ix2 p x) * x2 (ix2 x ⟨2048 + k, by omega⟩)) 0 * x3 (ix2 ⟨2048 + k, by omega⟩ o)
        + ∑ k : Fin 1024, max (∑ x, u (ix2 p x) * x2 (ix2 x ⟨3072 + k, by omega⟩)) 0 * max (∑ x, u (ix2 p x) * x2 (ix2 x ⟨3072 + k, by omega⟩)) 0 * x3 (ix2 ⟨3072 + k, by omega⟩ o) := by
    funext o
    rw [h3']
    unfold ffn
    rw [sum_quarters]
    simp only [h2, ramp]
    pointwise
  rw [feed, hid]
  unfold rmsN
  pointwise [k0_pay1, k0_pay5]
end Cert.MlpSIdeal.Dec
end
-- ==== Proof.MlpS.Final.lean ====
module

public import proofs.«01_k».proof.Proof.MlpS.Point

@[expose] public section

set_option maxRecDepth 16384

noncomputable section

namespace Cert.MlpSIdeal.Dec

open Cert.MlpSIdeal Cert.MlpSIdeal.Gen Idealize.ShloMosaic Idealize.ShloMosaic.TcCoe Idealize.SL.Sem
open Idealize.ShloMosaic.Pipeline Cert.Dec

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

/-- The point of the grid as a number. -/
def pt (t : Fin cfg0.N) : Fin 1 := t

theorem rd0 (c : Dev nD) (t : Fin cfg0.N) (p : Fin 128) (e : Fin 1024) :
    iblk m c 0 t (ix2 p e) = m ((c : Thread nD τ).loc main_arg0)
      (ix3 ⟨(128 * (pt t).val + p) / 4, by omega⟩ ⟨(128 * (pt t).val + p) % 4, by omega⟩ e) := by
  blk_simp [iblk]
  entry_read
  pointwise
  blk_ext [idx0 t, pt]

theorem rd1 (c : Dev nD) (t : Fin cfg0.N) (e : Fin 1024) :
    iblk m c 1 t (ix2 0 e) = m ((c : Thread nD τ).loc main_arg1) (ix1 e) := by
  blk_simp [iblk]
  entry_read
  pointwise
  blk_ext [idx1 t]

theorem rd2 (c : Dev nD) (t : Fin cfg0.N) (x : Fin 1024) (k : Fin 4096) :
    iblk m c 2 t (ix2 x k) = m ((c : Thread nD τ).loc main_arg2) (ix2 x k) := by
  blk_simp [iblk]
  entry_read
  pointwise
  blk_ext [idx2 t]

theorem rd3 (c : Dev nD) (t : Fin cfg0.N) (k : Fin 4096) (o : Fin 1024) :
    iblk m c 3 t (ix2 k o) = m ((c : Thread nD τ).loc main_arg3) (ix2 k o) := by
  blk_simp [iblk]
  entry_read
  pointwise
  blk_ext [idx3 t]

theorem rd4 (c : Dev nD) (t : Fin cfg0.N) (e : Fin 1024) :
    iblk m c 4 t (ix2 0 e) = m ((c : Thread nD τ).loc main_arg4) (ix1 e) := by
  blk_simp [iblk]
  entry_read
  pointwise
  blk_ext [idx4 t]

/-- The feed-forward as one function of the arguments. -/
def G (h : FVec Ideal S32x4x1024 .f32) (g1 : FVec Ideal S1024 .f32) (win : FVec Ideal S1024x4096 .f32)
    (wout : FVec Ideal S4096x1024 .f32) (g2 : FVec Ideal S1024 .f32) (r : Fin 128) (e : Fin 1024) : EReal :=
  feed (fun k => h (ix3 ⟨(r : ℕ) / 4, by omega⟩ ⟨(r : ℕ) % 4, by omega⟩ k)) (fun k => g1 (ix1 k)) (fun x k => win (ix2 x k))
    (fun k o => wout (ix2 k o)) (fun k => g2 (ix1 k)) e

theorem final (c : Dev nD) : (dats m 0 c).arrAt 5 cfg0.N
    = fun j => G (m ((c : Thread nD τ).loc main_arg0)) (m ((c : Thread nD τ).loc main_arg1)) (m ((c : Thread nD τ).loc main_arg2))
      (m ((c : Thread nD τ).loc main_arg3)) (m ((c : Thread nD τ).loc main_arg4)) (j 0) (j 1) := by
  refine (dats m 0 c).arrAt_eq_of_covers 5 _ (by decide +kernel) fun t _ y => ?_
  blk_simp
  rw [after0_5]
  have h0 : (y 0).val < 128 := (y 0).isLt
  have h1 : (y 1).val < 1024 := (y 1).isLt
  have e5 : (win0_5.blk t).view.emb y = ix2 ⟨128 * (pt t).val + (y 0).val, by omega⟩ ⟨(y 1).val, h1⟩ := by
    blk_ext [idx5 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out_apply _ _ _ _ _ _ _).trans ?_)
  unfold G
  simp only [rd0, rd1, rd2, rd3, rd4]
  rfl
end Cert.MlpSIdeal.Dec
end
-- ==== Proof.MlpS.Ref.lean ====
module

public import proofs.«01_k».proof.Proof.Gen.MlpSRefIdeal.Read
public import proofs.«01_k».proof.Proof.MlpS.Final

@[expose] public section

set_option maxRecDepth 16384

noncomputable section

namespace Cert.MlpSRefIdeal.Dec

open Cert.MlpSRefIdeal Cert.MlpSRefIdeal.Gen Cert.MlpSRefIdeal.Read Idealize.ShloMosaic Idealize.ShloMosaic.TcCoe Idealize.SL.Sem
open Cert.Dec

variable (h : FVec Ideal S32x4x1024 .f32) (g1 : FVec Ideal S1024 .f32) (win : FVec Ideal S1024x4096 .f32)
    (wout : FVec Ideal S4096x1024 .f32) (g2 : FVec Ideal S1024 .f32)

theorem u_apply (b : Fin 32) (i : Fin 4) (e : Fin 1024) :
    val_main_v12 (F := Ideal) h g1 (ix3 b i e) = rmsN (fun k => h (ix3 b i k)) (fun k => g1 (ix1 k)) e := by
  unfold rmsN
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

theorem f_apply (b : Fin 32) (i : Fin 4) (e : Fin 1024) :
    val_main_v16 (F := Ideal) h g1 win wout (ix3 b i e)
      = ffn (rmsN (fun k => h (ix3 b i k)) (fun k => g1 (ix1 k))) (fun x k => win (ix2 x k)) (fun k o => wout (ix2 k o)) e := by
  have hu := u_apply h g1 b i
  unfold val_main_v16 val_main_v15 val_main_v14 val_main_v13
  generalize val_main_v12 (F := Ideal) h g1 = u at hu ⊢
  unfold ffn ramp
  simp only [← hu]
  pointwise [val_main_call0_v0, val_main_call0_cst]

theorem o_apply (b : Fin 32) (i : Fin 4) (e : Fin 1024) :
    val_main_v30 (F := Ideal) h g1 win wout g2 (ix3 b i e)
      = feed (fun k => h (ix3 b i k)) (fun k => g1 (ix1 k)) (fun x k => win (ix2 x k)) (fun k o => wout (ix2 k o)) (fun k => g2 (ix1 k)) e := by
  have hf := f_apply h g1 win wout b i
  unfold val_main_v30 val_main_v29 val_main_v26 val_main_v25 val_main_v24 val_main_v23 val_main_v21 val_main_v19 val_main_v18 val_main_v17
  generalize val_main_v16 (F := Ideal) h g1 win wout = u at hf ⊢
  have hf' := funext hf
  rw [feed, ← hf']
  unfold rmsN
  pointwise [val_main_v28, val_main_v27, val_main_v22, val_main_cst_4, val_main_v20, val_main_cst_3, val_main_cst_2]

theorem out_eq : val_main_v31 (F := Ideal) h g1 win wout g2 = fun j => Cert.MlpSIdeal.Dec.G h g1 win wout g2 (j 0) (j 1) := by
  funext j
  have hj : j = ix2 (j 0) (j 1) := funext fun a => by
    match a with
    | ⟨0, _⟩ => rfl
    | ⟨1, _⟩ => rfl
  rw [hj]
  have ho := o_apply h g1 win wout g2
  unfold val_main_v31
  generalize val_main_v30 (F := Ideal) h g1 win wout g2 = u at ho ⊢
  pointwise
  exact ho _ _ _
end Cert.MlpSRefIdeal.Dec
end
-- ==== Proof.Qkv.Point.lean ====
module

public import proofs.«01_k».proof.Proof.Gen.QkvIdeal.Value
public import Idealize.ShloMosaic.Lib.Pipeline.ValueKit
public import proofs.«01_k».proof.Proof.Dec.Norm

@[expose] public section

set_option maxRecDepth 16384

noncomputable section

namespace Cert.QkvIdeal.Dec

open Cert.QkvIdeal Cert.QkvIdeal.Gen Idealize.ShloMosaic Idealize.ShloMosaic.TcCoe Idealize.SL.Sem
open Idealize.ShloMosaic.Pipeline Cert.Dec

theorem u_apply (v0 : Vec Ideal S512x1024 .f32) (v2 : Vec Ideal S1x1024 .f32) (p : Fin 512) (e : Fin 1024) :
    k0_pay1 v0 v2 (ix2 p e) = rmsN (fun k => v0 (ix2 p k)) (fun k => v2 (ix2 0 k)) e := by
  pointwise [k0_pay1]
  rfl

theorem out4_apply (x0 : Vec Ideal S512x1024 .f32) (x1 : Vec Ideal S1x1024 .f32) (x2 : Vec Ideal S1024x1024 .bf16) (x3 : Vec Ideal S2048x1024 .bf16) (p : Fin 512) (e : Fin 1024) :
    out0_4 x0 x1 x2 x3 (ix2 p e) = proj (fun k => x0 (ix2 p k)) (fun k => x1 (ix2 0 k)) (fun x => x2 (ix2 x ⟨(e : ℕ), by omega⟩)) := by
  have ez : (![0, 0] : Fin 2 → ℕ) = fun _ => 0 := by decide
  unfold out0_4
  rw [View.canon_unit_zero ez, View.ld_unit_zero ez, View.ld_unit_zero ez]
  have h := u_apply x0 x1 p
  unfold k0_pay2
  generalize k0_pay1 x0 x1 = u at h ⊢
  unfold proj
  simp only [← h]
  pointwise

theorem out5_apply (x0 : Vec Ideal S512x1024 .f32) (x1 : Vec Ideal S1x1024 .f32) (x2 : Vec Ideal S1024x1024 .bf16) (x3 : Vec Ideal S2048x1024 .bf16) (p : Fin 512) (e : Fin 1024) :
    out0_5 x0 x1 x2 x3 (ix3 0 e p) = proj (fun k => x0 (ix2 p k)) (fun k => x1 (ix2 0 k)) (fun x => x3 (ix2 ⟨(e : ℕ), by omega⟩ x)) := by
  have ez : (![0, 0] : Fin 2 → ℕ) = fun _ => 0 := by decide
  have ez3 : (![0, 0, 0] : Fin 3 → ℕ) = fun _ => 0 := by decide
  unfold out0_5
  rw [View.canon_unit_zero ez3, View.ld_unit_zero ez, View.ld_unit_zero ez]
  have h := u_apply x0 x1 p
  unfold k0_pay3
  generalize k0_pay1 x0 x1 = u at h ⊢
  unfold proj
  simp only [← h, mul_comm (u _)]
  pointwise

theorem out6_apply (x0 : Vec Ideal S512x1024 .f32) (x1 : Vec Ideal S1x1024 .f32) (x2 : Vec Ideal S1024x1024 .bf16) (x3 : Vec Ideal S2048x1024 .bf16) (p : Fin 512) (e : Fin 1024) :
    out0_6 x0 x1 x2 x3 (ix3 0 e p) = proj (fun k => x0 (ix2 p k)) (fun k => x1 (ix2 0 k)) (fun x => x3 (ix2 ⟨1024 + (e : ℕ), by omega⟩ x)) := by
  have ez : (![0, 0] : Fin 2 → ℕ) = fun _ => 0 := by decide
  have ez3 : (![0, 0, 0] : Fin 3 → ℕ) = fun _ => 0 := by decide
  unfold out0_6
  rw [View.canon_unit_zero ez3, View.ld_unit_zero ez, View.ld_unit_zero ez]
  have h := u_apply x0 x1 p
  unfold k0_pay4
  generalize k0_pay1 x0 x1 = u at h ⊢
  unfold proj
  simp only [← h, mul_comm (u _)]
  pointwise
end Cert.QkvIdeal.Dec
end
-- ==== Proof.Qkv.Final.lean ====
module

public import proofs.«01_k».proof.Proof.Qkv.Point

@[expose] public section

set_option maxRecDepth 16384

noncomputable section

namespace Cert.QkvIdeal.Dec

open Cert.QkvIdeal Cert.QkvIdeal.Gen Idealize.ShloMosaic Idealize.ShloMosaic.TcCoe Idealize.SL.Sem
open Idealize.ShloMosaic.Pipeline Cert.Dec

variable (m : (ℓ : Loc nD τ sig) → Buf (Elt Ideal) ℓ)

/-- The point of the grid as a number. -/
def pt (t : Fin cfg0.N) : Fin 32 := t

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

theorem rd0 (c : Dev nD) (t : Fin cfg0.N) (p : Fin 512) (e : Fin 1024) :
    iblk m c 0 t (ix2 p e) = m ((c : Thread nD τ).loc main_arg0)
      (ix3 ⟨(512 * (pt t).val + p) / 2048, by omega⟩ ⟨(512 * (pt t).val + p) % 2048, by omega⟩ e) := by
  blk_simp [iblk]
  entry_read
  pointwise
  blk_ext [idx0 t, pt]

theorem rd1 (c : Dev nD) (t : Fin cfg0.N) (e : Fin 1024) :
    iblk m c 1 t (ix2 0 e) = m ((c : Thread nD τ).loc main_arg1) (ix1 e) := by
  blk_simp [iblk]
  entry_read
  pointwise
  blk_ext [idx1 t]

theorem rd2 (c : Dev nD) (t : Fin cfg0.N) (x : Fin 1024) (k : Fin 1024) :
    iblk m c 2 t (ix2 x k) = m ((c : Thread nD τ).loc main_arg2) (ix2 x ⟨k, by omega⟩) := by
  blk_simp [iblk]
  entry_read
  pointwise
  blk_ext [idx2 t]

theorem rd3 (c : Dev nD) (t : Fin cfg0.N) (k : Fin 2048) (x : Fin 1024) :
    iblk m c 3 t (ix2 k x) = m ((c : Thread nD τ).loc main_arg2) (ix2 x ⟨1024 + (k : ℕ), by omega⟩) := by
  blk_simp [iblk]
  entry_read
  pointwise
  blk_ext [idx3 t]

/-- One entry of the product of a normed row and the weights: the row at batch `b` and place `i`, the column `k`. -/
def G (h : FVec Ideal S8x2048x1024 .f32) (g : FVec Ideal S1024 .f32) (w : FVec Ideal S1024x3072 .f32) (b : Fin 8) (i : Fin 2048) (k : Fin 3072) : EReal :=
  proj (fun k => h (ix3 b i k)) (fun k => g (ix1 k)) (fun x => w (ix2 x k))

theorem idx4 : ∀ t : Fin cfg0.N, win0_4.index t = ![t.val, 0] := (by decide +kernel : ∀ t : Fin grid0.N, _)

/-- The rows of window 4 as one function of the arguments. -/
def G4 (h : FVec Ideal S8x2048x1024 .f32) (g : FVec Ideal S1024 .f32) (w : FVec Ideal S1024x3072 .f32) : FVec Ideal S16384x1024 .f32 := fun j =>
  (fun (r : Fin 16384) (e : Fin 1024) => G h g w ⟨(r : ℕ) / 2048, by omega⟩ ⟨(r : ℕ) % 2048, by omega⟩ ⟨(e : ℕ), by omega⟩) (j 0) (j 1)

theorem final4 (c : Dev nD) : (dats m 0 c).arrAt 4 cfg0.N = G4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have h0 : (y 0).val < 512 := (y 0).isLt
  have h1 : (y 1).val < 1024 := (y 1).isLt
  have e5 : (win0_4.blk t).view.emb y = ix2 ⟨512 * (pt t).val + (y 0).val, by omega⟩ ⟨(y 1).val, h1⟩ := by
    blk_ext [idx4 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out4_apply _ _ _ _ _ _).trans ?_)
  exact congr (congr (congrArg proj (funext fun k => rd0 m c t _ k)) (funext fun k => rd1 m c t k)) (funext fun x => rd2 m c t x _)

theorem idx5 : ∀ t : Fin cfg0.N, win0_5.index t = ![t.val / 4, 0, t.val % 4] := (by decide +kernel : ∀ t : Fin grid0.N, _)

/-- The transposed rows of window 5 as one function of the arguments. -/
def G5 (h : FVec Ideal S8x2048x1024 .f32) (g : FVec Ideal S1024 .f32) (w : FVec Ideal S1024x3072 .f32) : FVec Ideal S8x1024x2048 .f32 := fun j =>
  (fun (b : Fin 8) (e : Fin 1024) (i : Fin 2048) => G h g w b i ⟨1024 + (e : ℕ), by omega⟩) (j 0) (j 1) (j 2)

theorem final5 (c : Dev nD) : (dats m 0 c).arrAt 5 cfg0.N = G5 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  have h1 : (y 1).val < 1024 := (y 1).isLt
  have h2 : (y 2).val < 512 := (y 2).isLt
  have e5 : (win0_5.blk t).view.emb y = ix3 ⟨(512 * (pt t).val + (y 2).val) / 2048, by omega⟩ ⟨(y 1).val, h1⟩ ⟨(512 * (pt t).val + (y 2).val) % 2048, by omega⟩ := by
    blk_ext [idx5 t, pt]
  have ey : y = ix3 0 ⟨(y 1).val, h1⟩ ⟨(y 2).val, h2⟩ := funext fun a => by
    match a with
    | ⟨0, _⟩ => exact Subsingleton.elim (α := Fin 1) _ _
    | ⟨1, _⟩ => rfl
    | ⟨2, _⟩ => rfl
  rw [e5]
  refine (congrArg _ ey).trans ((out5_apply _ _ _ _ _ _).trans ?_)
  exact congr (congr (congrArg proj (funext fun k => rd0 m c t _ k)) (funext fun k => rd1 m c t k)) (funext fun x => rd3 m c t _ x)

theorem idx6 : ∀ t : Fin cfg0.N, win0_6.index t = ![t.val / 4, 0, t.val % 4] := (by decide +kernel : ∀ t : Fin grid0.N, _)

/-- The transposed rows of window 6 as one function of the arguments. -/
def G6 (h : FVec Ideal S8x2048x1024 .f32) (g : FVec Ideal S1024 .f32) (w : FVec Ideal S1024x3072 .f32) : FVec Ideal S8x1024x2048 .f32 := fun j =>
  (fun (b : Fin 8) (e : Fin 1024) (i : Fin 2048) => G h g w b i ⟨2048 + (e : ℕ), by omega⟩) (j 0) (j 1) (j 2)

theorem final6 (c : Dev nD) : (dats m 0 c).arrAt 6 cfg0.N = G6 (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  have h1 : (y 1).val < 1024 := (y 1).isLt
  have h2 : (y 2).val < 512 := (y 2).isLt
  have e5 : (win0_6.blk t).view.emb y = ix3 ⟨(512 * (pt t).val + (y 2).val) / 2048, by omega⟩ ⟨(y 1).val, h1⟩ ⟨(512 * (pt t).val + (y 2).val) % 2048, by omega⟩ := by
    blk_ext [idx6 t, pt]
  have ey : y = ix3 0 ⟨(y 1).val, h1⟩ ⟨(y 2).val, h2⟩ := funext fun a => by
    match a with
    | ⟨0, _⟩ => exact Subsingleton.elim (α := Fin 1) _ _
    | ⟨1, _⟩ => rfl
    | ⟨2, _⟩ => rfl
  rw [e5]
  refine (congrArg _ ey).trans ((out6_apply _ _ _ _ _ _).trans ?_)
  exact congr (congr (congrArg proj (funext fun k => rd0 m c t _ k)) (funext fun k => rd1 m c t k)) (funext fun x => (rd3 m c t _ x).trans (congrArg (fun z => m ((c : Thread nD τ).loc main_arg2) (ix2 x z))
    (Fin.ext (by show 1024 + (1024 + (y 1).val) = 2048 + (y 1).val; omega))))
end Cert.QkvIdeal.Dec
end
-- ==== Proof.Qkv.Ref.lean ====
module

public import proofs.«01_k».proof.Proof.Gen.QkvRefIdeal.Read
public import proofs.«01_k».proof.Proof.Qkv.Final

@[expose] public section

set_option maxRecDepth 16384

noncomputable section

namespace Cert.QkvRefIdeal.Dec

open Cert.QkvRefIdeal Cert.QkvRefIdeal.Gen Cert.QkvRefIdeal.Read Idealize.ShloMosaic Idealize.ShloMosaic.TcCoe Idealize.SL.Sem
open Cert.Dec

variable (h : FVec Ideal S8x2048x1024 .f32) (g : FVec Ideal S1024 .f32) (w : FVec Ideal S1024x3072 .f32)

theorem u_apply (b : Fin 8) (i : Fin 2048) (e : Fin 1024) :
    val_main_v12 (F := Ideal) h g (ix3 b i e) = rmsN (fun k => h (ix3 b i k)) (fun k => g (ix1 k)) e := by
  unfold rmsN
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

theorem y_apply (b : Fin 8) (i : Fin 2048) (k : Fin 3072) :
    val_main_v13 (F := Ideal) h g w (ix3 b i k) = Cert.QkvIdeal.Dec.G h g w b i k := by
  have hu := u_apply h g b i
  unfold val_main_v13
  generalize val_main_v12 (F := Ideal) h g = u at hu ⊢
  unfold Cert.QkvIdeal.Dec.G proj
  simp only [← hu]
  pointwise

theorem o4_apply (a : Fin 16384) (e : Fin 1024) :
    val_main_v21 (F := Ideal) h g w (ix2 a e) = Cert.QkvIdeal.Dec.G h g w ⟨(a : ℕ) / 2048, by omega⟩ ⟨(a : ℕ) % 2048, by omega⟩ ⟨(e : ℕ), by omega⟩ := by
  have hy := y_apply h g w
  unfold val_main_v21 val_main_v16 val_main_v15 val_main_v14
  generalize val_main_v13 (F := Ideal) h g w = u at hy ⊢
  pointwise
  refine (hy _ _ _).trans ?_
  congr 1 <;> (apply Fin.ext; simp only [Fin.val_mk]; omega)

theorem o4_eq : val_main_v21 (F := Ideal) h g w = Cert.QkvIdeal.Dec.G4 h g w := by
  funext j
  have hj : j = ix2 (j 0) (j 1) := funext fun a => by
    match a with
    | ⟨0, _⟩ => rfl
    | ⟨1, _⟩ => rfl
  rw [hj]
  exact o4_apply h g w (j 0) (j 1)

theorem o5_apply (a : Fin 8) (e : Fin 1024) (i : Fin 2048) :
    val_main_v23 (F := Ideal) h g w (ix3 a e i) = Cert.QkvIdeal.Dec.G h g w a i ⟨1024 + (e : ℕ), by omega⟩ := by
  have hy := y_apply h g w
  unfold val_main_v23 val_main_v22 val_main_v18 val_main_v17 val_main_v14
  generalize val_main_v13 (F := Ideal) h g w = u at hy ⊢
  pointwise
  refine (hy _ _ _).trans ?_
  congr 1 <;> (apply Fin.ext; simp only [Fin.val_mk]; omega)

theorem o5_eq : val_main_v23 (F := Ideal) h g w = Cert.QkvIdeal.Dec.G5 h g w := by
  funext j
  have hj : j = ix3 (j 0) (j 1) (j 2) := funext fun a => by
    match a with
    | ⟨0, _⟩ => rfl
    | ⟨1, _⟩ => rfl
    | ⟨2, _⟩ => rfl
  rw [hj]
  exact o5_apply h g w (j 0) (j 1) (j 2)

theorem o6_apply (a : Fin 8) (e : Fin 1024) (i : Fin 2048) :
    val_main_v25 (F := Ideal) h g w (ix3 a e i) = Cert.QkvIdeal.Dec.G h g w a i ⟨2048 + (e : ℕ), by omega⟩ := by
  have hy := y_apply h g w
  unfold val_main_v25 val_main_v24 val_main_v20 val_main_v19 val_main_v14
  generalize val_main_v13 (F := Ideal) h g w = u at hy ⊢
  pointwise
  refine (hy _ _ _).trans ?_
  congr 1 <;> (apply Fin.ext; simp only [Fin.val_mk]; omega)

theorem o6_eq : val_main_v25 (F := Ideal) h g w = Cert.QkvIdeal.Dec.G6 h g w := by
  funext j
  have hj : j = ix3 (j 0) (j 1) (j 2) := funext fun a => by
    match a with
    | ⟨0, _⟩ => rfl
    | ⟨1, _⟩ => rfl
    | ⟨2, _⟩ => rfl
  rw [hj]
  exact o6_apply h g w (j 0) (j 1) (j 2)
end Cert.QkvRefIdeal.Dec
end
-- ==== Proof.QkvS.Point.lean ====
module

public import proofs.«01_k».proof.Proof.Gen.QkvSIdeal.Value
public import Idealize.ShloMosaic.Lib.Pipeline.ValueKit
public import proofs.«01_k».proof.Proof.Dec.Norm

@[expose] public section

set_option maxRecDepth 16384

noncomputable section

namespace Cert.QkvSIdeal.Dec

open Cert.QkvSIdeal Cert.QkvSIdeal.Gen Idealize.ShloMosaic Idealize.ShloMosaic.TcCoe Idealize.SL.Sem
open Idealize.ShloMosaic.Pipeline Cert.Dec

theorem u_apply (v0 : Vec Ideal S128x1024 .f32) (v2 : Vec Ideal S1x1024 .f32) (p : Fin 128) (e : Fin 1024) :
    k0_pay1 v0 v2 (ix2 p e) = rmsN (fun k => v0 (ix2 p k)) (fun k => v2 (ix2 0 k)) e := by
  pointwise [k0_pay1]
  rfl

theorem out3_apply (x0 : Vec Ideal S128x1024 .f32) (x1 : Vec Ideal S1x1024 .f32) (x2 : Vec Ideal S1024x3072 .bf16) (p : Fin 128) (e : Fin 1024) :
    out0_3 x0 x1 x2 (ix2 p e) = proj (fun k => x0 (ix2 p k)) (fun k => x1 (ix2 0 k)) (fun x => x2 (ix2 x ⟨(e : ℕ), by omega⟩)) := by
  have ez : (![0, 0] : Fin 2 → ℕ) = fun _ => 0 := by decide
  unfold out0_3
  rw [View.canon_unit_zero ez, View.ld_unit_zero ez, View.ld_unit_zero ez]
  have h := u_apply x0 x1 p
  unfold k0_pay2
  generalize k0_pay1 x0 x1 = u at h ⊢
  unfold proj
  simp only [← h]
  pointwise

theorem out4_apply (x0 : Vec Ideal S128x1024 .f32) (x1 : Vec Ideal S1x1024 .f32) (x2 : Vec Ideal S1024x3072 .bf16) (p : Fin 128) (e : Fin 1024) :
    out0_4 x0 x1 x2 (ix2 p e) = proj (fun k => x0 (ix2 p k)) (fun k => x1 (ix2 0 k)) (fun x => x2 (ix2 x ⟨1024 + (e : ℕ), by omega⟩)) := by
  have ez : (![0, 0] : Fin 2 → ℕ) = fun _ => 0 := by decide
  unfold out0_4
  rw [View.canon_unit_zero ez, View.ld_unit_zero ez, View.ld_unit_zero ez]
  have h := u_apply x0 x1 p
  unfold k0_pay3
  generalize k0_pay1 x0 x1 = u at h ⊢
  unfold proj
  simp only [← h]
  pointwise

theorem out5_apply (x0 : Vec Ideal S128x1024 .f32) (x1 : Vec Ideal S1x1024 .f32) (x2 : Vec Ideal S1024x3072 .bf16) (p : Fin 128) (e : Fin 1024) :
    out0_5 x0 x1 x2 (ix2 p e) = proj (fun k => x0 (ix2 p k)) (fun k => x1 (ix2 0 k)) (fun x => x2 (ix2 x ⟨2048 + (e : ℕ), by omega⟩)) := by
  have ez : (![0, 0] : Fin 2 → ℕ) = fun _ => 0 := by decide
  unfold out0_5
  rw [View.canon_unit_zero ez, View.ld_unit_zero ez, View.ld_unit_zero ez]
  have h := u_apply x0 x1 p
  unfold k0_pay4
  generalize k0_pay1 x0 x1 = u at h ⊢
  unfold proj
  simp only [← h]
  pointwise
end Cert.QkvSIdeal.Dec
end
-- ==== Proof.QkvS.Final.lean ====
module

public import proofs.«01_k».proof.Proof.QkvS.Point

@[expose] public section

set_option maxRecDepth 16384

noncomputable section

namespace Cert.QkvSIdeal.Dec

open Cert.QkvSIdeal Cert.QkvSIdeal.Gen Idealize.ShloMosaic Idealize.ShloMosaic.TcCoe Idealize.SL.Sem
open Idealize.ShloMosaic.Pipeline Cert.Dec

variable (m : (ℓ : Loc nD τ sig) → Buf (Elt Ideal) ℓ)

/-- The point of the grid as a number. -/
def pt (t : Fin cfg0.N) : Fin 1 := t

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

theorem rd0 (c : Dev nD) (t : Fin cfg0.N) (p : Fin 128) (e : Fin 1024) :
    iblk m c 0 t (ix2 p e) = m ((c : Thread nD τ).loc main_arg0)
      (ix3 ⟨(128 * (pt t).val + p) / 4, by omega⟩ ⟨(128 * (pt t).val + p) % 4, by omega⟩ e) := by
  blk_simp [iblk]
  entry_read
  pointwise
  blk_ext [idx0 t, pt]

theorem rd1 (c : Dev nD) (t : Fin cfg0.N) (e : Fin 1024) :
    iblk m c 1 t (ix2 0 e) = m ((c : Thread nD τ).loc main_arg1) (ix1 e) := by
  blk_simp [iblk]
  entry_read
  pointwise
  blk_ext [idx1 t]

theorem rd2 (c : Dev nD) (t : Fin cfg0.N) (x : Fin 1024) (k : Fin 3072) :
    iblk m c 2 t (ix2 x k) = m ((c : Thread nD τ).loc main_arg2) (ix2 x k) := by
  blk_simp [iblk]
  entry_read
  pointwise
  blk_ext [idx2 t]

/-- One entry of the product of a normed row and the weights: the row at batch `b` and place `i`, the column `k`. -/
def G (h : FVec Ideal S32x4x1024 .f32) (g : FVec Ideal S1024 .f32) (w : FVec Ideal S1024x3072 .f32) (b : Fin 32) (i : Fin 4) (k : Fin 3072) : EReal :=
  proj (fun k => h (ix3 b i k)) (fun k => g (ix1 k)) (fun x => w (ix2 x k))

theorem idx3 : ∀ t : Fin cfg0.N, win0_3.index t = ![t.val, 0] := (by decide +kernel : ∀ t : Fin grid0.N, _)

/-- The rows of window 3 as one function of the arguments. -/
def G3 (h : FVec Ideal S32x4x1024 .f32) (g : FVec Ideal S1024 .f32) (w : FVec Ideal S1024x3072 .f32) : FVec Ideal S128x1024 .f32 := fun j =>
  (fun (r : Fin 128) (e : Fin 1024) => G h g w ⟨(r : ℕ) / 4, by omega⟩ ⟨(r : ℕ) % 4, by omega⟩ ⟨(e : ℕ), by omega⟩) (j 0) (j 1)

theorem final3 (c : Dev nD) : (dats m 0 c).arrAt 3 cfg0.N = G3 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have h0 : (y 0).val < 128 := (y 0).isLt
  have h1 : (y 1).val < 1024 := (y 1).isLt
  have e5 : (win0_3.blk t).view.emb y = ix2 ⟨128 * (pt t).val + (y 0).val, by omega⟩ ⟨(y 1).val, h1⟩ := by
    blk_ext [idx3 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out3_apply _ _ _ _ _).trans ?_)
  exact congr (congr (congrArg proj (funext fun k => rd0 m c t _ k)) (funext fun k => rd1 m c t k)) (funext fun x => rd2 m c t x _)

theorem idx4 : ∀ t : Fin cfg0.N, win0_4.index t = ![t.val, 0] := (by decide +kernel : ∀ t : Fin grid0.N, _)

/-- The rows of window 4 as one function of the arguments. -/
def G4 (h : FVec Ideal S32x4x1024 .f32) (g : FVec Ideal S1024 .f32) (w : FVec Ideal S1024x3072 .f32) : FVec Ideal S128x1024 .f32 := fun j =>
  (fun (r : Fin 128) (e : Fin 1024) => G h g w ⟨(r : ℕ) / 4, by omega⟩ ⟨(r : ℕ) % 4, by omega⟩ ⟨1024 + (e : ℕ), by omega⟩) (j 0) (j 1)

theorem final4 (c : Dev nD) : (dats m 0 c).arrAt 4 cfg0.N = G4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have h0 : (y 0).val < 128 := (y 0).isLt
  have h1 : (y 1).val < 1024 := (y 1).isLt
  have e5 : (win0_4.blk t).view.emb y = ix2 ⟨128 * (pt t).val + (y 0).val, by omega⟩ ⟨(y 1).val, h1⟩ := by
    blk_ext [idx4 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out4_apply _ _ _ _ _).trans ?_)
  exact congr (congr (congrArg proj (funext fun k => rd0 m c t _ k)) (funext fun k => rd1 m c t k)) (funext fun x => rd2 m c t x _)

theorem idx5 : ∀ t : Fin cfg0.N, win0_5.index t = ![t.val, 0] := (by decide +kernel : ∀ t : Fin grid0.N, _)

/-- The rows of window 5 as one function of the arguments. -/
def G5 (h : FVec Ideal S32x4x1024 .f32) (g : FVec Ideal S1024 .f32) (w : FVec Ideal S1024x3072 .f32) : FVec Ideal S128x1024 .f32 := fun j =>
  (fun (r : Fin 128) (e : Fin 1024) => G h g w ⟨(r : ℕ) / 4, by omega⟩ ⟨(r : ℕ) % 4, by omega⟩ ⟨2048 + (e : ℕ), by omega⟩) (j 0) (j 1)

theorem final5 (c : Dev nD) : (dats m 0 c).arrAt 5 cfg0.N = G5 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  have h0 : (y 0).val < 128 := (y 0).isLt
  have h1 : (y 1).val < 1024 := (y 1).isLt
  have e5 : (win0_5.blk t).view.emb y = ix2 ⟨128 * (pt t).val + (y 0).val, by omega⟩ ⟨(y 1).val, h1⟩ := by
    blk_ext [idx5 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out5_apply _ _ _ _ _).trans ?_)
  exact congr (congr (congrArg proj (funext fun k => rd0 m c t _ k)) (funext fun k => rd1 m c t k)) (funext fun x => rd2 m c t x _)
end Cert.QkvSIdeal.Dec
end
-- ==== Proof.QkvS.Ref.lean ====
module

public import proofs.«01_k».proof.Proof.Gen.QkvSRefIdeal.Read
public import proofs.«01_k».proof.Proof.QkvS.Final

@[expose] public section

set_option maxRecDepth 16384

noncomputable section

namespace Cert.QkvSRefIdeal.Dec

open Cert.QkvSRefIdeal Cert.QkvSRefIdeal.Gen Cert.QkvSRefIdeal.Read Idealize.ShloMosaic Idealize.ShloMosaic.TcCoe Idealize.SL.Sem
open Cert.Dec

variable (h : FVec Ideal S32x4x1024 .f32) (g : FVec Ideal S1024 .f32) (w : FVec Ideal S1024x3072 .f32)

theorem u_apply (b : Fin 32) (i : Fin 4) (e : Fin 1024) :
    val_main_v12 (F := Ideal) h g (ix3 b i e) = rmsN (fun k => h (ix3 b i k)) (fun k => g (ix1 k)) e := by
  unfold rmsN
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

theorem y_apply (b : Fin 32) (i : Fin 4) (k : Fin 3072) :
    val_main_v13 (F := Ideal) h g w (ix3 b i k) = Cert.QkvSIdeal.Dec.G h g w b i k := by
  have hu := u_apply h g b i
  unfold val_main_v13
  generalize val_main_v12 (F := Ideal) h g = u at hu ⊢
  unfold Cert.QkvSIdeal.Dec.G proj
  simp only [← hu]
  pointwise

theorem o3_apply (a : Fin 128) (e : Fin 1024) :
    val_main_v17 (F := Ideal) h g w (ix2 a e) = Cert.QkvSIdeal.Dec.G h g w ⟨(a : ℕ) / 4, by omega⟩ ⟨(a : ℕ) % 4, by omega⟩ ⟨(e : ℕ), by omega⟩ := by
  have hy := y_apply h g w
  unfold val_main_v17 val_main_v16 val_main_v15 val_main_v14
  generalize val_main_v13 (F := Ideal) h g w = u at hy ⊢
  pointwise
  refine (hy _ _ _).trans ?_
  congr 1 <;> (apply Fin.ext; simp only [Fin.val_mk]; omega)

theorem o3_eq : val_main_v17 (F := Ideal) h g w = Cert.QkvSIdeal.Dec.G3 h g w := by
  funext j
  have hj : j = ix2 (j 0) (j 1) := funext fun a => by
    match a with
    | ⟨0, _⟩ => rfl
    | ⟨1, _⟩ => rfl
  rw [hj]
  exact o3_apply h g w (j 0) (j 1)

theorem o4_apply (a : Fin 128) (e : Fin 1024) :
    val_main_v20 (F := Ideal) h g w (ix2 a e) = Cert.QkvSIdeal.Dec.G h g w ⟨(a : ℕ) / 4, by omega⟩ ⟨(a : ℕ) % 4, by omega⟩ ⟨1024 + (e : ℕ), by omega⟩ := by
  have hy := y_apply h g w
  unfold val_main_v20 val_main_v19 val_main_v18 val_main_v14
  generalize val_main_v13 (F := Ideal) h g w = u at hy ⊢
  pointwise
  refine (hy _ _ _).trans ?_
  congr 1 <;> (apply Fin.ext; simp only [Fin.val_mk]; omega)

theorem o4_eq : val_main_v20 (F := Ideal) h g w = Cert.QkvSIdeal.Dec.G4 h g w := by
  funext j
  have hj : j = ix2 (j 0) (j 1) := funext fun a => by
    match a with
    | ⟨0, _⟩ => rfl
    | ⟨1, _⟩ => rfl
  rw [hj]
  exact o4_apply h g w (j 0) (j 1)

theorem o5_apply (a : Fin 128) (e : Fin 1024) :
    val_main_v23 (F := Ideal) h g w (ix2 a e) = Cert.QkvSIdeal.Dec.G h g w ⟨(a : ℕ) / 4, by omega⟩ ⟨(a : ℕ) % 4, by omega⟩ ⟨2048 + (e : ℕ), by omega⟩ := by
  have hy := y_apply h g w
  unfold val_main_v23 val_main_v22 val_main_v21 val_main_v14
  generalize val_main_v13 (F := Ideal) h g w = u at hy ⊢
  pointwise
  refine (hy _ _ _).trans ?_
  congr 1 <;> (apply Fin.ext; simp only [Fin.val_mk]; omega)

theorem o5_eq : val_main_v23 (F := Ideal) h g w = Cert.QkvSIdeal.Dec.G5 h g w := by
  funext j
  have hj : j = ix2 (j 0) (j 1) := funext fun a => by
    match a with
    | ⟨0, _⟩ => rfl
    | ⟨1, _⟩ => rfl
  rw [hj]
  exact o5_apply h g w (j 0) (j 1)
end Cert.QkvSRefIdeal.Dec
end
-- ==== Proof.Kv.Point.lean ====
module

public import proofs.«01_k».proof.Proof.Gen.KvIdeal.Value
public import Idealize.ShloMosaic.Lib.Pipeline.ValueKit
public import proofs.«01_k».proof.Proof.Dec.Norm

@[expose] public section

set_option maxRecDepth 16384

noncomputable section

namespace Cert.KvIdeal.Dec

open Cert.KvIdeal Cert.KvIdeal.Gen Idealize.ShloMosaic Idealize.ShloMosaic.TcCoe Idealize.SL.Sem
open Idealize.ShloMosaic.Pipeline Cert.Dec

theorem u_apply (v0 : Vec Ideal S512x1024 .f32) (v2 : Vec Ideal S1x1024 .f32) (p : Fin 512) (e : Fin 1024) :
    k0_pay2 v0 v2 (ix2 p e) = rmsN (fun k => v0 (ix2 p k)) (fun k => v2 (ix2 0 k)) e := by
  pointwise [k0_pay2]
  rfl

theorem out4_apply (x0 : Vec Ideal S512x1024 .f32) (x1 : Vec Ideal S1x1024 .f32) (x2 : Vec Ideal S1024x2048 .bf16) (x3 : Vec Ideal S2048x1024 .bf16) (p : Fin 512) (e : Fin 1024) :
    out0_4 x0 x1 x2 x3 (ix2 p e) = proj (fun k => x0 (ix2 p k)) (fun k => x1 (ix2 0 k)) (fun x => x2 (ix2 x ⟨(e : ℕ), by omega⟩)) := by
  have ez : (![0, 0] : Fin 2 → ℕ) = fun _ => 0 := by decide
  unfold out0_4
  rw [View.canon_unit_zero ez, View.ld_unit_zero ez, View.ld_unit_zero ez]
  have h := u_apply x0 x1 p
  unfold k0_pay3
  generalize k0_pay2 x0 x1 = u at h ⊢
  unfold proj
  simp only [← h]
  pointwise

theorem out5_apply (x0 : Vec Ideal S512x1024 .f32) (x1 : Vec Ideal S1x1024 .f32) (x2 : Vec Ideal S1024x2048 .bf16) (x3 : Vec Ideal S2048x1024 .bf16) (p : Fin 512) (e : Fin 1024) :
    out0_5 x0 x1 x2 x3 (ix2 p e) = proj (fun k => x0 (ix2 p k)) (fun k => x1 (ix2 0 k)) (fun x => x2 (ix2 x ⟨1024 + (e : ℕ), by omega⟩)) := by
  have ez : (![0, 0] : Fin 2 → ℕ) = fun _ => 0 := by decide
  unfold out0_5
  rw [View.canon_unit_zero ez, View.ld_unit_zero ez, View.ld_unit_zero ez]
  have h := u_apply x0 x1 p
  unfold k0_pay4
  generalize k0_pay2 x0 x1 = u at h ⊢
  unfold proj
  simp only [← h]
  pointwise

theorem out6_apply (x0 : Vec Ideal S512x1024 .f32) (x1 : Vec Ideal S1x1024 .f32) (x2 : Vec Ideal S1024x2048 .bf16) (x3 : Vec Ideal S2048x1024 .bf16) (p : Fin 512) (e : Fin 1024) :
    out0_6 x0 x1 x2 x3 (ix3 0 e p) = proj (fun k => x0 (ix2 p k)) (fun k => x1 (ix2 0 k)) (fun x => x3 (ix2 ⟨(e : ℕ), by omega⟩ x)) := by
  have ez : (![0, 0] : Fin 2 → ℕ) = fun _ => 0 := by decide
  have ez3 : (![0, 0, 0] : Fin 3 → ℕ) = fun _ => 0 := by decide
  unfold out0_6
  rw [View.canon_unit_zero ez3, View.ld_unit_zero ez, View.ld_unit_zero ez]
  have h := u_apply x0 x1 p
  unfold k0_pay5
  generalize k0_pay2 x0 x1 = u at h ⊢
  unfold proj
  simp only [← h, mul_comm (u _)]
  pointwise

theorem out7_apply (x0 : Vec Ideal S512x1024 .f32) (x1 : Vec Ideal S1x1024 .f32) (x2 : Vec Ideal S1024x2048 .bf16) (x3 : Vec Ideal S2048x1024 .bf16) (p : Fin 512) (e : Fin 1024) :
    out0_7 x0 x1 x2 x3 (ix3 0 e p) = proj (fun k => x0 (ix2 p k)) (fun k => x1 (ix2 0 k)) (fun x => x3 (ix2 ⟨1024 + (e : ℕ), by omega⟩ x)) := by
  have ez : (![0, 0] : Fin 2 → ℕ) = fun _ => 0 := by decide
  have ez3 : (![0, 0, 0] : Fin 3 → ℕ) = fun _ => 0 := by decide
  unfold out0_7
  rw [View.canon_unit_zero ez3, View.ld_unit_zero ez, View.ld_unit_zero ez]
  have h := u_apply x0 x1 p
  unfold k0_pay1
  generalize k0_pay2 x0 x1 = u at h ⊢
  unfold proj
  simp only [← h, mul_comm (u _)]
  pointwise
end Cert.KvIdeal.Dec
end
-- ==== Proof.Kv.Final.lean ====
module

public import proofs.«01_k».proof.Proof.Kv.Point

@[expose] public section

set_option maxRecDepth 16384

noncomputable section

namespace Cert.KvIdeal.Dec

open Cert.KvIdeal Cert.KvIdeal.Gen Idealize.ShloMosaic Idealize.ShloMosaic.TcCoe Idealize.SL.Sem
open Idealize.ShloMosaic.Pipeline Cert.Dec

variable (m : (ℓ : Loc nD τ sig) → Buf (Elt Ideal) ℓ)

/-- The point of the grid as a number. -/
def pt (t : Fin cfg0.N) : Fin 32 := t

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

theorem rd0 (c : Dev nD) (t : Fin cfg0.N) (p : Fin 512) (e : Fin 1024) :
    iblk m c 0 t (ix2 p e) = m ((c : Thread nD τ).loc main_arg0)
      (ix3 ⟨(512 * (pt t).val + p) / 2048, by omega⟩ ⟨(512 * (pt t).val + p) % 2048, by omega⟩ e) := by
  blk_simp [iblk]
  entry_read
  pointwise
  blk_ext [idx0 t, pt]

theorem rd1 (c : Dev nD) (t : Fin cfg0.N) (e : Fin 1024) :
    iblk m c 1 t (ix2 0 e) = m ((c : Thread nD τ).loc main_arg1) (ix1 e) := by
  blk_simp [iblk]
  entry_read
  pointwise
  blk_ext [idx1 t]

theorem rd2 (c : Dev nD) (t : Fin cfg0.N) (x : Fin 1024) (k : Fin 2048) :
    iblk m c 2 t (ix2 x k) = m ((c : Thread nD τ).loc main_arg2) (ix2 x k) := by
  blk_simp [iblk]
  entry_read
  pointwise
  blk_ext [idx2 t]

theorem rd3 (c : Dev nD) (t : Fin cfg0.N) (k : Fin 2048) (x : Fin 1024) :
    iblk m c 3 t (ix2 k x) = m ((c : Thread nD τ).loc main_arg2) (ix2 x k) := by
  blk_simp [iblk]
  entry_read
  pointwise
  blk_ext [idx3 t]

/-- One entry of the product of a normed row and the weights: the row at batch `b` and place `i`, the column `k`. -/
def G (h : FVec Ideal S8x2048x1024 .f32) (g : FVec Ideal S1024 .f32) (w : FVec Ideal S1024x2048 .f32) (b : Fin 8) (i : Fin 2048) (k : Fin 2048) : EReal :=
  proj (fun k => h (ix3 b i k)) (fun k => g (ix1 k)) (fun x => w (ix2 x k))

theorem idx4 : ∀ t : Fin cfg0.N, win0_4.index t = ![t.val, 0] := (by decide +kernel : ∀ t : Fin grid0.N, _)

/-- The rows of window 4 as one function of the arguments. -/
def G4 (h : FVec Ideal S8x2048x1024 .f32) (g : FVec Ideal S1024 .f32) (w : FVec Ideal S1024x2048 .f32) : FVec Ideal S16384x1024 .f32 := fun j =>
  (fun (r : Fin 16384) (e : Fin 1024) => G h g w ⟨(r : ℕ) / 2048, by omega⟩ ⟨(r : ℕ) % 2048, by omega⟩ ⟨(e : ℕ), by omega⟩) (j 0) (j 1)

theorem final4 (c : Dev nD) : (dats m 0 c).arrAt 4 cfg0.N = G4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have h0 : (y 0).val < 512 := (y 0).isLt
  have h1 : (y 1).val < 1024 := (y 1).isLt
  have e5 : (win0_4.blk t).view.emb y = ix2 ⟨512 * (pt t).val + (y 0).val, by omega⟩ ⟨(y 1).val, h1⟩ := by
    blk_ext [idx4 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out4_apply _ _ _ _ _ _).trans ?_)
  exact congr (congr (congrArg proj (funext fun k => rd0 m c t _ k)) (funext fun k => rd1 m c t k)) (funext fun x => rd2 m c t x _)

theorem idx5 : ∀ t : Fin cfg0.N, win0_5.index t = ![t.val, 0] := (by decide +kernel : ∀ t : Fin grid0.N, _)

/-- The rows of window 5 as one function of the arguments. -/
def G5 (h : FVec Ideal S8x2048x1024 .f32) (g : FVec Ideal S1024 .f32) (w : FVec Ideal S1024x2048 .f32) : FVec Ideal S16384x1024 .f32 := fun j =>
  (fun (r : Fin 16384) (e : Fin 1024) => G h g w ⟨(r : ℕ) / 2048, by omega⟩ ⟨(r : ℕ) % 2048, by omega⟩ ⟨1024 + (e : ℕ), by omega⟩) (j 0) (j 1)

theorem final5 (c : Dev nD) : (dats m 0 c).arrAt 5 cfg0.N = G5 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  have h0 : (y 0).val < 512 := (y 0).isLt
  have h1 : (y 1).val < 1024 := (y 1).isLt
  have e5 : (win0_5.blk t).view.emb y = ix2 ⟨512 * (pt t).val + (y 0).val, by omega⟩ ⟨(y 1).val, h1⟩ := by
    blk_ext [idx5 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out5_apply _ _ _ _ _ _).trans ?_)
  exact congr (congr (congrArg proj (funext fun k => rd0 m c t _ k)) (funext fun k => rd1 m c t k)) (funext fun x => rd2 m c t x _)

theorem idx6 : ∀ t : Fin cfg0.N, win0_6.index t = ![t.val / 4, 0, t.val % 4] := (by decide +kernel : ∀ t : Fin grid0.N, _)

/-- The transposed rows of window 6 as one function of the arguments. -/
def G6 (h : FVec Ideal S8x2048x1024 .f32) (g : FVec Ideal S1024 .f32) (w : FVec Ideal S1024x2048 .f32) : FVec Ideal S8x1024x2048 .f32 := fun j =>
  (fun (b : Fin 8) (e : Fin 1024) (i : Fin 2048) => G h g w b i ⟨(e : ℕ), by omega⟩) (j 0) (j 1) (j 2)

theorem final6 (c : Dev nD) : (dats m 0 c).arrAt 6 cfg0.N = G6 (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  have h1 : (y 1).val < 1024 := (y 1).isLt
  have h2 : (y 2).val < 512 := (y 2).isLt
  have e5 : (win0_6.blk t).view.emb y = ix3 ⟨(512 * (pt t).val + (y 2).val) / 2048, by omega⟩ ⟨(y 1).val, h1⟩ ⟨(512 * (pt t).val + (y 2).val) % 2048, by omega⟩ := by
    blk_ext [idx6 t, pt]
  have ey : y = ix3 0 ⟨(y 1).val, h1⟩ ⟨(y 2).val, h2⟩ := funext fun a => by
    match a with
    | ⟨0, _⟩ => exact Subsingleton.elim (α := Fin 1) _ _
    | ⟨1, _⟩ => rfl
    | ⟨2, _⟩ => rfl
  rw [e5]
  refine (congrArg _ ey).trans ((out6_apply _ _ _ _ _ _).trans ?_)
  exact congr (congr (congrArg proj (funext fun k => rd0 m c t _ k)) (funext fun k => rd1 m c t k)) (funext fun x => rd3 m c t _ x)

theorem idx7 : ∀ t : Fin cfg0.N, win0_7.index t = ![t.val / 4, 0, t.val % 4] := (by decide +kernel : ∀ t : Fin grid0.N, _)

/-- The transposed rows of window 7 as one function of the arguments. -/
def G7 (h : FVec Ideal S8x2048x1024 .f32) (g : FVec Ideal S1024 .f32) (w : FVec Ideal S1024x2048 .f32) : FVec Ideal S8x1024x2048 .f32 := fun j =>
  (fun (b : Fin 8) (e : Fin 1024) (i : Fin 2048) => G h g w b i ⟨1024 + (e : ℕ), by omega⟩) (j 0) (j 1) (j 2)

theorem final7 (c : Dev nD) : (dats m 0 c).arrAt 7 cfg0.N = G7 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  have h1 : (y 1).val < 1024 := (y 1).isLt
  have h2 : (y 2).val < 512 := (y 2).isLt
  have e5 : (win0_7.blk t).view.emb y = ix3 ⟨(512 * (pt t).val + (y 2).val) / 2048, by omega⟩ ⟨(y 1).val, h1⟩ ⟨(512 * (pt t).val + (y 2).val) % 2048, by omega⟩ := by
    blk_ext [idx7 t, pt]
  have ey : y = ix3 0 ⟨(y 1).val, h1⟩ ⟨(y 2).val, h2⟩ := funext fun a => by
    match a with
    | ⟨0, _⟩ => exact Subsingleton.elim (α := Fin 1) _ _
    | ⟨1, _⟩ => rfl
    | ⟨2, _⟩ => rfl
  rw [e5]
  refine (congrArg _ ey).trans ((out7_apply _ _ _ _ _ _).trans ?_)
  exact congr (congr (congrArg proj (funext fun k => rd0 m c t _ k)) (funext fun k => rd1 m c t k)) (funext fun x => rd3 m c t _ x)
end Cert.KvIdeal.Dec
end
-- ==== Proof.Kv.Ref.lean ====
module

public import proofs.«01_k».proof.Proof.Gen.KvRefIdeal.Read
public import proofs.«01_k».proof.Proof.Kv.Final

@[expose] public section

set_option maxRecDepth 16384

noncomputable section

namespace Cert.KvRefIdeal.Dec

open Cert.KvRefIdeal Cert.KvRefIdeal.Gen Cert.KvRefIdeal.Read Idealize.ShloMosaic Idealize.ShloMosaic.TcCoe Idealize.SL.Sem
open Cert.Dec

variable (h : FVec Ideal S8x2048x1024 .f32) (g : FVec Ideal S1024 .f32) (w : FVec Ideal S1024x2048 .f32)

theorem u_apply (b : Fin 8) (i : Fin 2048) (e : Fin 1024) :
    val_main_v12 (F := Ideal) h g (ix3 b i e) = rmsN (fun k => h (ix3 b i k)) (fun k => g (ix1 k)) e := by
  unfold rmsN
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

theorem y_apply (b : Fin 8) (i : Fin 2048) (k : Fin 2048) :
    val_main_v13 (F := Ideal) h g w (ix3 b i k) = Cert.KvIdeal.Dec.G h g w b i k := by
  have hu := u_apply h g b i
  unfold val_main_v13
  generalize val_main_v12 (F := Ideal) h g = u at hu ⊢
  unfold Cert.KvIdeal.Dec.G proj
  simp only [← hu]
  pointwise

theorem o4_apply (a : Fin 16384) (e : Fin 1024) :
    val_main_v19 (F := Ideal) h g w (ix2 a e) = Cert.KvIdeal.Dec.G h g w ⟨(a : ℕ) / 2048, by omega⟩ ⟨(a : ℕ) % 2048, by omega⟩ ⟨(e : ℕ), by omega⟩ := by
  have hy := y_apply h g w
  unfold val_main_v19 val_main_v16 val_main_v15 val_main_v14
  generalize val_main_v13 (F := Ideal) h g w = u at hy ⊢
  pointwise
  refine (hy _ _ _).trans ?_
  congr 1 <;> (apply Fin.ext; simp only [Fin.val_mk]; omega)

theorem o4_eq : val_main_v19 (F := Ideal) h g w = Cert.KvIdeal.Dec.G4 h g w := by
  funext j
  have hj : j = ix2 (j 0) (j 1) := funext fun a => by
    match a with
    | ⟨0, _⟩ => rfl
    | ⟨1, _⟩ => rfl
  rw [hj]
  exact o4_apply h g w (j 0) (j 1)

theorem o5_apply (a : Fin 16384) (e : Fin 1024) :
    val_main_v20 (F := Ideal) h g w (ix2 a e) = Cert.KvIdeal.Dec.G h g w ⟨(a : ℕ) / 2048, by omega⟩ ⟨(a : ℕ) % 2048, by omega⟩ ⟨1024 + (e : ℕ), by omega⟩ := by
  have hy := y_apply h g w
  unfold val_main_v20 val_main_v18 val_main_v17 val_main_v14
  generalize val_main_v13 (F := Ideal) h g w = u at hy ⊢
  pointwise
  refine (hy _ _ _).trans ?_
  congr 1 <;> (apply Fin.ext; simp only [Fin.val_mk]; omega)

theorem o5_eq : val_main_v20 (F := Ideal) h g w = Cert.KvIdeal.Dec.G5 h g w := by
  funext j
  have hj : j = ix2 (j 0) (j 1) := funext fun a => by
    match a with
    | ⟨0, _⟩ => rfl
    | ⟨1, _⟩ => rfl
  rw [hj]
  exact o5_apply h g w (j 0) (j 1)

theorem o6_apply (a : Fin 8) (e : Fin 1024) (i : Fin 2048) :
    val_main_v22 (F := Ideal) h g w (ix3 a e i) = Cert.KvIdeal.Dec.G h g w a i ⟨(e : ℕ), by omega⟩ := by
  have hy := y_apply h g w
  unfold val_main_v22 val_main_v21 val_main_v16 val_main_v15 val_main_v14
  generalize val_main_v13 (F := Ideal) h g w = u at hy ⊢
  pointwise
  refine (hy _ _ _).trans ?_
  congr 1 <;> (apply Fin.ext; simp only [Fin.val_mk]; omega)

theorem o6_eq : val_main_v22 (F := Ideal) h g w = Cert.KvIdeal.Dec.G6 h g w := by
  funext j
  have hj : j = ix3 (j 0) (j 1) (j 2) := funext fun a => by
    match a with
    | ⟨0, _⟩ => rfl
    | ⟨1, _⟩ => rfl
    | ⟨2, _⟩ => rfl
  rw [hj]
  exact o6_apply h g w (j 0) (j 1) (j 2)

theorem o7_apply (a : Fin 8) (e : Fin 1024) (i : Fin 2048) :
    val_main_v24 (F := Ideal) h g w (ix3 a e i) = Cert.KvIdeal.Dec.G h g w a i ⟨1024 + (e : ℕ), by omega⟩ := by
  have hy := y_apply h g w
  unfold val_main_v24 val_main_v23 val_main_v18 val_main_v17 val_main_v14
  generalize val_main_v13 (F := Ideal) h g w = u at hy ⊢
  pointwise
  refine (hy _ _ _).trans ?_
  congr 1 <;> (apply Fin.ext; simp only [Fin.val_mk]; omega)

theorem o7_eq : val_main_v24 (F := Ideal) h g w = Cert.KvIdeal.Dec.G7 h g w := by
  funext j
  have hj : j = ix3 (j 0) (j 1) (j 2) := funext fun a => by
    match a with
    | ⟨0, _⟩ => rfl
    | ⟨1, _⟩ => rfl
    | ⟨2, _⟩ => rfl
  rw [hj]
  exact o7_apply h g w (j 0) (j 1) (j 2)
end Cert.KvRefIdeal.Dec
end
-- ==== Proof.KvS.Point.lean ====
module

public import proofs.«01_k».proof.Proof.Gen.KvSIdeal.Value
public import Idealize.ShloMosaic.Lib.Pipeline.ValueKit
public import proofs.«01_k».proof.Proof.Dec.Norm

@[expose] public section

set_option maxRecDepth 16384

noncomputable section

namespace Cert.KvSIdeal.Dec

open Cert.KvSIdeal Cert.KvSIdeal.Gen Idealize.ShloMosaic Idealize.ShloMosaic.TcCoe Idealize.SL.Sem
open Idealize.ShloMosaic.Pipeline Cert.Dec

theorem u_apply (v0 : Vec Ideal S128x1024 .f32) (v2 : Vec Ideal S1x1024 .f32) (p : Fin 128) (e : Fin 1024) :
    k0_pay1 v0 v2 (ix2 p e) = rmsN (fun k => v0 (ix2 p k)) (fun k => v2 (ix2 0 k)) e := by
  pointwise [k0_pay1]
  rfl

theorem out3_apply (x0 : Vec Ideal S128x1024 .f32) (x1 : Vec Ideal S1x1024 .f32) (x2 : Vec Ideal S1024x2048 .bf16) (p : Fin 128) (e : Fin 1024) :
    out0_3 x0 x1 x2 (ix2 p e) = proj (fun k => x0 (ix2 p k)) (fun k => x1 (ix2 0 k)) (fun x => x2 (ix2 x ⟨(e : ℕ), by omega⟩)) := by
  have ez : (![0, 0] : Fin 2 → ℕ) = fun _ => 0 := by decide
  unfold out0_3
  rw [View.canon_unit_zero ez, View.ld_unit_zero ez, View.ld_unit_zero ez]
  have h := u_apply x0 x1 p
  unfold k0_pay2
  generalize k0_pay1 x0 x1 = u at h ⊢
  unfold proj
  simp only [← h]
  pointwise

theorem out4_apply (x0 : Vec Ideal S128x1024 .f32) (x1 : Vec Ideal S1x1024 .f32) (x2 : Vec Ideal S1024x2048 .bf16) (p : Fin 128) (e : Fin 1024) :
    out0_4 x0 x1 x2 (ix2 p e) = proj (fun k => x0 (ix2 p k)) (fun k => x1 (ix2 0 k)) (fun x => x2 (ix2 x ⟨1024 + (e : ℕ), by omega⟩)) := by
  have ez : (![0, 0] : Fin 2 → ℕ) = fun _ => 0 := by decide
  unfold out0_4
  rw [View.canon_unit_zero ez, View.ld_unit_zero ez, View.ld_unit_zero ez]
  have h := u_apply x0 x1 p
  unfold k0_pay3
  generalize k0_pay1 x0 x1 = u at h ⊢
  unfold proj
  simp only [← h]
  pointwise
end Cert.KvSIdeal.Dec
end
-- ==== Proof.KvS.Final.lean ====
module

public import proofs.«01_k».proof.Proof.KvS.Point

@[expose] public section

set_option maxRecDepth 16384

noncomputable section

namespace Cert.KvSIdeal.Dec

open Cert.KvSIdeal Cert.KvSIdeal.Gen Idealize.ShloMosaic Idealize.ShloMosaic.TcCoe Idealize.SL.Sem
open Idealize.ShloMosaic.Pipeline Cert.Dec

variable (m : (ℓ : Loc nD τ sig) → Buf (Elt Ideal) ℓ)

/-- The point of the grid as a number. -/
def pt (t : Fin cfg0.N) : Fin 1 := t

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

theorem rd0 (c : Dev nD) (t : Fin cfg0.N) (p : Fin 128) (e : Fin 1024) :
    iblk m c 0 t (ix2 p e) = m ((c : Thread nD τ).loc main_arg0)
      (ix3 ⟨(128 * (pt t).val + p) / 4, by omega⟩ ⟨(128 * (pt t).val + p) % 4, by omega⟩ e) := by
  blk_simp [iblk]
  entry_read
  pointwise
  blk_ext [idx0 t, pt]

theorem rd1 (c : Dev nD) (t : Fin cfg0.N) (e : Fin 1024) :
    iblk m c 1 t (ix2 0 e) = m ((c : Thread nD τ).loc main_arg1) (ix1 e) := by
  blk_simp [iblk]
  entry_read
  pointwise
  blk_ext [idx1 t]

theorem rd2 (c : Dev nD) (t : Fin cfg0.N) (x : Fin 1024) (k : Fin 2048) :
    iblk m c 2 t (ix2 x k) = m ((c : Thread nD τ).loc main_arg2) (ix2 x k) := by
  blk_simp [iblk]
  entry_read
  pointwise
  blk_ext [idx2 t]

/-- One entry of the product of a normed row and the weights: the row at batch `b` and place `i`, the column `k`. -/
def G (h : FVec Ideal S32x4x1024 .f32) (g : FVec Ideal S1024 .f32) (w : FVec Ideal S1024x2048 .f32) (b : Fin 32) (i : Fin 4) (k : Fin 2048) : EReal :=
  proj (fun k => h (ix3 b i k)) (fun k => g (ix1 k)) (fun x => w (ix2 x k))

theorem idx3 : ∀ t : Fin cfg0.N, win0_3.index t = ![t.val, 0] := (by decide +kernel : ∀ t : Fin grid0.N, _)

/-- The rows of window 3 as one function of the arguments. -/
def G3 (h : FVec Ideal S32x4x1024 .f32) (g : FVec Ideal S1024 .f32) (w : FVec Ideal S1024x2048 .f32) : FVec Ideal S128x1024 .f32 := fun j =>
  (fun (r : Fin 128) (e : Fin 1024) => G h g w ⟨(r : ℕ) / 4, by omega⟩ ⟨(r : ℕ) % 4, by omega⟩ ⟨(e : ℕ), by omega⟩) (j 0) (j 1)

theorem final3 (c : Dev nD) : (dats m 0 c).arrAt 3 cfg0.N = G3 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have h0 : (y 0).val < 128 := (y 0).isLt
  have h1 : (y 1).val < 1024 := (y 1).isLt
  have e5 : (win0_3.blk t).view.emb y = ix2 ⟨128 * (pt t).val + (y 0).val, by omega⟩ ⟨(y 1).val, h1⟩ := by
    blk_ext [idx3 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out3_apply _ _ _ _ _).trans ?_)
  exact congr (congr (congrArg proj (funext fun k => rd0 m c t _ k)) (funext fun k => rd1 m c t k)) (funext fun x => rd2 m c t x _)

theorem idx4 : ∀ t : Fin cfg0.N, win0_4.index t = ![t.val, 0] := (by decide +kernel : ∀ t : Fin grid0.N, _)

/-- The rows of window 4 as one function of the arguments. -/
def G4 (h : FVec Ideal S32x4x1024 .f32) (g : FVec Ideal S1024 .f32) (w : FVec Ideal S1024x2048 .f32) : FVec Ideal S128x1024 .f32 := fun j =>
  (fun (r : Fin 128) (e : Fin 1024) => G h g w ⟨(r : ℕ) / 4, by omega⟩ ⟨(r : ℕ) % 4, by omega⟩ ⟨1024 + (e : ℕ), by omega⟩) (j 0) (j 1)

theorem final4 (c : Dev nD) : (dats m 0 c).arrAt 4 cfg0.N = G4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have h0 : (y 0).val < 128 := (y 0).isLt
  have h1 : (y 1).val < 1024 := (y 1).isLt
  have e5 : (win0_4.blk t).view.emb y = ix2 ⟨128 * (pt t).val + (y 0).val, by omega⟩ ⟨(y 1).val, h1⟩ := by
    blk_ext [idx4 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out4_apply _ _ _ _ _).trans ?_)
  exact congr (congr (congrArg proj (funext fun k => rd0 m c t _ k)) (funext fun k => rd1 m c t k)) (funext fun x => rd2 m c t x _)
end Cert.KvSIdeal.Dec
end
-- ==== Proof.KvS.Ref.lean ====
module

public import proofs.«01_k».proof.Proof.Gen.KvSRefIdeal.Read
public import proofs.«01_k».proof.Proof.KvS.Final

@[expose] public section

set_option maxRecDepth 16384

noncomputable section

namespace Cert.KvSRefIdeal.Dec

open Cert.KvSRefIdeal Cert.KvSRefIdeal.Gen Cert.KvSRefIdeal.Read Idealize.ShloMosaic Idealize.ShloMosaic.TcCoe Idealize.SL.Sem
open Cert.Dec

variable (h : FVec Ideal S32x4x1024 .f32) (g : FVec Ideal S1024 .f32) (w : FVec Ideal S1024x2048 .f32)

theorem u_apply (b : Fin 32) (i : Fin 4) (e : Fin 1024) :
    val_main_v12 (F := Ideal) h g (ix3 b i e) = rmsN (fun k => h (ix3 b i k)) (fun k => g (ix1 k)) e := by
  unfold rmsN
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

theorem y_apply (b : Fin 32) (i : Fin 4) (k : Fin 2048) :
    val_main_v13 (F := Ideal) h g w (ix3 b i k) = Cert.KvSIdeal.Dec.G h g w b i k := by
  have hu := u_apply h g b i
  unfold val_main_v13
  generalize val_main_v12 (F := Ideal) h g = u at hu ⊢
  unfold Cert.KvSIdeal.Dec.G proj
  simp only [← hu]
  pointwise

theorem o3_apply (a : Fin 128) (e : Fin 1024) :
    val_main_v17 (F := Ideal) h g w (ix2 a e) = Cert.KvSIdeal.Dec.G h g w ⟨(a : ℕ) / 4, by omega⟩ ⟨(a : ℕ) % 4, by omega⟩ ⟨(e : ℕ), by omega⟩ := by
  have hy := y_apply h g w
  unfold val_main_v17 val_main_v16 val_main_v15 val_main_v14
  generalize val_main_v13 (F := Ideal) h g w = u at hy ⊢
  pointwise
  refine (hy _ _ _).trans ?_
  congr 1 <;> (apply Fin.ext; simp only [Fin.val_mk]; omega)

theorem o3_eq : val_main_v17 (F := Ideal) h g w = Cert.KvSIdeal.Dec.G3 h g w := by
  funext j
  have hj : j = ix2 (j 0) (j 1) := funext fun a => by
    match a with
    | ⟨0, _⟩ => rfl
    | ⟨1, _⟩ => rfl
  rw [hj]
  exact o3_apply h g w (j 0) (j 1)

theorem o4_apply (a : Fin 128) (e : Fin 1024) :
    val_main_v20 (F := Ideal) h g w (ix2 a e) = Cert.KvSIdeal.Dec.G h g w ⟨(a : ℕ) / 4, by omega⟩ ⟨(a : ℕ) % 4, by omega⟩ ⟨1024 + (e : ℕ), by omega⟩ := by
  have hy := y_apply h g w
  unfold val_main_v20 val_main_v19 val_main_v18 val_main_v14
  generalize val_main_v13 (F := Ideal) h g w = u at hy ⊢
  pointwise
  refine (hy _ _ _).trans ?_
  congr 1 <;> (apply Fin.ext; simp only [Fin.val_mk]; omega)

theorem o4_eq : val_main_v20 (F := Ideal) h g w = Cert.KvSIdeal.Dec.G4 h g w := by
  funext j
  have hj : j = ix2 (j 0) (j 1) := funext fun a => by
    match a with
    | ⟨0, _⟩ => rfl
    | ⟨1, _⟩ => rfl
  rw [hj]
  exact o4_apply h g w (j 0) (j 1)
end Cert.KvSRefIdeal.Dec
end
-- ==== Proof.Q.Point.lean ====
module

public import proofs.«01_k».proof.Proof.Gen.QIdeal.Value
public import Idealize.ShloMosaic.Lib.Pipeline.ValueKit
public import proofs.«01_k».proof.Proof.Dec.Norm

@[expose] public section

set_option maxRecDepth 16384

noncomputable section

namespace Cert.QIdeal.Dec

open Cert.QIdeal Cert.QIdeal.Gen Idealize.ShloMosaic Idealize.ShloMosaic.TcCoe Idealize.SL.Sem
open Idealize.ShloMosaic.Pipeline Cert.Dec

theorem u_apply (v0 : Vec Ideal S512x1024 .f32) (v2 : Vec Ideal S1x1024 .f32) (p : Fin 512) (e : Fin 1024) :
    k0_pay1 v0 v2 (ix2 p e) = rmsN (fun k => v0 (ix2 p k)) (fun k => v2 (ix2 0 k)) e := by
  pointwise [k0_pay1]
  rfl

theorem out3_apply (x0 : Vec Ideal S512x1024 .f32) (x1 : Vec Ideal S1x1024 .f32) (x2 : Vec Ideal S1024x3072 .bf16) (p : Fin 512) (e : Fin 1024) :
    out0_3 x0 x1 x2 (ix2 p e) = proj (fun k => x0 (ix2 p k)) (fun k => x1 (ix2 0 k)) (fun x => x2 (ix2 x ⟨(e : ℕ), by omega⟩)) := by
  have ez : (![0, 0] : Fin 2 → ℕ) = fun _ => 0 := by decide
  unfold out0_3
  rw [View.canon_unit_zero ez, View.ld_unit_zero ez, View.ld_unit_zero ez]
  have h := u_apply x0 x1 p
  unfold k0_pay2
  generalize k0_pay1 x0 x1 = u at h ⊢
  unfold proj
  simp only [← h]
  pointwise

theorem out4_apply (x0 : Vec Ideal S512x1024 .f32) (x1 : Vec Ideal S1x1024 .f32) (x2 : Vec Ideal S1024x3072 .bf16) (p : Fin 512) (e : Fin 1024) :
    out0_4 x0 x1 x2 (ix2 p e) = proj (fun k => x0 (ix2 p k)) (fun k => x1 (ix2 0 k)) (fun x => x2 (ix2 x ⟨1024 + (e : ℕ), by omega⟩)) := by
  have ez : (![0, 0] : Fin 2 → ℕ) = fun _ => 0 := by decide
  unfold out0_4
  rw [View.canon_unit_zero ez, View.ld_unit_zero ez, View.ld_unit_zero ez]
  have h := u_apply x0 x1 p
  unfold k0_pay3
  generalize k0_pay1 x0 x1 = u at h ⊢
  unfold proj
  simp only [← h]
  pointwise

theorem out5_apply (x0 : Vec Ideal S512x1024 .f32) (x1 : Vec Ideal S1x1024 .f32) (x2 : Vec Ideal S1024x3072 .bf16) (p : Fin 512) (e : Fin 1024) :
    out0_5 x0 x1 x2 (ix2 p e) = proj (fun k => x0 (ix2 p k)) (fun k => x1 (ix2 0 k)) (fun x => x2 (ix2 x ⟨2048 + (e : ℕ), by omega⟩)) := by
  have ez : (![0, 0] : Fin 2 → ℕ) = fun _ => 0 := by decide
  unfold out0_5
  rw [View.canon_unit_zero ez, View.ld_unit_zero ez, View.ld_unit_zero ez]
  have h := u_apply x0 x1 p
  unfold k0_pay4
  generalize k0_pay1 x0 x1 = u at h ⊢
  unfold proj
  simp only [← h]
  pointwise
end Cert.QIdeal.Dec
end
-- ==== Proof.Q.Final.lean ====
module

public import proofs.«01_k».proof.Proof.Q.Point

@[expose] public section

set_option maxRecDepth 16384

noncomputable section

namespace Cert.QIdeal.Dec

open Cert.QIdeal Cert.QIdeal.Gen Idealize.ShloMosaic Idealize.ShloMosaic.TcCoe Idealize.SL.Sem
open Idealize.ShloMosaic.Pipeline Cert.Dec

variable (m : (ℓ : Loc nD τ sig) → Buf (Elt Ideal) ℓ)

/-- The point of the grid as a number. -/
def pt (t : Fin cfg0.N) : Fin 32 := t

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

theorem rd0 (c : Dev nD) (t : Fin cfg0.N) (p : Fin 512) (e : Fin 1024) :
    iblk m c 0 t (ix2 p e) = m ((c : Thread nD τ).loc main_arg0)
      (ix3 ⟨(512 * (pt t).val + p) / 2048, by omega⟩ ⟨(512 * (pt t).val + p) % 2048, by omega⟩ e) := by
  blk_simp [iblk]
  entry_read
  pointwise
  blk_ext [idx0 t, pt]

theorem rd1 (c : Dev nD) (t : Fin cfg0.N) (e : Fin 1024) :
    iblk m c 1 t (ix2 0 e) = m ((c : Thread nD τ).loc main_arg1) (ix1 e) := by
  blk_simp [iblk]
  entry_read
  pointwise
  blk_ext [idx1 t]

theorem rd2 (c : Dev nD) (t : Fin cfg0.N) (x : Fin 1024) (k : Fin 3072) :
    iblk m c 2 t (ix2 x k) = m ((c : Thread nD τ).loc main_arg2) (ix2 x k) := by
  blk_simp [iblk]
  entry_read
  pointwise
  blk_ext [idx2 t]

/-- One entry of the product of a normed row and the weights: the row at batch `b` and place `i`, the column `k`. -/
def G (h : FVec Ideal S8x2048x1024 .f32) (g : FVec Ideal S1024 .f32) (w : FVec Ideal S1024x3072 .f32) (b : Fin 8) (i : Fin 2048) (k : Fin 3072) : EReal :=
  proj (fun k => h (ix3 b i k)) (fun k => g (ix1 k)) (fun x => w (ix2 x k))

theorem idx3 : ∀ t : Fin cfg0.N, win0_3.index t = ![t.val, 0] := (by decide +kernel : ∀ t : Fin grid0.N, _)

/-- The rows of window 3 as one function of the arguments. -/
def G3 (h : FVec Ideal S8x2048x1024 .f32) (g : FVec Ideal S1024 .f32) (w : FVec Ideal S1024x3072 .f32) : FVec Ideal S16384x1024 .f32 := fun j =>
  (fun (r : Fin 16384) (e : Fin 1024) => G h g w ⟨(r : ℕ) / 2048, by omega⟩ ⟨(r : ℕ) % 2048, by omega⟩ ⟨(e : ℕ), by omega⟩) (j 0) (j 1)

theorem final3 (c : Dev nD) : (dats m 0 c).arrAt 3 cfg0.N = G3 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have h0 : (y 0).val < 512 := (y 0).isLt
  have h1 : (y 1).val < 1024 := (y 1).isLt
  have e5 : (win0_3.blk t).view.emb y = ix2 ⟨512 * (pt t).val + (y 0).val, by omega⟩ ⟨(y 1).val, h1⟩ := by
    blk_ext [idx3 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out3_apply _ _ _ _ _).trans ?_)
  exact congr (congr (congrArg proj (funext fun k => rd0 m c t _ k)) (funext fun k => rd1 m c t k)) (funext fun x => rd2 m c t x _)

theorem idx4 : ∀ t : Fin cfg0.N, win0_4.index t = ![t.val, 0] := (by decide +kernel : ∀ t : Fin grid0.N, _)

/-- The rows of window 4 as one function of the arguments. -/
def G4 (h : FVec Ideal S8x2048x1024 .f32) (g : FVec Ideal S1024 .f32) (w : FVec Ideal S1024x3072 .f32) : FVec Ideal S16384x1024 .f32 := fun j =>
  (fun (r : Fin 16384) (e : Fin 1024) => G h g w ⟨(r : ℕ) / 2048, by omega⟩ ⟨(r : ℕ) % 2048, by omega⟩ ⟨1024 + (e : ℕ), by omega⟩) (j 0) (j 1)

theorem final4 (c : Dev nD) : (dats m 0 c).arrAt 4 cfg0.N = G4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have h0 : (y 0).val < 512 := (y 0).isLt
  have h1 : (y 1).val < 1024 := (y 1).isLt
  have e5 : (win0_4.blk t).view.emb y = ix2 ⟨512 * (pt t).val + (y 0).val, by omega⟩ ⟨(y 1).val, h1⟩ := by
    blk_ext [idx4 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out4_apply _ _ _ _ _).trans ?_)
  exact congr (congr (congrArg proj (funext fun k => rd0 m c t _ k)) (funext fun k => rd1 m c t k)) (funext fun x => rd2 m c t x _)

theorem idx5 : ∀ t : Fin cfg0.N, win0_5.index t = ![t.val, 0] := (by decide +kernel : ∀ t : Fin grid0.N, _)

/-- The rows of window 5 as one function of the arguments. -/
def G5 (h : FVec Ideal S8x2048x1024 .f32) (g : FVec Ideal S1024 .f32) (w : FVec Ideal S1024x3072 .f32) : FVec Ideal S16384x1024 .f32 := fun j =>
  (fun (r : Fin 16384) (e : Fin 1024) => G h g w ⟨(r : ℕ) / 2048, by omega⟩ ⟨(r : ℕ) % 2048, by omega⟩ ⟨2048 + (e : ℕ), by omega⟩) (j 0) (j 1)

theorem final5 (c : Dev nD) : (dats m 0 c).arrAt 5 cfg0.N = G5 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  have h0 : (y 0).val < 512 := (y 0).isLt
  have h1 : (y 1).val < 1024 := (y 1).isLt
  have e5 : (win0_5.blk t).view.emb y = ix2 ⟨512 * (pt t).val + (y 0).val, by omega⟩ ⟨(y 1).val, h1⟩ := by
    blk_ext [idx5 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out5_apply _ _ _ _ _).trans ?_)
  exact congr (congr (congrArg proj (funext fun k => rd0 m c t _ k)) (funext fun k => rd1 m c t k)) (funext fun x => rd2 m c t x _)
end Cert.QIdeal.Dec
end
-- ==== Proof.Q.Ref.lean ====
module

public import proofs.«01_k».proof.Proof.Gen.QRefIdeal.Read
public import proofs.«01_k».proof.Proof.Q.Final

@[expose] public section

set_option maxRecDepth 16384

noncomputable section

namespace Cert.QRefIdeal.Dec

open Cert.QRefIdeal Cert.QRefIdeal.Gen Cert.QRefIdeal.Read Idealize.ShloMosaic Idealize.ShloMosaic.TcCoe Idealize.SL.Sem
open Cert.Dec

variable (h : FVec Ideal S8x2048x1024 .f32) (g : FVec Ideal S1024 .f32) (w : FVec Ideal S1024x3072 .f32)

theorem u_apply (b : Fin 8) (i : Fin 2048) (e : Fin 1024) :
    val_main_v12 (F := Ideal) h g (ix3 b i e) = rmsN (fun k => h (ix3 b i k)) (fun k => g (ix1 k)) e := by
  unfold rmsN
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

theorem y_apply (b : Fin 8) (i : Fin 2048) (k : Fin 3072) :
    val_main_v13 (F := Ideal) h g w (ix3 b i k) = Cert.QIdeal.Dec.G h g w b i k := by
  have hu := u_apply h g b i
  unfold val_main_v13
  generalize val_main_v12 (F := Ideal) h g = u at hu ⊢
  unfold Cert.QIdeal.Dec.G proj
  simp only [← hu]
  pointwise

theorem o3_apply (a : Fin 16384) (e : Fin 1024) :
    val_main_v17 (F := Ideal) h g w (ix2 a e) = Cert.QIdeal.Dec.G h g w ⟨(a : ℕ) / 2048, by omega⟩ ⟨(a : ℕ) % 2048, by omega⟩ ⟨(e : ℕ), by omega⟩ := by
  have hy := y_apply h g w
  unfold val_main_v17 val_main_v16 val_main_v15 val_main_v14
  generalize val_main_v13 (F := Ideal) h g w = u at hy ⊢
  pointwise
  refine (hy _ _ _).trans ?_
  congr 1 <;> (apply Fin.ext; simp only [Fin.val_mk]; omega)

theorem o3_eq : val_main_v17 (F := Ideal) h g w = Cert.QIdeal.Dec.G3 h g w := by
  funext j
  have hj : j = ix2 (j 0) (j 1) := funext fun a => by
    match a with
    | ⟨0, _⟩ => rfl
    | ⟨1, _⟩ => rfl
  rw [hj]
  exact o3_apply h g w (j 0) (j 1)

theorem o4_apply (a : Fin 16384) (e : Fin 1024) :
    val_main_v20 (F := Ideal) h g w (ix2 a e) = Cert.QIdeal.Dec.G h g w ⟨(a : ℕ) / 2048, by omega⟩ ⟨(a : ℕ) % 2048, by omega⟩ ⟨1024 + (e : ℕ), by omega⟩ := by
  have hy := y_apply h g w
  unfold val_main_v20 val_main_v19 val_main_v18 val_main_v14
  generalize val_main_v13 (F := Ideal) h g w = u at hy ⊢
  pointwise
  refine (hy _ _ _).trans ?_
  congr 1 <;> (apply Fin.ext; simp only [Fin.val_mk]; omega)

theorem o4_eq : val_main_v20 (F := Ideal) h g w = Cert.QIdeal.Dec.G4 h g w := by
  funext j
  have hj : j = ix2 (j 0) (j 1) := funext fun a => by
    match a with
    | ⟨0, _⟩ => rfl
    | ⟨1, _⟩ => rfl
  rw [hj]
  exact o4_apply h g w (j 0) (j 1)

theorem o5_apply (a : Fin 16384) (e : Fin 1024) :
    val_main_v23 (F := Ideal) h g w (ix2 a e) = Cert.QIdeal.Dec.G h g w ⟨(a : ℕ) / 2048, by omega⟩ ⟨(a : ℕ) % 2048, by omega⟩ ⟨2048 + (e : ℕ), by omega⟩ := by
  have hy := y_apply h g w
  unfold val_main_v23 val_main_v22 val_main_v21 val_main_v14
  generalize val_main_v13 (F := Ideal) h g w = u at hy ⊢
  pointwise
  refine (hy _ _ _).trans ?_
  congr 1 <;> (apply Fin.ext; simp only [Fin.val_mk]; omega)

theorem o5_eq : val_main_v23 (F := Ideal) h g w = Cert.QIdeal.Dec.G5 h g w := by
  funext j
  have hj : j = ix2 (j 0) (j 1) := funext fun a => by
    match a with
    | ⟨0, _⟩ => rfl
    | ⟨1, _⟩ => rfl
  rw [hj]
  exact o5_apply h g w (j 0) (j 1)
end Cert.QRefIdeal.Dec
end
-- ==== Proof.Out.Point.lean ====
module

public import proofs.«01_k».proof.Proof.Gen.OutIdeal.Value
public import Idealize.ShloMosaic.Lib.Pipeline.ValueKit
public import proofs.«01_k».proof.Proof.Dec.Norm

@[expose] public section

set_option maxRecDepth 16384

noncomputable section

namespace Cert.OutIdeal.Dec

open Cert.OutIdeal Cert.OutIdeal.Gen Idealize.ShloMosaic Idealize.ShloMosaic.TcCoe Idealize.SL.Sem
open Idealize.ShloMosaic.Pipeline Cert.Dec

theorem out_apply (x0 : Vec Ideal S512x1024 .f32) (x1 : Vec Ideal S1024x1024 .bf16) (x2 : Vec Ideal S1x1024 .f32) (x3 : Vec Ideal S512x1024 .f32)
    (p : Fin 512) (e : Fin 1024) :
    out0_4 x0 x1 x2 x3 (ix2 p e) = x3 (ix2 p e) + rmsN (mix (fun k => x0 (ix2 p k)) (fun k o => x1 (ix2 k o))) (fun k => x2 (ix2 0 k)) e := by
  have ez : (![0, 0] : Fin 2 → ℕ) = fun _ => 0 := by decide
  unfold out0_4
  rw [View.canon_unit_zero ez, View.ld_unit_zero ez, View.ld_unit_zero ez, View.ld_unit_zero ez, View.ld_unit_zero ez]
  unfold rmsN mix
  pointwise [k0_pay1]
end Cert.OutIdeal.Dec
end
-- ==== Proof.Out.Final.lean ====
module

public import proofs.«01_k».proof.Proof.Out.Point

@[expose] public section

set_option maxRecDepth 16384

noncomputable section

namespace Cert.OutIdeal.Dec

open Cert.OutIdeal Cert.OutIdeal.Gen Idealize.ShloMosaic Idealize.ShloMosaic.TcCoe Idealize.SL.Sem
open Idealize.ShloMosaic.Pipeline Cert.Dec

variable (m : (ℓ : Loc nD τ sig) → Buf (Elt Ideal) ℓ)

/-- The point of the grid as a number. -/
def pt (t : Fin cfg0.N) : Fin 32 := t

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

theorem rd0 (c : Dev nD) (t : Fin cfg0.N) (p : Fin 512) (e : Fin 1024) :
    iblk m c 0 t (ix2 p e) = m ((c : Thread nD τ).loc main_arg0)
      (ix4 ⟨(512 * (pt t).val + p) / 2048, by omega⟩ ⟨(512 * (pt t).val + p) % 2048, by omega⟩ ⟨(e : ℕ) / 64, by omega⟩ ⟨(e : ℕ) % 64, by omega⟩) := by
  blk_simp [iblk]
  entry_read
  pointwise
  blk_ext [idx0 t, pt]

theorem rd1 (c : Dev nD) (t : Fin cfg0.N) (x k : Fin 1024) :
    iblk m c 1 t (ix2 x k) = m ((c : Thread nD τ).loc main_arg1) (ix2 x k) := by
  blk_simp [iblk]
  entry_read
  pointwise
  blk_ext [idx1 t]

theorem rd2 (c : Dev nD) (t : Fin cfg0.N) (e : Fin 1024) :
    iblk m c 2 t (ix2 0 e) = m ((c : Thread nD τ).loc main_arg2) (ix1 e) := by
  blk_simp [iblk]
  entry_read
  pointwise
  blk_ext [idx2 t]

theorem rd3 (c : Dev nD) (t : Fin cfg0.N) (p : Fin 512) (e : Fin 1024) :
    iblk m c 3 t (ix2 p e) = m ((c : Thread nD τ).loc main_arg3)
      (ix3 ⟨(512 * (pt t).val + p) / 2048, by omega⟩ ⟨(512 * (pt t).val + p) % 2048, by omega⟩ e) := by
  blk_simp [iblk]
  entry_read
  pointwise
  blk_ext [idx3 t, pt]

/-- The projected attention, normed and added to the row, as one function of the arguments. -/
def G (a : FVec Ideal S8x2048x16x64 .f32) (w : FVec Ideal S1024x1024 .f32) (g : FVec Ideal S1024 .f32) (h : FVec Ideal S8x2048x1024 .f32)
    (b : Fin 8) (i : Fin 2048) (e : Fin 1024) : EReal :=
  h (ix3 b i e) + rmsN (mix (fun k => a (ix4 b i ⟨(k : ℕ) / 64, by omega⟩ ⟨(k : ℕ) % 64, by omega⟩)) (fun k o => w (ix2 k o))) (fun k => g (ix1 k)) e

/-- The same, over the flat rows. -/
def Gr (a : FVec Ideal S8x2048x16x64 .f32) (w : FVec Ideal S1024x1024 .f32) (g : FVec Ideal S1024 .f32) (h : FVec Ideal S8x2048x1024 .f32)
    (r : Fin 16384) (e : Fin 1024) : EReal :=
  G a w g h ⟨(r : ℕ) / 2048, by omega⟩ ⟨(r : ℕ) % 2048, by omega⟩ e

theorem final (c : Dev nD) : (dats m 0 c).arrAt 4 cfg0.N
    = fun j => Gr (m ((c : Thread nD τ).loc main_arg0)) (m ((c : Thread nD τ).loc main_arg1)) (m ((c : Thread nD τ).loc main_arg2))
      (m ((c : Thread nD τ).loc main_arg3)) (j 0) (j 1) := by
  refine (dats m 0 c).arrAt_eq_of_covers 4 _ (by decide +kernel) fun t _ y => ?_
  blk_simp
  rw [after0_4]
  have h0 : (y 0).val < 512 := (y 0).isLt
  have h1 : (y 1).val < 1024 := (y 1).isLt
  have e5 : (win0_4.blk t).view.emb y = ix2 ⟨512 * (pt t).val + (y 0).val, by omega⟩ ⟨(y 1).val, h1⟩ := by
    blk_ext [idx4 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out_apply _ _ _ _ _ _).trans ?_)
  exact congrArg₂ (· + ·) (rd3 m c t _ _) (congr (congr (congrArg rmsN (congr (congrArg mix (funext fun k => rd0 m c t _ k))
    (funext fun k => funext fun o => rd1 m c t k o))) (funext fun k => rd2 m c t k)) rfl)
end Cert.OutIdeal.Dec
end
-- ==== Proof.Out.Ref.lean ====
module

public import proofs.«01_k».proof.Proof.Gen.OutRefIdeal.Read
public import proofs.«01_k».proof.Proof.Out.Final

@[expose] public section

set_option maxRecDepth 16384

noncomputable section

namespace Cert.OutRefIdeal.Dec

open Cert.OutRefIdeal Cert.OutRefIdeal.Gen Cert.OutRefIdeal.Read Idealize.ShloMosaic Idealize.ShloMosaic.TcCoe Idealize.SL.Sem
open Cert.Dec

variable (a : FVec Ideal S8x2048x16x64 .f32) (w : FVec Ideal S1024x1024 .f32) (g : FVec Ideal S1024 .f32) (h : FVec Ideal S8x2048x1024 .f32)

theorem f_apply (b : Fin 8) (i : Fin 2048) (e : Fin 1024) :
    val_main_v1 (F := Ideal) a w (ix3 b i e)
      = mix (fun k => a (ix4 b i ⟨(k : ℕ) / 64, by omega⟩ ⟨(k : ℕ) % 64, by omega⟩)) (fun k o => w (ix2 k o)) e := by
  unfold mix
  pointwise [val_main_v1, val_main_v0]

theorem o_apply (b : Fin 8) (i : Fin 2048) (e : Fin 1024) :
    val_main_v15 (F := Ideal) a w g h (ix3 b i e) = Cert.OutIdeal.Dec.G a w g h b i e := by
  have hf := f_apply a w b i
  unfold val_main_v15 val_main_v14 val_main_v11 val_main_v10 val_main_v9 val_main_v8 val_main_v6 val_main_v4 val_main_v3 val_main_v2
  generalize val_main_v1 (F := Ideal) a w = u at hf ⊢
  have hf' := funext hf
  rw [Cert.OutIdeal.Dec.G, ← hf']
  unfold rmsN
  pointwise [val_main_v13, val_main_v12, val_main_v7, val_main_cst_1, val_main_v5, val_main_cst_0, val_main_cst]

theorem out_eq : val_main_v16 (F := Ideal) a w g h = fun j => Cert.OutIdeal.Dec.Gr a w g h (j 0) (j 1) := by
  funext j
  have hj : j = ix2 (j 0) (j 1) := funext fun a => by
    match a with
    | ⟨0, _⟩ => rfl
    | ⟨1, _⟩ => rfl
  rw [hj]
  have ho := o_apply a w g h
  unfold val_main_v16
  generalize val_main_v15 (F := Ideal) a w g h = u at ho ⊢
  pointwise
  exact ho _ _ _
end Cert.OutRefIdeal.Dec
end
-- ==== Proof.OutS.Point.lean ====
module

public import proofs.«01_k».proof.Proof.Gen.OutSIdeal.Value
public import Idealize.ShloMosaic.Lib.Pipeline.ValueKit
public import proofs.«01_k».proof.Proof.Dec.Norm

@[expose] public section

set_option maxRecDepth 16384

noncomputable section

namespace Cert.OutSIdeal.Dec

open Cert.OutSIdeal Cert.OutSIdeal.Gen Idealize.ShloMosaic Idealize.ShloMosaic.TcCoe Idealize.SL.Sem
open Idealize.ShloMosaic.Pipeline Cert.Dec

theorem out_apply (x0 : Vec Ideal S128x1024 .f32) (x1 : Vec Ideal S1024x1024 .bf16) (x2 : Vec Ideal S1x1024 .f32) (x3 : Vec Ideal S128x1024 .f32)
    (p : Fin 128) (e : Fin 1024) :
    out0_4 x0 x1 x2 x3 (ix2 p e) = x3 (ix2 p e) + rmsN (mix (fun k => x0 (ix2 p k)) (fun k o => x1 (ix2 k o))) (fun k => x2 (ix2 0 k)) e := by
  have ez : (![0, 0] : Fin 2 → ℕ) = fun _ => 0 := by decide
  unfold out0_4
  rw [View.canon_unit_zero ez, View.ld_unit_zero ez, View.ld_unit_zero ez, View.ld_unit_zero ez, View.ld_unit_zero ez]
  unfold rmsN mix
  pointwise [k0_pay1]
end Cert.OutSIdeal.Dec
end
-- ==== Proof.OutS.Final.lean ====
module

public import proofs.«01_k».proof.Proof.OutS.Point

@[expose] public section

set_option maxRecDepth 16384

noncomputable section

namespace Cert.OutSIdeal.Dec

open Cert.OutSIdeal Cert.OutSIdeal.Gen Idealize.ShloMosaic Idealize.ShloMosaic.TcCoe Idealize.SL.Sem
open Idealize.ShloMosaic.Pipeline Cert.Dec

variable (m : (ℓ : Loc nD τ sig) → Buf (Elt Ideal) ℓ)

/-- The point of the grid as a number. -/
def pt (t : Fin cfg0.N) : Fin 1 := t

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

theorem rd0 (c : Dev nD) (t : Fin cfg0.N) (p : Fin 128) (e : Fin 1024) :
    iblk m c 0 t (ix2 p e) = m ((c : Thread nD τ).loc main_arg0)
      (ix4 ⟨(128 * (pt t).val + p) / 4, by omega⟩ ⟨(128 * (pt t).val + p) % 4, by omega⟩ ⟨(e : ℕ) / 64, by omega⟩ ⟨(e : ℕ) % 64, by omega⟩) := by
  blk_simp [iblk]
  entry_read
  pointwise
  blk_ext [idx0 t, pt]

theorem rd1 (c : Dev nD) (t : Fin cfg0.N) (x k : Fin 1024) :
    iblk m c 1 t (ix2 x k) = m ((c : Thread nD τ).loc main_arg1) (ix2 x k) := by
  blk_simp [iblk]
  entry_read
  pointwise
  blk_ext [idx1 t]

theorem rd2 (c : Dev nD) (t : Fin cfg0.N) (e : Fin 1024) :
    iblk m c 2 t (ix2 0 e) = m ((c : Thread nD τ).loc main_arg2) (ix1 e) := by
  blk_simp [iblk]
  entry_read
  pointwise
  blk_ext [idx2 t]

theorem rd3 (c : Dev nD) (t : Fin cfg0.N) (p : Fin 128) (e : Fin 1024) :
    iblk m c 3 t (ix2 p e) = m ((c : Thread nD τ).loc main_arg3)
      (ix3 ⟨(128 * (pt t).val + p) / 4, by omega⟩ ⟨(128 * (pt t).val + p) % 4, by omega⟩ e) := by
  blk_simp [iblk]
  entry_read
  pointwise
  blk_ext [idx3 t, pt]

/-- The projected attention, normed and added to the row, as one function of the arguments. -/
def G (a : FVec Ideal S32x4x16x64 .f32) (w : FVec Ideal S1024x1024 .f32) (g : FVec Ideal S1024 .f32) (h : FVec Ideal S32x4x1024 .f32)
    (b : Fin 32) (i : Fin 4) (e : Fin 1024) : EReal :=
  h (ix3 b i e) + rmsN (mix (fun k => a (ix4 b i ⟨(k : ℕ) / 64, by omega⟩ ⟨(k : ℕ) % 64, by omega⟩)) (fun k o => w (ix2 k o))) (fun k => g (ix1 k)) e

/-- The same, over the flat rows. -/
def Gr (a : FVec Ideal S32x4x16x64 .f32) (w : FVec Ideal S1024x1024 .f32) (g : FVec Ideal S1024 .f32) (h : FVec Ideal S32x4x1024 .f32)
    (r : Fin 128) (e : Fin 1024) : EReal :=
  G a w g h ⟨(r : ℕ) / 4, by omega⟩ ⟨(r : ℕ) % 4, by omega⟩ e

theorem final (c : Dev nD) : (dats m 0 c).arrAt 4 cfg0.N
    = fun j => Gr (m ((c : Thread nD τ).loc main_arg0)) (m ((c : Thread nD τ).loc main_arg1)) (m ((c : Thread nD τ).loc main_arg2))
      (m ((c : Thread nD τ).loc main_arg3)) (j 0) (j 1) := by
  refine (dats m 0 c).arrAt_eq_of_covers 4 _ (by decide +kernel) fun t _ y => ?_
  blk_simp
  rw [after0_4]
  have h0 : (y 0).val < 128 := (y 0).isLt
  have h1 : (y 1).val < 1024 := (y 1).isLt
  have e5 : (win0_4.blk t).view.emb y = ix2 ⟨128 * (pt t).val + (y 0).val, by omega⟩ ⟨(y 1).val, h1⟩ := by
    blk_ext [idx4 t, pt]
  have ey : y = ix2 ⟨(y 0).val, h0⟩ ⟨(y 1).val, h1⟩ := funext fun a => by
    match a with
    | ⟨0, _⟩ => rfl
    | ⟨1, _⟩ => rfl
  rw [e5]
  refine (congrArg _ ey).trans ((out_apply _ _ _ _ _ _).trans ?_)
  exact congrArg₂ (· + ·) (rd3 m c t _ _) (congr (congr (congrArg rmsN (congr (congrArg mix (funext fun k => rd0 m c t _ k))
    (funext fun k => funext fun o => rd1 m c t k o))) (funext fun k => rd2 m c t k)) rfl)
end Cert.OutSIdeal.Dec
end
-- ==== Proof.OutS.Ref.lean ====
module

public import proofs.«01_k».proof.Proof.Gen.OutSRefIdeal.Read
public import proofs.«01_k».proof.Proof.OutS.Final

@[expose] public section

set_option maxRecDepth 16384

noncomputable section

namespace Cert.OutSRefIdeal.Dec

open Cert.OutSRefIdeal Cert.OutSRefIdeal.Gen Cert.OutSRefIdeal.Read Idealize.ShloMosaic Idealize.ShloMosaic.TcCoe Idealize.SL.Sem
open Cert.Dec

variable (a : FVec Ideal S32x4x16x64 .f32) (w : FVec Ideal S1024x1024 .f32) (g : FVec Ideal S1024 .f32) (h : FVec Ideal S32x4x1024 .f32)

theorem f_apply (b : Fin 32) (i : Fin 4) (e : Fin 1024) :
    val_main_v1 (F := Ideal) a w (ix3 b i e)
      = mix (fun k => a (ix4 b i ⟨(k : ℕ) / 64, by omega⟩ ⟨(k : ℕ) % 64, by omega⟩)) (fun k o => w (ix2 k o)) e := by
  unfold mix
  pointwise [val_main_v1, val_main_v0]

theorem o_apply (b : Fin 32) (i : Fin 4) (e : Fin 1024) :
    val_main_v15 (F := Ideal) a w g h (ix3 b i e) = Cert.OutSIdeal.Dec.G a w g h b i e := by
  have hf := f_apply a w b i
  unfold val_main_v15 val_main_v14 val_main_v11 val_main_v10 val_main_v9 val_main_v8 val_main_v6 val_main_v4 val_main_v3 val_main_v2
  generalize val_main_v1 (F := Ideal) a w = u at hf ⊢
  have hf' := funext hf
  rw [Cert.OutSIdeal.Dec.G, ← hf']
  unfold rmsN
  pointwise [val_main_v13, val_main_v12, val_main_v7, val_main_cst_1, val_main_v5, val_main_cst_0, val_main_cst]

theorem out_eq : val_main_v16 (F := Ideal) a w g h = fun j => Cert.OutSIdeal.Dec.Gr a w g h (j 0) (j 1) := by
  funext j
  have hj : j = ix2 (j 0) (j 1) := funext fun a => by
    match a with
    | ⟨0, _⟩ => rfl
    | ⟨1, _⟩ => rfl
  rw [hj]
  have ho := o_apply a w g h
  unfold val_main_v16
  generalize val_main_v15 (F := Ideal) a w g h = u at ho ⊢
  pointwise
  exact ho _ _ _
end Cert.OutSRefIdeal.Dec
end
-- ==== Proof.Shift.Final.lean ====
module

public import proofs.«01_k».proof.Proof.Gen.ShiftIdeal.Value
public import Idealize.ShloMosaic.Lib.Pipeline.ValueKit

@[expose] public section

set_option maxRecDepth 16384

noncomputable section

namespace Cert.ShiftIdeal.Dec

open Cert.ShiftIdeal Cert.ShiftIdeal.Gen Idealize.ShloMosaic Idealize.ShloMosaic.TcCoe Idealize.SL.Sem
open Idealize.ShloMosaic.Pipeline

variable (m : (ℓ : Loc nD τ sig) → Buf (Elt Ideal) ℓ)

/-- The sequence and the block of lanes of a point of the grid. -/
def cb (t : Fin cfg0.N) : Fin 32 := grid0.coords t 0
def cj (t : Fin cfg0.N) : Fin 4 := grid0.coords t 1

/-- Row `e` of sequence `b` at place `i` of the moved window: the old rows but the first four, then the new ones. -/
def G (x : FVec Ideal S32x2048x16x64 .f32) (y : FVec Ideal S32x4x16x64 .f32) (b : Fin 32) (e : Fin 1024) (i : Fin 2048) : EReal :=
  if h : (i : ℕ) < 2044 then x (ix4 b ⟨4 + i, by omega⟩ ⟨(e : ℕ) / 64, by omega⟩ ⟨(e : ℕ) % 64, by omega⟩)
  else y (ix4 b ⟨i - 2044, by omega⟩ ⟨(e : ℕ) / 64, by omega⟩ ⟨(e : ℕ) % 64, by omega⟩)

theorem out4_apply (x0 : Vec Ideal S1x256x2048 .f32) (x1 : Vec Ideal S1x256x128 .f32) (x2 : Vec Ideal S1x256x2048 .f32)
    (x3 : Vec Ideal S1x256x128 .f32) (p : Fin 256) (i : Fin 2048) :
    out0_4 x0 x1 x2 x3 (ix3 0 p i)
      = if h : (i : ℕ) < 2044 then x0 (ix3 0 p ⟨4 + i, by omega⟩) else x1 (ix3 0 p ⟨i - 2044, by omega⟩) := by
  have ez : (![0, 0, 0] : Fin 3 → ℕ) = fun _ => 0 := by decide
  unfold out0_4
  rw [View.canon_unit_zero ez]
  by_cases h : (i : ℕ) < 2044
  · rw [dif_pos h]
    pointwise [k0_pay1, h]
  · rw [dif_neg h]
    pointwise [k0_pay1, h]

theorem out5_apply (x0 : Vec Ideal S1x256x2048 .f32) (x1 : Vec Ideal S1x256x128 .f32) (x2 : Vec Ideal S1x256x2048 .f32)
    (x3 : Vec Ideal S1x256x128 .f32) (p : Fin 256) (i : Fin 2048) :
    out0_5 x0 x1 x2 x3 (ix3 0 p i)
      = if h : (i : ℕ) < 2044 then x2 (ix3 0 p ⟨4 + i, by omega⟩) else x3 (ix3 0 p ⟨i - 2044, by omega⟩) := by
  have ez : (![0, 0, 0] : Fin 3 → ℕ) = fun _ => 0 := by decide
  unfold out0_5
  rw [View.canon_unit_zero ez]
  by_cases h : (i : ℕ) < 2044
  · rw [dif_pos h]
    pointwise [k0_pay2, h]
  · rw [dif_neg h]
    pointwise [k0_pay2, h]

theorem idx0 : ∀ t : Fin cfg0.N, win0_0.index t = ![(grid0.coords t 0).val, (grid0.coords t 1).val, 0] :=
  (by decide +kernel : ∀ t : Fin grid0.N, _)

theorem idx1 : ∀ t : Fin cfg0.N, win0_1.index t = ![(grid0.coords t 0).val, (grid0.coords t 1).val, 0] :=
  (by decide +kernel : ∀ t : Fin grid0.N, _)

theorem idx2 : ∀ t : Fin cfg0.N, win0_2.index t = ![(grid0.coords t 0).val, (grid0.coords t 1).val, 0] :=
  (by decide +kernel : ∀ t : Fin grid0.N, _)

theorem idx3 : ∀ t : Fin cfg0.N, win0_3.index t = ![(grid0.coords t 0).val, (grid0.coords t 1).val, 0] :=
  (by decide +kernel : ∀ t : Fin grid0.N, _)

theorem idx4 : ∀ t : Fin cfg0.N, win0_4.index t = ![(grid0.coords t 0).val, (grid0.coords t 1).val, 0] :=
  (by decide +kernel : ∀ t : Fin grid0.N, _)

theorem idx5 : ∀ t : Fin cfg0.N, win0_5.index t = ![(grid0.coords t 0).val, (grid0.coords t 1).val, 0] :=
  (by decide +kernel : ∀ t : Fin grid0.N, _)

theorem hv3 (c : Dev nD) : V m c main_v3 = shapeCast S32x1024x2048 (transpose S32x16x64x2048 [0, 2, 3, 1]
    (m ((c : Thread nD τ).loc main_arg0) : FVec Ideal S32x2048x16x64 .f32) transposes_S32x2048x16x64_S32x16x64x2048_0_2_3_1)
    shapeCasts_S32x16x64x2048_S32x1024x2048 := by
  simp only [V, hostOps0, hostOps0_1, hostOps0_2, hostOps0_3, List.flatten_cons, List.flatten_nil, List.append_nil, List.cons_append, List.nil_append]
  entry_read
  rfl

theorem rd0 (c : Dev nD) (t : Fin cfg0.N) (p : Fin 256) (i : Fin 2048) :
    iblk m c 0 t (ix3 0 p i) = m ((c : Thread nD τ).loc main_arg0)
      (ix4 (cb t) i ⟨(256 * (cj t).val + p) / 64, by omega⟩ ⟨(256 * (cj t).val + p) % 64, by omega⟩) := by
  have e : (win0_0.blk t).view.emb (ix3 0 p i) = ix3 (cb t) ⟨256 * (cj t).val + p, by omega⟩ i := by
    blk_ext [idx0 t, cb, cj]
  refine (congrFun (hv3 m c) _).trans ?_
  refine (congrArg _ e).trans ?_
  pointwise

theorem hv5 (c : Dev nD) : V m c main_v5 = shapeCast S32x1024x2048 (transpose S32x16x64x2048 [0, 2, 3, 1]
    (m ((c : Thread nD τ).loc main_arg1) : FVec Ideal S32x2048x16x64 .f32) transposes_S32x2048x16x64_S32x16x64x2048_0_2_3_1)
    shapeCasts_S32x16x64x2048_S32x1024x2048 := by
  simp only [V, hostOps0, hostOps0_1, hostOps0_2, hostOps0_3, List.flatten_cons, List.flatten_nil, List.append_nil, List.cons_append, List.nil_append]
  entry_read
  rfl

theorem rd2 (c : Dev nD) (t : Fin cfg0.N) (p : Fin 256) (i : Fin 2048) :
    iblk m c 2 t (ix3 0 p i) = m ((c : Thread nD τ).loc main_arg1)
      (ix4 (cb t) i ⟨(256 * (cj t).val + p) / 64, by omega⟩ ⟨(256 * (cj t).val + p) % 64, by omega⟩) := by
  have e : (win0_2.blk t).view.emb (ix3 0 p i) = ix3 (cb t) ⟨256 * (cj t).val + p, by omega⟩ i := by
    blk_ext [idx2 t, cb, cj]
  refine (congrFun (hv5 m c) _).trans ?_
  refine (congrArg _ e).trans ?_
  pointwise

theorem hv8 (c : Dev nD) : V m c main_v8 = pad S32x1024x128 ![0, 0, 0] ![0, 0, 124] ![0, 0, 0]
    (transpose S32x1024x4 [0, 2, 1] (shapeCast S32x4x1024 (shapeCast S128x1024
      (m ((c : Thread nD τ).loc main_arg2) : FVec Ideal S32x4x16x64 .f32) shapeCasts_S32x4x16x64_S128x1024) shapeCasts_S128x1024_S32x4x1024)
      transposes_S32x4x1024_S32x1024x4_0_2_1)
    (sitofp (F := Ideal) .f32 (constantI S_ 32 0#32)) pads_S32x1024x4_S32x1024x128_000_000_01240 h_S_ := by
  simp only [V, hostOps0, hostOps0_1, hostOps0_2, hostOps0_3, List.flatten_cons, List.flatten_nil, List.append_nil, List.cons_append, List.nil_append]
  entry_read
  rfl

theorem rd1 (c : Dev nD) (t : Fin cfg0.N) (p : Fin 256) (i : Fin 4) :
    iblk m c 1 t (ix3 0 p ⟨i, by omega⟩) = m ((c : Thread nD τ).loc main_arg2)
      (ix4 (cb t) i ⟨(256 * (cj t).val + p) / 64, by omega⟩ ⟨(256 * (cj t).val + p) % 64, by omega⟩) := by
  have e : (win0_1.blk t).view.emb (ix3 0 p ⟨i, by omega⟩) = ix3 (cb t) ⟨256 * (cj t).val + p, by omega⟩ ⟨i, by omega⟩ := by
    blk_ext [idx1 t, cb, cj]
  refine (congrFun (hv8 m c) _).trans ?_
  refine (congrArg _ e).trans ?_
  have h : 256 * (cj t).val + p.val < 1024 := by omega
  pointwise [h]

theorem hv11 (c : Dev nD) : V m c main_v11 = pad S32x1024x128 ![0, 0, 0] ![0, 0, 124] ![0, 0, 0]
    (transpose S32x1024x4 [0, 2, 1] (shapeCast S32x4x1024 (shapeCast S128x1024
      (m ((c : Thread nD τ).loc main_arg3) : FVec Ideal S32x4x16x64 .f32) shapeCasts_S32x4x16x64_S128x1024) shapeCasts_S128x1024_S32x4x1024)
      transposes_S32x4x1024_S32x1024x4_0_2_1)
    (sitofp (F := Ideal) .f32 (constantI S_ 32 0#32)) pads_S32x1024x4_S32x1024x128_000_000_01240 h_S_ := by
  simp only [V, hostOps0, hostOps0_1, hostOps0_2, hostOps0_3, List.flatten_cons, List.flatten_nil, List.append_nil, List.cons_append, List.nil_append]
  entry_read
  rfl

theorem rd3 (c : Dev nD) (t : Fin cfg0.N) (p : Fin 256) (i : Fin 4) :
    iblk m c 3 t (ix3 0 p ⟨i, by omega⟩) = m ((c : Thread nD τ).loc main_arg3)
      (ix4 (cb t) i ⟨(256 * (cj t).val + p) / 64, by omega⟩ ⟨(256 * (cj t).val + p) % 64, by omega⟩) := by
  have e : (win0_3.blk t).view.emb (ix3 0 p ⟨i, by omega⟩) = ix3 (cb t) ⟨256 * (cj t).val + p, by omega⟩ ⟨i, by omega⟩ := by
    blk_ext [idx3 t, cb, cj]
  refine (congrFun (hv11 m c) _).trans ?_
  refine (congrArg _ e).trans ?_
  have h : 256 * (cj t).val + p.val < 1024 := by omega
  pointwise [h]

theorem final4 (c : Dev nD) : (dats m 0 c).arrAt 4 cfg0.N
    = fun j => G (m ((c : Thread nD τ).loc main_arg0)) (m ((c : Thread nD τ).loc main_arg2)) (j 0) (j 1) (j 2) := by
  refine (dats m 0 c).arrAt_eq_of_covers 4 _ (by decide +kernel) fun t _ y => ?_
  blk_simp
  rw [after0_4]
  have h0 : (y 0).val < 1 := (y 0).isLt
  have h1 : (y 1).val < 256 := (y 1).isLt
  have h2 : (y 2).val < 2048 := (y 2).isLt
  have e5 : (win0_4.blk t).view.emb y = ix3 (cb t) ⟨256 * (cj t).val + (y 1).val, by omega⟩ ⟨(y 2).val, h2⟩ := by
    blk_ext [idx4 t, cb, cj]
  have ey : y = ix3 0 ⟨(y 1).val, h1⟩ ⟨(y 2).val, h2⟩ := funext fun a => by
    match a with
    | ⟨0, _⟩ => exact Fin.ext (by show (y 0).val = 0; omega)
    | ⟨1, _⟩ => rfl
    | ⟨2, _⟩ => rfl
  rw [e5]
  refine (congrArg _ ey).trans ((out4_apply _ _ _ _ _ _).trans ?_)
  show _ = G _ _ (cb t) ⟨256 * (cj t).val + (y 1).val, by omega⟩ ⟨(y 2).val, h2⟩
  unfold G
  by_cases h : (y 2).val < 2044
  · rw [dif_pos h, dif_pos h]
    exact rd0 m c t _ ⟨4 + (y 2).val, by omega⟩
  · rw [dif_neg h, dif_neg h]
    exact rd1 m c t _ ⟨(y 2).val - 2044, by omega⟩

theorem final5 (c : Dev nD) : (dats m 0 c).arrAt 5 cfg0.N
    = fun j => G (m ((c : Thread nD τ).loc main_arg1)) (m ((c : Thread nD τ).loc main_arg3)) (j 0) (j 1) (j 2) := by
  refine (dats m 0 c).arrAt_eq_of_covers 5 _ (by decide +kernel) fun t _ y => ?_
  blk_simp
  rw [after0_5]
  have h0 : (y 0).val < 1 := (y 0).isLt
  have h1 : (y 1).val < 256 := (y 1).isLt
  have h2 : (y 2).val < 2048 := (y 2).isLt
  have e5 : (win0_5.blk t).view.emb y = ix3 (cb t) ⟨256 * (cj t).val + (y 1).val, by omega⟩ ⟨(y 2).val, h2⟩ := by
    blk_ext [idx5 t, cb, cj]
  have ey : y = ix3 0 ⟨(y 1).val, h1⟩ ⟨(y 2).val, h2⟩ := funext fun a => by
    match a with
    | ⟨0, _⟩ => exact Fin.ext (by show (y 0).val = 0; omega)
    | ⟨1, _⟩ => rfl
    | ⟨2, _⟩ => rfl
  rw [e5]
  refine (congrArg _ ey).trans ((out5_apply _ _ _ _ _ _).trans ?_)
  show _ = G _ _ (cb t) ⟨256 * (cj t).val + (y 1).val, by omega⟩ ⟨(y 2).val, h2⟩
  unfold G
  by_cases h : (y 2).val < 2044
  · rw [dif_pos h, dif_pos h]
    exact rd2 m c t _ ⟨4 + (y 2).val, by omega⟩
  · rw [dif_neg h, dif_neg h]
    exact rd3 m c t _ ⟨(y 2).val - 2044, by omega⟩
end Cert.ShiftIdeal.Dec
end
-- ==== Proof.Shift.Ref.lean ====
module

public import proofs.«01_k».proof.Proof.Gen.ShiftRefIdeal.Read
public import proofs.«01_k».proof.Proof.Shift.Final

@[expose] public section

set_option maxRecDepth 16384

noncomputable section

namespace Cert.ShiftRefIdeal.Dec

open Cert.ShiftRefIdeal Cert.ShiftRefIdeal.Gen Cert.ShiftRefIdeal.Read Idealize.ShloMosaic Idealize.ShloMosaic.TcCoe Idealize.SL.Sem

variable (x : FVec Ideal S32x2048x16x64 .f32) (y : FVec Ideal S32x4x16x64 .f32)

theorem o4_apply (b : Fin 32) (e : Fin 1024) (i : Fin 2048) : val_main_v5 (F := Ideal) x y (ix3 b e i) = Cert.ShiftIdeal.Dec.G x y b e i := by
  unfold Cert.ShiftIdeal.Dec.G
  by_cases h : (i : ℕ) < 2044
  · have h' : 4 + (i : ℕ) < 2048 := by omega
    rw [dif_pos h]
    pointwise [val_main_v0, val_main_v1, val_main_v4, val_main_v5, h, h']
  · have h' : ¬ 4 + (i : ℕ) < 2048 := by omega
    rw [dif_neg h]
    pointwise [val_main_v0, val_main_v1, val_main_v4, val_main_v5, h, h']
    exact congrArg (fun k => y (ix4 b k _ _)) (Fin.ext (by show 4 + (i : ℕ) - 2048 = i - 2044; omega))

theorem o4_eq : val_main_v5 (F := Ideal) x y
    = fun j => Cert.ShiftIdeal.Dec.G x y (j 0) (j 1) (j 2) := by
  funext j
  have hj : j = ix3 (j 0) (j 1) (j 2) := funext fun a => by
    match a with
    | ⟨0, _⟩ => rfl
    | ⟨1, _⟩ => rfl
    | ⟨2, _⟩ => rfl
  exact (congrArg _ hj).trans (o4_apply x y _ _ _)

theorem o5_apply (b : Fin 32) (e : Fin 1024) (i : Fin 2048) : val_main_v7 (F := Ideal) x y (ix3 b e i) = Cert.ShiftIdeal.Dec.G x y b e i := by
  unfold Cert.ShiftIdeal.Dec.G
  by_cases h : (i : ℕ) < 2044
  · have h' : 4 + (i : ℕ) < 2048 := by omega
    rw [dif_pos h]
    pointwise [val_main_v2, val_main_v3, val_main_v6, val_main_v7, h, h']
  · have h' : ¬ 4 + (i : ℕ) < 2048 := by omega
    rw [dif_neg h]
    pointwise [val_main_v2, val_main_v3, val_main_v6, val_main_v7, h, h']
    exact congrArg (fun k => y (ix4 b k _ _)) (Fin.ext (by show 4 + (i : ℕ) - 2048 = i - 2044; omega))

theorem o5_eq : val_main_v7 (F := Ideal) x y
    = fun j => Cert.ShiftIdeal.Dec.G x y (j 0) (j 1) (j 2) := by
  funext j
  have hj : j = ix3 (j 0) (j 1) (j 2) := funext fun a => by
    match a with
    | ⟨0, _⟩ => rfl
    | ⟨1, _⟩ => rfl
    | ⟨2, _⟩ => rfl
  exact (congrArg _ hj).trans (o5_apply x y _ _ _)
end Cert.ShiftRefIdeal.Dec
end
-- ==== Proof.Dil.OffIdeal.lean ====
module

public import proofs.«01_k».proof.Proof.Gen.DilIdeal.Loops

/-! # Where the three branches of the dilated window attention read and write

Trip `k` of a branch's loop handles four blocks `u`. With `nb` blocks to a residue, block `k + 4u` has residue
`(k + 4u) / nb` and number `(k + 4u) % nb` in it. -/

@[expose] public section

set_option maxRecDepth 8192

noncomputable section

namespace Cert.Proof.DilIdeal

open Cert.DilIdeal Cert.DilIdeal.Gen
open Idealize.ShloMosaic

theorem off2_eq : ∀ k : Fin k0_t1_loop.trips, ∀ u : Fin 4, k0_off2 k (BitVec.ofNat 32 (4 * u.val)) = ![0, 128 * (k.val + 4 * u.val), 0] := by decide +kernel
theorem off3_eq : ∀ k : Fin k0_t1_loop.trips, ∀ u : Fin 4, k0_off3 k (BitVec.ofNat 32 (4 * u.val)) = ![0, 128 * (k.val + 4 * u.val - 1), 0] := by decide +kernel
theorem off4_eq : ∀ k : Fin k0_t1_loop.trips, ∀ u : Fin 4, k0_off4 k (BitVec.ofNat 32 (4 * u.val)) = ![128 * (k.val + 4 * u.val), 0] := by decide +kernel
theorem off5_eq : ∀ k : Fin k0_t2_loop.trips, ∀ u : Fin 4, k0_off5 k (BitVec.ofNat 32 (4 * u.val)) = ![0, 512 * k.val + u.val, 0] := by decide +kernel
theorem off6_eq : ∀ k : Fin k0_t2_loop.trips, ∀ u : Fin 4, k0_off6 k (BitVec.ofNat 32 (4 * u.val)) = ![0, 512 * (k.val - 1) + u.val, 0] := by decide +kernel
theorem off7_eq : ∀ k : Fin k0_t2_loop.trips, ∀ u : Fin 4, k0_off7 k (BitVec.ofNat 32 (4 * u.val)) = ![512 * k.val + u.val, 0] := by decide +kernel
theorem off8_eq : ∀ k : Fin k0_t3_loop.trips, ∀ u : Fin 4, k0_off8 k (BitVec.ofNat 32 (4 * u.val)) = ![0, k.val + 4 * u.val, 0] := by decide +kernel
theorem off9_eq : ∀ k : Fin k0_t3_loop.trips, ∀ u : Fin 4, k0_off9 k (BitVec.ofNat 32 (4 * u.val)) = ![0, k.val + 4 * u.val, 0] := by decide +kernel
theorem off10_eq : ∀ k : Fin k0_t3_loop.trips, ∀ u : Fin 4, k0_off10 k (BitVec.ofNat 32 (4 * u.val)) = ![k.val + 4 * u.val, 0] := by decide +kernel

instance (k : Fin k0_t1_loop.trips) : ClosedOff (k0_off4 k 0#32) := ⟨_, off4_eq k 0⟩
instance (k : Fin k0_t1_loop.trips) : ClosedOff (k0_off4 k 4#32) := ⟨_, off4_eq k 1⟩
instance (k : Fin k0_t1_loop.trips) : ClosedOff (k0_off4 k 8#32) := ⟨_, off4_eq k 2⟩
instance (k : Fin k0_t1_loop.trips) : ClosedOff (k0_off4 k 12#32) := ⟨_, off4_eq k 3⟩

end Cert.Proof.DilIdeal

end
-- ==== Proof.Dil.L1Ideal.lean ====
module

public import proofs.«01_k».proof.Proof.Gen.DilIdeal.Loops
public import proofs.«01_k».proof.Proof.Dil.OffIdeal

/-! # Branch 0 of the dilated window attention: one trip of its loop, and the loop

A trip handles four blocks of queries: it reads rows of the queries, keys and values, and writes rows of
the branch's output and of its log-sum-exp. -/

@[expose] public section

set_option maxRecDepth 8192
set_option maxHeartbeats 4000000

noncomputable section

namespace Cert.Proof.DilIdeal.B1

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a trip holds: the read buffers at their contents, the written ones at any. -/
abbrev Trip (c : Dev nD) (arg3 arg6 arg7 : Memref sig .tc .vmem S1x2048x128 .f32) (arg9 arg12 : Memref sig .tc .vmem S2048x128 .f32) (X_arg3 : BufTy.Contents (Elt F) arg3.view.ty) (X_arg6 : BufTy.Contents (Elt F) arg6.view.ty) (X_arg7 : BufTy.Contents (Elt F) arg7.view.ty) (f_arg9 : BufTy.Contents (Elt F) arg9.view.ty) (f_arg12 : BufTy.Contents (Elt F) arg12.view.ty) : sProp 𝕄 :=
  iprop((arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (arg9.view.loc (c : Thread nD τ) ↦[arg9.view.set]{fullShare} f_arg9) ∗ (arg12.view.loc (c : Thread nD τ) ↦[arg12.view.set]{fullShare} f_arg12))

/-- One trip, with the pieces it writes. -/
@[irreducible] def trip (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg1 : BitVec 32) (v1 : IVec S128x128 32) (v2 : IVec S128x128 32) (v4 : IVec S128x128 32) (v6 : IVec S128x128 1) (v8 : IVec S128x128 1) (v34 : IVec S128x128 1) (v38 : Elt F .f32) (c64_i32_8 : BitVec 32) (v40 : IVec S128x128 32) (v41 : IVec S128x128 32) (v68 : Elt F .f32) (X_arg3 : BufTy.Contents (Elt F) arg3.view.ty) (X_arg6 : BufTy.Contents (Elt F) arg6.view.ty) (X_arg7 : BufTy.Contents (Elt F) arg7.view.ty) (k : Fin k0_t1_loop.trips) :
    Σ' (L_o : List (View.Piece (Elt F) S2048x128 .f32)), { L_l : List (View.Piece (Elt F) S2048x128 .f32) // ∀ (E : Set ℕ) (f_arg9 : BufTy.Contents (Elt F) arg9.view.ty) (f_arg12 : BufTy.Contents (Elt F) arg12.view.ty),
      Trip c arg3 arg6 arg7 arg9 arg12 X_arg3 X_arg6 X_arg7 f_arg9 f_arg12
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 k PUnit.unit)
          (fun _ => Trip c arg3 arg6 arg7 arg9 arg12 X_arg3 X_arg6 X_arg7 (arg9.view.writes (Elt F) f_arg9 L_o) (arg12.view.writes (Elt F) f_arg12 L_l)) } := by
  have hk : k.val < 4 := Nat.lt_of_lt_of_le k.isLt k0_t1_abs.2.1
  refine ⟨?_, ?_, fun E f_arg9 f_arg12 => ?run⟩
  case run =>
    unfold k0_t1_body
    iintro ⟨HR_arg3, HR_arg6, HR_arg7, HW_arg9, HW_arg12⟩
    sl_exec_parts
    sl_step
    sl_close

/-- The pieces of the trips before `k`, last first. -/
def pb (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg1 : BitVec 32) (v1 : IVec S128x128 32) (v2 : IVec S128x128 32) (v4 : IVec S128x128 32) (v6 : IVec S128x128 1) (v8 : IVec S128x128 1) (v34 : IVec S128x128 1) (v38 : Elt F .f32) (c64_i32_8 : BitVec 32) (v40 : IVec S128x128 32) (v41 : IVec S128x128 32) (v68 : Elt F .f32) (X_arg3 : BufTy.Contents (Elt F) arg3.view.ty) (X_arg6 : BufTy.Contents (Elt F) arg6.view.ty) (X_arg7 : BufTy.Contents (Elt F) arg7.view.ty) :
    ℕ → List (View.Piece (Elt F) S2048x128 .f32) × List (View.Piece (Elt F) S2048x128 .f32)
  | 0 => ([], [])
  | k + 1 =>
    let prev := pb 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 k
    if h : k < k0_t1_loop.trips then
      let T := trip (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 ⟨k, h⟩
      (T.1 ++ prev.1, T.2.1 ++ prev.2)
    else prev

theorem pb_succ (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg1 : BitVec 32) (v1 : IVec S128x128 32) (v2 : IVec S128x128 32) (v4 : IVec S128x128 32) (v6 : IVec S128x128 1) (v8 : IVec S128x128 1) (v34 : IVec S128x128 1) (v38 : Elt F .f32) (c64_i32_8 : BitVec 32) (v40 : IVec S128x128 32) (v41 : IVec S128x128 32) (v68 : Elt F .f32) (X_arg3 : BufTy.Contents (Elt F) arg3.view.ty) (X_arg6 : BufTy.Contents (Elt F) arg6.view.ty) (X_arg7 : BufTy.Contents (Elt F) arg7.view.ty) (k : Fin k0_t1_loop.trips) :
    pb (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 (k.val + 1)
      = ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 k).1 ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 k.val).1,
        (trip (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 k).2.1 ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 k.val).2) := by
  rw [pb.eq_2]; exact dif_pos k.isLt

/-- The invariant before trip `k`: the pieces of the trips before it, written over what the loop found. -/
abbrev inv (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg1 : BitVec 32) (v1 : IVec S128x128 32) (v2 : IVec S128x128 32) (v4 : IVec S128x128 32) (v6 : IVec S128x128 1) (v8 : IVec S128x128 1) (v34 : IVec S128x128 1) (v38 : Elt F .f32) (c64_i32_8 : BitVec 32) (v40 : IVec S128x128 32) (v41 : IVec S128x128 32) (v68 : Elt F .f32) (X_arg3 : BufTy.Contents (Elt F) arg3.view.ty) (X_arg6 : BufTy.Contents (Elt F) arg6.view.ty) (X_arg7 : BufTy.Contents (Elt F) arg7.view.ty) (G_arg9 : BufTy.Contents (Elt F) arg9.view.ty) (G_arg12 : BufTy.Contents (Elt F) arg12.view.ty) (k : ℕ) (_u : PUnit) : sProp 𝕄 :=
  iprop((arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (∃ f, (arg9.view.loc (c : Thread nD τ) ↦[arg9.view.set]{fullShare} f) ∗ ⌜f = arg9.view.writes (Elt F) G_arg9 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 k).1⌝)
    ∗ (∃ f, (arg12.view.loc (c : Thread nD τ) ↦[arg12.view.set]{fullShare} f) ∗ ⌜f = arg12.view.writes (Elt F) G_arg12 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 k).2⌝))

set_option warn.classDefReducibility false in
/-- The loop by its invariant. -/
@[sl_loop] def loopInv (𝒱 : Variants) (c : Dev nD) (bd : Option 𝒱.V) (E : Set ℕ) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg1 : BitVec 32) (v1 : IVec S128x128 32) (v2 : IVec S128x128 32) (v4 : IVec S128x128 32) (v6 : IVec S128x128 1) (v8 : IVec S128x128 1) (v34 : IVec S128x128 1) (v38 : Elt F .f32) (c64_i32_8 : BitVec 32) (v40 : IVec S128x128 32) (v41 : IVec S128x128 32) (v68 : Elt F .f32) (X_arg3 : BufTy.Contents (Elt F) arg3.view.ty) (X_arg6 : BufTy.Contents (Elt F) arg6.view.ty) (X_arg7 : BufTy.Contents (Elt F) arg7.view.ty) (G_arg9 : BufTy.Contents (Elt F) arg9.view.ty) (G_arg12 : BufTy.Contents (Elt F) arg12.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 where
  inv := inv (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 G_arg9 G_arg12
  step k acc := by
    iintro ⟨HR0, HR1, HR2, ⟨%fo, HW0, %h0⟩, ⟨%fl, HW1, %h1⟩⟩
    iapply (wp_wand_r Idealize.ShloMosaic.frame (wpE (defs₀ (F := F)) 𝒱 (c : Thread nD τ) bd) E)
    isplitl [HR0 HR1 HR2 HW0 HW1]
    · iapply ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 k).2.2 E fo fl)
      isplitl [HR0]; · iexact HR0
      isplitl [HR1]; · iexact HR1
      isplitl [HR2]; · iexact HR2
      isplitl [HW0]; · iexact HW0
      iexact HW1
    · iintro %_ ⟨HR0, HR1, HR2, HW0, HW1⟩
      isplitl [HR0]; · iexact HR0
      isplitl [HR1]; · iexact HR1
      isplitl [HR2]; · iexact HR2
      rw [pb_succ]
      isplitl [HW0]
      · iexists _; isplitl [HW0]; · iexact HW0
        ipureintro; rw [h0, ← View.writes_append]
      · iexists _; isplitl [HW1]; · iexact HW1
        ipureintro; rw [h1, ← View.writes_append]

end Cert.Proof.DilIdeal.B1

end
-- ==== Proof.Dil.L2Ideal.lean ====
module

public import proofs.«01_k».proof.Proof.Gen.DilIdeal.Loops
public import proofs.«01_k».proof.Proof.Dil.OffIdeal

/-! # Branch 1 of the dilated window attention: one trip of its loop, and the loop

A trip handles four blocks of queries: it reads rows of the queries, keys and values, and writes rows of
the branch's output and of its log-sum-exp. -/

@[expose] public section

set_option maxRecDepth 8192
set_option maxHeartbeats 4000000

noncomputable section

namespace Cert.Proof.DilIdeal.B2

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a trip holds: the read buffers at their contents, the written ones at any. -/
abbrev Trip (c : Dev nD) (arg4 arg6 arg7 : Memref sig .tc .vmem S1x2048x128 .f32) (arg10 arg13 : Memref sig .tc .vmem S2048x128 .f32) (X_arg4 : BufTy.Contents (Elt F) arg4.view.ty) (X_arg6 : BufTy.Contents (Elt F) arg6.view.ty) (X_arg7 : BufTy.Contents (Elt F) arg7.view.ty) (f_arg10 : BufTy.Contents (Elt F) arg10.view.ty) (f_arg13 : BufTy.Contents (Elt F) arg13.view.ty) : sProp 𝕄 :=
  iprop((arg4.view.loc (c : Thread nD τ) ↦[arg4.view.set]{fullShare} X_arg4) ∗ (arg6.view.loc (c : Thread nD τ) ↦[arg6.view.set]{fullShare} X_arg6) ∗ (arg7.view.loc (c : Thread nD τ) ↦[arg7.view.set]{fullShare} X_arg7) ∗ (arg10.view.loc (c : Thread nD τ) ↦[arg10.view.set]{fullShare} f_arg10) ∗ (arg13.view.loc (c : Thread nD τ) ↦[arg13.view.set]{fullShare} f_arg13))

/-- One trip, with the pieces it writes. -/
@[irreducible] def trip (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v6 : IVec S128x128 1) (v8 : IVec S128x128 1) (v34 : IVec S128x128 1) (v38 : Elt F .f32) (v64 : IVec S128x128 1) (v68 : Elt F .f32) (v78 : FVec F S128x128 .f32) (v81 : FVec F S128x128 .f32) (c0_i32_26 : BitVec 32) (X_arg4 : BufTy.Contents (Elt F) arg4.view.ty) (X_arg6 : BufTy.Contents (Elt F) arg6.view.ty) (X_arg7 : BufTy.Contents (Elt F) arg7.view.ty) (k : Fin k0_t2_loop.trips) :
    Σ' (L_o : List (View.Piece (Elt F) S2048x128 .f32)), { L_l : List (View.Piece (Elt F) S2048x128 .f32) // ∀ (E : Set ℕ) (f_arg10 : BufTy.Contents (Elt F) arg10.view.ty) (f_arg13 : BufTy.Contents (Elt F) arg13.view.ty),
      Trip c arg4 arg6 arg7 arg10 arg13 X_arg4 X_arg6 X_arg7 f_arg10 f_arg13
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 k PUnit.unit)
          (fun _ => Trip c arg4 arg6 arg7 arg10 arg13 X_arg4 X_arg6 X_arg7 (arg10.view.writes (Elt F) f_arg10 L_o) (arg13.view.writes (Elt F) f_arg13 L_l)) } := by
  have hk : k.val < 4 := Nat.lt_of_lt_of_le k.isLt k0_t2_abs.2.1
  refine ⟨?_, ?_, fun E f_arg10 f_arg13 => ?run⟩
  case run =>
    unfold k0_t2_body
    iintro ⟨HR_arg4, HR_arg6, HR_arg7, HW_arg10, HW_arg13⟩
    sl_exec_parts
    sl_step
    sl_close

/-- The pieces of the trips before `k`, last first. -/
def pb (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v6 : IVec S128x128 1) (v8 : IVec S128x128 1) (v34 : IVec S128x128 1) (v38 : Elt F .f32) (v64 : IVec S128x128 1) (v68 : Elt F .f32) (v78 : FVec F S128x128 .f32) (v81 : FVec F S128x128 .f32) (c0_i32_26 : BitVec 32) (X_arg4 : BufTy.Contents (Elt F) arg4.view.ty) (X_arg6 : BufTy.Contents (Elt F) arg6.view.ty) (X_arg7 : BufTy.Contents (Elt F) arg7.view.ty) :
    ℕ → List (View.Piece (Elt F) S2048x128 .f32) × List (View.Piece (Elt F) S2048x128 .f32)
  | 0 => ([], [])
  | k + 1 =>
    let prev := pb 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 k
    if h : k < k0_t2_loop.trips then
      let T := trip (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 ⟨k, h⟩
      (T.1 ++ prev.1, T.2.1 ++ prev.2)
    else prev

theorem pb_succ (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v6 : IVec S128x128 1) (v8 : IVec S128x128 1) (v34 : IVec S128x128 1) (v38 : Elt F .f32) (v64 : IVec S128x128 1) (v68 : Elt F .f32) (v78 : FVec F S128x128 .f32) (v81 : FVec F S128x128 .f32) (c0_i32_26 : BitVec 32) (X_arg4 : BufTy.Contents (Elt F) arg4.view.ty) (X_arg6 : BufTy.Contents (Elt F) arg6.view.ty) (X_arg7 : BufTy.Contents (Elt F) arg7.view.ty) (k : Fin k0_t2_loop.trips) :
    pb (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 (k.val + 1)
      = ((trip (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 k).1 ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 k.val).1,
        (trip (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 k).2.1 ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 k.val).2) := by
  rw [pb.eq_2]; exact dif_pos k.isLt

/-- The invariant before trip `k`: the pieces of the trips before it, written over what the loop found. -/
abbrev inv (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v6 : IVec S128x128 1) (v8 : IVec S128x128 1) (v34 : IVec S128x128 1) (v38 : Elt F .f32) (v64 : IVec S128x128 1) (v68 : Elt F .f32) (v78 : FVec F S128x128 .f32) (v81 : FVec F S128x128 .f32) (c0_i32_26 : BitVec 32) (X_arg4 : BufTy.Contents (Elt F) arg4.view.ty) (X_arg6 : BufTy.Contents (Elt F) arg6.view.ty) (X_arg7 : BufTy.Contents (Elt F) arg7.view.ty) (G_arg10 : BufTy.Contents (Elt F) arg10.view.ty) (G_arg13 : BufTy.Contents (Elt F) arg13.view.ty) (k : ℕ) (_u : PUnit) : sProp 𝕄 :=
  iprop((arg4.view.loc (c : Thread nD τ) ↦[arg4.view.set]{fullShare} X_arg4) ∗ (arg6.view.loc (c : Thread nD τ) ↦[arg6.view.set]{fullShare} X_arg6) ∗ (arg7.view.loc (c : Thread nD τ) ↦[arg7.view.set]{fullShare} X_arg7) ∗ (∃ f, (arg10.view.loc (c : Thread nD τ) ↦[arg10.view.set]{fullShare} f) ∗ ⌜f = arg10.view.writes (Elt F) G_arg10 (pb (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 k).1⌝)
    ∗ (∃ f, (arg13.view.loc (c : Thread nD τ) ↦[arg13.view.set]{fullShare} f) ∗ ⌜f = arg13.view.writes (Elt F) G_arg13 (pb (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 k).2⌝))

set_option warn.classDefReducibility false in
/-- The loop by its invariant. -/
@[sl_loop] def loopInv (𝒱 : Variants) (c : Dev nD) (bd : Option 𝒱.V) (E : Set ℕ) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v6 : IVec S128x128 1) (v8 : IVec S128x128 1) (v34 : IVec S128x128 1) (v38 : Elt F .f32) (v64 : IVec S128x128 1) (v68 : Elt F .f32) (v78 : FVec F S128x128 .f32) (v81 : FVec F S128x128 .f32) (c0_i32_26 : BitVec 32) (X_arg4 : BufTy.Contents (Elt F) arg4.view.ty) (X_arg6 : BufTy.Contents (Elt F) arg6.view.ty) (X_arg7 : BufTy.Contents (Elt F) arg7.view.ty) (G_arg10 : BufTy.Contents (Elt F) arg10.view.ty) (G_arg13 : BufTy.Contents (Elt F) arg13.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 where
  inv := inv (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 G_arg10 G_arg13
  step k acc := by
    iintro ⟨HR0, HR1, HR2, ⟨%fo, HW0, %h0⟩, ⟨%fl, HW1, %h1⟩⟩
    iapply (wp_wand_r Idealize.ShloMosaic.frame (wpE (defs₀ (F := F)) 𝒱 (c : Thread nD τ) bd) E)
    isplitl [HR0 HR1 HR2 HW0 HW1]
    · iapply ((trip (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 k).2.2 E fo fl)
      isplitl [HR0]; · iexact HR0
      isplitl [HR1]; · iexact HR1
      isplitl [HR2]; · iexact HR2
      isplitl [HW0]; · iexact HW0
      iexact HW1
    · iintro %_ ⟨HR0, HR1, HR2, HW0, HW1⟩
      isplitl [HR0]; · iexact HR0
      isplitl [HR1]; · iexact HR1
      isplitl [HR2]; · iexact HR2
      rw [pb_succ]
      isplitl [HW0]
      · iexists _; isplitl [HW0]; · iexact HW0
        ipureintro; rw [h0, ← View.writes_append]
      · iexists _; isplitl [HW1]; · iexact HW1
        ipureintro; rw [h1, ← View.writes_append]

end Cert.Proof.DilIdeal.B2

end
-- ==== Proof.Dil.L3Ideal.lean ====
module

public import proofs.«01_k».proof.Proof.Gen.DilIdeal.Loops
public import proofs.«01_k».proof.Proof.Dil.OffIdeal

/-! # Branch 2 of the dilated window attention: one trip of its loop, and the loop

A trip handles four blocks of queries: it reads rows of the queries, keys and values, and writes rows of
the branch's output and of its log-sum-exp. -/

@[expose] public section

set_option maxRecDepth 8192
set_option maxHeartbeats 4000000

noncomputable section

namespace Cert.Proof.DilIdeal.B3

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a trip holds: the read buffers at their contents, the written ones at any. -/
abbrev Trip (c : Dev nD) (arg5 arg6 arg7 : Memref sig .tc .vmem S1x2048x128 .f32) (arg11 arg14 : Memref sig .tc .vmem S2048x128 .f32) (X_arg5 : BufTy.Contents (Elt F) arg5.view.ty) (X_arg6 : BufTy.Contents (Elt F) arg6.view.ty) (X_arg7 : BufTy.Contents (Elt F) arg7.view.ty) (f_arg11 : BufTy.Contents (Elt F) arg11.view.ty) (f_arg14 : BufTy.Contents (Elt F) arg14.view.ty) : sProp 𝕄 :=
  iprop((arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg11.view.loc (c : Thread nD τ) ↦[arg11.view.set]{fullShare} f_arg11) ∗ (arg14.view.loc (c : Thread nD τ) ↦[arg14.view.set]{fullShare} f_arg14))

/-- One trip, with the pieces it writes. -/
@[irreducible] def trip (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v2 : IVec S128x128 32) (v4 : IVec S128x128 32) (v6 : IVec S128x128 1) (v8 : IVec S128x128 1) (v34 : IVec S128x128 1) (v38 : Elt F .f32) (v64 : IVec S128x128 1) (v68 : Elt F .f32) (X_arg5 : BufTy.Contents (Elt F) arg5.view.ty) (X_arg6 : BufTy.Contents (Elt F) arg6.view.ty) (X_arg7 : BufTy.Contents (Elt F) arg7.view.ty) (k : Fin k0_t3_loop.trips) :
    Σ' (L_o : List (View.Piece (Elt F) S2048x128 .f32)), { L_l : List (View.Piece (Elt F) S2048x128 .f32) // ∀ (E : Set ℕ) (f_arg11 : BufTy.Contents (Elt F) arg11.view.ty) (f_arg14 : BufTy.Contents (Elt F) arg14.view.ty),
      Trip c arg5 arg6 arg7 arg11 arg14 X_arg5 X_arg6 X_arg7 f_arg11 f_arg14
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 k PUnit.unit)
          (fun _ => Trip c arg5 arg6 arg7 arg11 arg14 X_arg5 X_arg6 X_arg7 (arg11.view.writes (Elt F) f_arg11 L_o) (arg14.view.writes (Elt F) f_arg14 L_l)) } := by
  have hk : k.val < 4 := Nat.lt_of_lt_of_le k.isLt k0_t3_abs.2.1
  refine ⟨?_, ?_, fun E f_arg11 f_arg14 => ?run⟩
  case run =>
    unfold k0_t3_body
    iintro ⟨HR_arg5, HR_arg6, HR_arg7, HW_arg11, HW_arg14⟩
    sl_exec_parts
    sl_step
    sl_close

/-- The pieces of the trips before `k`, last first. -/
def pb (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v2 : IVec S128x128 32) (v4 : IVec S128x128 32) (v6 : IVec S128x128 1) (v8 : IVec S128x128 1) (v34 : IVec S128x128 1) (v38 : Elt F .f32) (v64 : IVec S128x128 1) (v68 : Elt F .f32) (X_arg5 : BufTy.Contents (Elt F) arg5.view.ty) (X_arg6 : BufTy.Contents (Elt F) arg6.view.ty) (X_arg7 : BufTy.Contents (Elt F) arg7.view.ty) :
    ℕ → List (View.Piece (Elt F) S2048x128 .f32) × List (View.Piece (Elt F) S2048x128 .f32)
  | 0 => ([], [])
  | k + 1 =>
    let prev := pb 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 k
    if h : k < k0_t3_loop.trips then
      let T := trip (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 ⟨k, h⟩
      (T.1 ++ prev.1, T.2.1 ++ prev.2)
    else prev

theorem pb_succ (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v2 : IVec S128x128 32) (v4 : IVec S128x128 32) (v6 : IVec S128x128 1) (v8 : IVec S128x128 1) (v34 : IVec S128x128 1) (v38 : Elt F .f32) (v64 : IVec S128x128 1) (v68 : Elt F .f32) (X_arg5 : BufTy.Contents (Elt F) arg5.view.ty) (X_arg6 : BufTy.Contents (Elt F) arg6.view.ty) (X_arg7 : BufTy.Contents (Elt F) arg7.view.ty) (k : Fin k0_t3_loop.trips) :
    pb (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 (k.val + 1)
      = ((trip (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 k).1 ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 k.val).1,
        (trip (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 k).2.1 ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 k.val).2) := by
  rw [pb.eq_2]; exact dif_pos k.isLt

/-- The invariant before trip `k`: the pieces of the trips before it, written over what the loop found. -/
abbrev inv (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v2 : IVec S128x128 32) (v4 : IVec S128x128 32) (v6 : IVec S128x128 1) (v8 : IVec S128x128 1) (v34 : IVec S128x128 1) (v38 : Elt F .f32) (v64 : IVec S128x128 1) (v68 : Elt F .f32) (X_arg5 : BufTy.Contents (Elt F) arg5.view.ty) (X_arg6 : BufTy.Contents (Elt F) arg6.view.ty) (X_arg7 : BufTy.Contents (Elt F) arg7.view.ty) (G_arg11 : BufTy.Contents (Elt F) arg11.view.ty) (G_arg14 : BufTy.Contents (Elt F) arg14.view.ty) (k : ℕ) (_u : PUnit) : sProp 𝕄 :=
  iprop((arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (∃ f, (arg11.view.loc (c : Thread nD τ) ↦[arg11.view.set]{fullShare} f) ∗ ⌜f = arg11.view.writes (Elt F) G_arg11 (pb (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 k).1⌝)
    ∗ (∃ f, (arg14.view.loc (c : Thread nD τ) ↦[arg14.view.set]{fullShare} f) ∗ ⌜f = arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 k).2⌝))

set_option warn.classDefReducibility false in
/-- The loop by its invariant. -/
@[sl_loop] def loopInv (𝒱 : Variants) (c : Dev nD) (bd : Option 𝒱.V) (E : Set ℕ) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v2 : IVec S128x128 32) (v4 : IVec S128x128 32) (v6 : IVec S128x128 1) (v8 : IVec S128x128 1) (v34 : IVec S128x128 1) (v38 : Elt F .f32) (v64 : IVec S128x128 1) (v68 : Elt F .f32) (X_arg5 : BufTy.Contents (Elt F) arg5.view.ty) (X_arg6 : BufTy.Contents (Elt F) arg6.view.ty) (X_arg7 : BufTy.Contents (Elt F) arg7.view.ty) (G_arg11 : BufTy.Contents (Elt F) arg11.view.ty) (G_arg14 : BufTy.Contents (Elt F) arg14.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 where
  inv := inv (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 G_arg11 G_arg14
  step k acc := by
    iintro ⟨HR0, HR1, HR2, ⟨%fo, HW0, %h0⟩, ⟨%fl, HW1, %h1⟩⟩
    iapply (wp_wand_r Idealize.ShloMosaic.frame (wpE (defs₀ (F := F)) 𝒱 (c : Thread nD τ) bd) E)
    isplitl [HR0 HR1 HR2 HW0 HW1]
    · iapply ((trip (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 k).2.2 E fo fl)
      isplitl [HR0]; · iexact HR0
      isplitl [HR1]; · iexact HR1
      isplitl [HR2]; · iexact HR2
      isplitl [HW0]; · iexact HW0
      iexact HW1
    · iintro %_ ⟨HR0, HR1, HR2, HW0, HW1⟩
      isplitl [HR0]; · iexact HR0
      isplitl [HR1]; · iexact HR1
      isplitl [HR2]; · iexact HR2
      rw [pb_succ]
      isplitl [HW0]
      · iexists _; isplitl [HW0]; · iexact HW0
        ipureintro; rw [h0, ← View.writes_append]
      · iexists _; isplitl [HW1]; · iexact HW1
        ipureintro; rw [h1, ← View.writes_append]

end Cert.Proof.DilIdeal.B3

end
-- ==== Proof.Dil.RunIdeal.lean ====
module

public import proofs.«01_k».proof.Proof.Dil.L1Ideal
public import proofs.«01_k».proof.Proof.Dil.L2Ideal
public import proofs.«01_k».proof.Proof.Dil.L3Ideal
public import proofs.«01_k».proof.Proof.Gen.DilIdeal.Frame

/-! # The dilated window attention's body, run on whole staging memrefs -/

@[expose] public section

set_option maxRecDepth 16384

noncomputable section

namespace Cert.Proof.DilIdeal

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body from given scratch contents: the pieces it stores into its output. -/
noncomputable def kernelRun (c : Dev nD) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole)
    (x0 : Vec F S1x16 .f32) (x1 : Vec F S1x2048x128 .f32) (x2 : Vec F S1x2048x128 .f32) (x3 : Vec F S1x2048x128 .f32) (x4 : Vec F S1x2048x128 .f32) (x5 : Vec F S1x2048x128 .f32) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    { L : List (View.Piece (Elt F) S1x2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
          ⊢ wp frame (wpE (defs₀ (F := F)) Variants.none c none) E (cc0_dil_prompt i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_dil_prompt_eq_skeleton]; unfold cc0_dil_prompt_skel
    simp only [k0_part34_eq_skeleton, k0_part35_eq_skeleton]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%d6, %f6, -, H6⟩, S9, S10, S11, S12, S13, S14, Hk⟩
    obtain rfl := harg2.eq_unread hg0; obtain rfl := harg3.eq_unread hg1; obtain rfl := harg4.eq_unread hg2; obtain rfl := harg5.eq_unread hg3; obtain rfl := harg6.eq_unread hg4; obtain rfl := harg7.eq_unread hg5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [S9]; · iexists _; iexact S9
    isplitl [S10]; · iexists _; iexact S10
    isplitl [S11]; · iexists _; iexact S11
    isplitl [S12]; · iexists _; iexact S12
    isplitl [S13]; · iexists _; iexact S13
    iexists _; iexact S14

end Cert.Proof.DilIdeal

end
-- ==== Proof.Dil.CoverIdeal.lean ====
module

public import proofs.«01_k».proof.Proof.Dil.L1Ideal
public import proofs.«01_k».proof.Proof.Dil.L2Ideal
public import proofs.«01_k».proof.Proof.Dil.L3Ideal

/-! # What each loop stores covers its scratch buffers -/

@[expose] public section

set_option maxRecDepth 8192
set_option maxHeartbeats 1000000

noncomputable section

namespace Cert.Proof.DilIdeal

open Cert.DilIdeal Cert.DilIdeal.Gen Idealize.ShloMosaic Idealize.ShloMosaic.TcCoe

variable {F : FTy → Type} [FloatOps F]

/-- Four blocks a trip: every block's rectangle is one of the pieces after the last trip. -/
theorem mem_blocks {N : ℕ} (R : Fin N → Fin 4 → Rect S2048x128) (L : ℕ → List (View.Piece (Elt F) S2048x128 .f32))
    (hs : ∀ k : Fin N, ∃ T : List (View.Piece (Elt F) S2048x128 .f32), L (k.val + 1) = T ++ L k.val
      ∧ T.map (fun p => p.1) = ([3, 2, 1, 0] : List (Fin 4)).map (R k)) :
    ∀ n, n ≤ N → ∀ k : Fin N, k.val < n → ∀ u, ∃ p ∈ L n, p.1 = R k u := by
  intro n
  induction n with
  | zero => intro _ k hk; omega
  | succ n ih =>
    intro hn k hk u
    obtain ⟨T, hT, hR⟩ := hs ⟨n, hn⟩
    rw [show L (n + 1) = T ++ L n from hT]
    rcases Nat.lt_succ_iff_lt_or_eq.mp hk with h | h
    · obtain ⟨p, hp, e⟩ := ih (Nat.le_of_succ_le hn) k h u
      exact ⟨p, List.mem_append_right _ hp, e⟩
    · obtain rfl : k = ⟨n, hn⟩ := Fin.ext h
      have hm : R ⟨n, hn⟩ u ∈ T.map (fun p => p.1) := by
        rw [hR]
        refine List.mem_map_of_mem ?_
        revert u; decide
      obtain ⟨p, hp, e⟩ := List.mem_map.mp hm
      exact ⟨p, List.mem_append_left _ hp, e⟩

/-- A row and a lane lie in a block of 128 rows when the row is the block's first plus a multiple of its step. -/
theorem mem_rect (r : Rect S2048x128) (o s : ℕ) (ho : r.off = ![o, 0]) (hs : r.stride = ![s, 1]) (hz : r.size = ![128, 128])
    (y : S2048x128.Idx) (a : ℕ) (ha : a < 128) (h : (y 0).val = o + s * a) : y ∈ r.set := by
  refine r.mem_set.mpr fun b => ?_
  rw [ho, hs, hz]
  match b with
  | ⟨0, _⟩ => exact ⟨a, ha, h⟩
  | ⟨1, _⟩ => exact ⟨(y 1).val, (y 1).isLt, by show (y 1).val = 0 + 1 * (y 1).val; omega⟩

end Cert.Proof.DilIdeal

namespace Cert.Proof.DilIdeal.B1

open Cert.DilIdeal Cert.DilIdeal.Gen Idealize.ShloMosaic Idealize.ShloMosaic.TcCoe

variable {F : FTy → Type} [FloatOps F]

/-- The rows a block stores. -/
abbrev rect (k : Fin k0_t1_loop.trips) (u : Fin 4) : Rect S2048x128 := Rect.unit (s := S2048x128) (k0_off4 k (BitVec.ofNat 32 (4 * u.val))) S128x128.size (k0_off4_inb k u)

theorem cover_rect (y : S2048x128.Idx) : ∃ (k : Fin k0_t1_loop.trips) (u : Fin 4), y ∈ (rect k u).set := by
  have hy : (y 0).val < 2048 := (y 0).isLt
  have hN : k0_t1_loop.trips = 4 := by decide
  refine ⟨⟨(y 0).val / 128 % 4, by omega⟩, ⟨(y 0).val / 512, by omega⟩, mem_rect _ _ 1 (off4_eq _ _) (funext fun b => by match b with | ⟨0, _⟩ => rfl | ⟨1, _⟩ => rfl) (funext fun b => by match b with | ⟨0, _⟩ => rfl | ⟨1, _⟩ => rfl) y ((y 0).val % 128) (by omega) ?_⟩
  dsimp only
  omega

theorem rects_o (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg1 : BitVec 32) (v1 : IVec S128x128 32) (v2 : IVec S128x128 32) (v4 : IVec S128x128 32) (v6 : IVec S128x128 1) (v8 : IVec S128x128 1) (v34 : IVec S128x128 1) (v38 : Elt F .f32) (c64_i32_8 : BitVec 32) (v40 : IVec S128x128 32) (v41 : IVec S128x128 32) (v68 : Elt F .f32) (X_arg3 : BufTy.Contents (Elt F) arg3.view.ty) (X_arg6 : BufTy.Contents (Elt F) arg6.view.ty) (X_arg7 : BufTy.Contents (Elt F) arg7.view.ty) (k : Fin k0_t1_loop.trips) :
    ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 k).1).map (fun p => p.1) = ([3, 2, 1, 0] : List (Fin 4)).map (rect k) := by
  unfold trip; rfl

theorem cover_o (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg1 : BitVec 32) (v1 : IVec S128x128 32) (v2 : IVec S128x128 32) (v4 : IVec S128x128 32) (v6 : IVec S128x128 1) (v8 : IVec S128x128 1) (v34 : IVec S128x128 1) (v38 : Elt F .f32) (c64_i32_8 : BitVec 32) (v40 : IVec S128x128 32) (v41 : IVec S128x128 32) (v68 : Elt F .f32) (X_arg3 : BufTy.Contents (Elt F) arg3.view.ty) (X_arg6 : BufTy.Contents (Elt F) arg6.view.ty) (X_arg7 : BufTy.Contents (Elt F) arg7.view.ty) (y : S2048x128.Idx) :
    ∃ p ∈ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 (Scf.trips k0_t1_loop.lb k0_t1_loop.ub k0_t1_loop.st)).1, y ∈ p.1.set := by
  obtain ⟨k, u, h⟩ := cover_rect y
  obtain ⟨p, hp, e⟩ := mem_blocks rect (fun n => (pb (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 n).1)
    (fun k => ⟨_, congrArg (fun z => z.1) (pb_succ (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 k), rects_o (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 k⟩) k0_t1_loop.trips le_rfl k k.isLt u
  exact ⟨p, hp, e ▸ h⟩

theorem rects_l (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg1 : BitVec 32) (v1 : IVec S128x128 32) (v2 : IVec S128x128 32) (v4 : IVec S128x128 32) (v6 : IVec S128x128 1) (v8 : IVec S128x128 1) (v34 : IVec S128x128 1) (v38 : Elt F .f32) (c64_i32_8 : BitVec 32) (v40 : IVec S128x128 32) (v41 : IVec S128x128 32) (v68 : Elt F .f32) (X_arg3 : BufTy.Contents (Elt F) arg3.view.ty) (X_arg6 : BufTy.Contents (Elt F) arg6.view.ty) (X_arg7 : BufTy.Contents (Elt F) arg7.view.ty) (k : Fin k0_t1_loop.trips) :
    ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 k).2.1).map (fun p => p.1) = ([3, 2, 1, 0] : List (Fin 4)).map (rect k) := by
  unfold trip; rfl

theorem cover_l (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg1 : BitVec 32) (v1 : IVec S128x128 32) (v2 : IVec S128x128 32) (v4 : IVec S128x128 32) (v6 : IVec S128x128 1) (v8 : IVec S128x128 1) (v34 : IVec S128x128 1) (v38 : Elt F .f32) (c64_i32_8 : BitVec 32) (v40 : IVec S128x128 32) (v41 : IVec S128x128 32) (v68 : Elt F .f32) (X_arg3 : BufTy.Contents (Elt F) arg3.view.ty) (X_arg6 : BufTy.Contents (Elt F) arg6.view.ty) (X_arg7 : BufTy.Contents (Elt F) arg7.view.ty) (y : S2048x128.Idx) :
    ∃ p ∈ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 (Scf.trips k0_t1_loop.lb k0_t1_loop.ub k0_t1_loop.st)).2, y ∈ p.1.set := by
  obtain ⟨k, u, h⟩ := cover_rect y
  obtain ⟨p, hp, e⟩ := mem_blocks rect (fun n => (pb (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 n).2)
    (fun k => ⟨_, congrArg (fun z => z.2) (pb_succ (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 k), rects_l (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v2 v4 v6 v8 v34 v38 c64_i32_8 v40 v41 v68 X_arg3 X_arg6 X_arg7 k⟩) k0_t1_loop.trips le_rfl k k.isLt u
  exact ⟨p, hp, e ▸ h⟩

end Cert.Proof.DilIdeal.B1

namespace Cert.Proof.DilIdeal.B2

open Cert.DilIdeal Cert.DilIdeal.Gen Idealize.ShloMosaic Idealize.ShloMosaic.TcCoe

variable {F : FTy → Type} [FloatOps F]

/-- The rows a block stores. -/
abbrev rect (k : Fin k0_t2_loop.trips) (u : Fin 4) : Rect S2048x128 := ⟨(⟨k0_off7 k (BitVec.ofNat 32 (4 * u.val)), S128x128.size, ![4, 1], (k0_off7_inb k u)⟩ : LoadRect S2048x128), spos_4_1⟩

theorem cover_rect (y : S2048x128.Idx) : ∃ (k : Fin k0_t2_loop.trips) (u : Fin 4), y ∈ (rect k u).set := by
  have hy : (y 0).val < 2048 := (y 0).isLt
  have hN : k0_t2_loop.trips = 4 := by decide
  refine ⟨⟨(y 0).val / 512, by omega⟩, ⟨(y 0).val % 4, by omega⟩, mem_rect _ _ 4 (off7_eq _ _) (rfl) (funext fun b => by match b with | ⟨0, _⟩ => rfl | ⟨1, _⟩ => rfl) y ((y 0).val % 512 / 4) (by omega) ?_⟩
  dsimp only
  omega

theorem rects_o (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v6 : IVec S128x128 1) (v8 : IVec S128x128 1) (v34 : IVec S128x128 1) (v38 : Elt F .f32) (v64 : IVec S128x128 1) (v68 : Elt F .f32) (v78 : FVec F S128x128 .f32) (v81 : FVec F S128x128 .f32) (c0_i32_26 : BitVec 32) (X_arg4 : BufTy.Contents (Elt F) arg4.view.ty) (X_arg6 : BufTy.Contents (Elt F) arg6.view.ty) (X_arg7 : BufTy.Contents (Elt F) arg7.view.ty) (k : Fin k0_t2_loop.trips) :
    ((trip (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 k).1).map (fun p => p.1) = ([3, 2, 1, 0] : List (Fin 4)).map (rect k) := by
  unfold trip; rfl

theorem cover_o (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v6 : IVec S128x128 1) (v8 : IVec S128x128 1) (v34 : IVec S128x128 1) (v38 : Elt F .f32) (v64 : IVec S128x128 1) (v68 : Elt F .f32) (v78 : FVec F S128x128 .f32) (v81 : FVec F S128x128 .f32) (c0_i32_26 : BitVec 32) (X_arg4 : BufTy.Contents (Elt F) arg4.view.ty) (X_arg6 : BufTy.Contents (Elt F) arg6.view.ty) (X_arg7 : BufTy.Contents (Elt F) arg7.view.ty) (y : S2048x128.Idx) :
    ∃ p ∈ (pb (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 (Scf.trips k0_t2_loop.lb k0_t2_loop.ub k0_t2_loop.st)).1, y ∈ p.1.set := by
  obtain ⟨k, u, h⟩ := cover_rect y
  obtain ⟨p, hp, e⟩ := mem_blocks rect (fun n => (pb (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 n).1)
    (fun k => ⟨_, congrArg (fun z => z.1) (pb_succ (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 k), rects_o (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 k⟩) k0_t2_loop.trips le_rfl k k.isLt u
  exact ⟨p, hp, e ▸ h⟩

theorem rects_l (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v6 : IVec S128x128 1) (v8 : IVec S128x128 1) (v34 : IVec S128x128 1) (v38 : Elt F .f32) (v64 : IVec S128x128 1) (v68 : Elt F .f32) (v78 : FVec F S128x128 .f32) (v81 : FVec F S128x128 .f32) (c0_i32_26 : BitVec 32) (X_arg4 : BufTy.Contents (Elt F) arg4.view.ty) (X_arg6 : BufTy.Contents (Elt F) arg6.view.ty) (X_arg7 : BufTy.Contents (Elt F) arg7.view.ty) (k : Fin k0_t2_loop.trips) :
    ((trip (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 k).2.1).map (fun p => p.1) = ([3, 2, 1, 0] : List (Fin 4)).map (rect k) := by
  unfold trip; rfl

theorem cover_l (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v6 : IVec S128x128 1) (v8 : IVec S128x128 1) (v34 : IVec S128x128 1) (v38 : Elt F .f32) (v64 : IVec S128x128 1) (v68 : Elt F .f32) (v78 : FVec F S128x128 .f32) (v81 : FVec F S128x128 .f32) (c0_i32_26 : BitVec 32) (X_arg4 : BufTy.Contents (Elt F) arg4.view.ty) (X_arg6 : BufTy.Contents (Elt F) arg6.view.ty) (X_arg7 : BufTy.Contents (Elt F) arg7.view.ty) (y : S2048x128.Idx) :
    ∃ p ∈ (pb (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 (Scf.trips k0_t2_loop.lb k0_t2_loop.ub k0_t2_loop.st)).2, y ∈ p.1.set := by
  obtain ⟨k, u, h⟩ := cover_rect y
  obtain ⟨p, hp, e⟩ := mem_blocks rect (fun n => (pb (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 n).2)
    (fun k => ⟨_, congrArg (fun z => z.2) (pb_succ (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 k), rects_l (F := F) 𝒱 c bd i arg2 harg2 arg3 harg3 arg4 harg4 arg5 harg5 arg6 harg6 arg7 harg7 arg8 harg8 arg9 harg9 arg10 harg10 arg11 harg11 arg12 harg12 arg13 harg13 arg14 harg14 v6 v8 v34 v38 v64 v68 v78 v81 c0_i32_26 X_arg4 X_arg6 X_arg7 k⟩) k0_t2_loop.trips le_rfl k k.isLt u
  exact ⟨p, hp, e ▸ h⟩

end Cert.Proof.DilIdeal.B2

namespace Cert.Proof.DilIdeal.B3

open Cert.DilIdeal Cert.DilIdeal.Gen Idealize.ShloMosaic Idealize.ShloMosaic.TcCoe

variable {F : FTy → Type} [FloatOps F]

/-- The rows a block stores. -/
abbrev rect (k : Fin k0_t3_loop.trips) (u : Fin 4) : Rect S2048x128 := ⟨(⟨k0_off10 k (BitVec.ofNat 32 (4 * u.val)), S128x128.size, ![16, 1], (k0_off10_inb k u)⟩ : LoadRect S2048x128), spos_16_1⟩

theorem cover_rect (y : S2048x128.Idx) : ∃ (k : Fin k0_t3_loop.trips) (u : Fin 4), y ∈ (rect k u).set := by
  have hy : (y 0).val < 2048 := (y 0).isLt
  have hN : k0_t3_loop.trips = 4 := by decide
  refine ⟨⟨(y 0).val % 4, by omega⟩, ⟨(y 0).val / 4 % 4, by omega⟩, mem_rect _ _ 16 (off10_eq _ _) (rfl) (funext fun b => by match b with | ⟨0, _⟩ => rfl | ⟨1, _⟩ => rfl) y ((y 0).val / 16) (by omega) ?_⟩
  dsimp only
  omega

theorem rects_o (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v2 : IVec S128x128 32) (v4 : IVec S128x128 32) (v6 : IVec S128x128 1) (v8 : IVec S128x128 1) (v34 : IVec S128x128 1) (v38 : Elt F .f32) (v64 : IVec S128x128 1) (v68 : Elt F .f32) (X_arg5 : BufTy.Contents (Elt F) arg5.view.ty) (X_arg6 : BufTy.Contents (Elt F) arg6.view.ty) (X_arg7 : BufTy.Contents (Elt F) arg7.view.ty) (k : Fin k0_t3_loop.trips) :
    ((trip (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 k).1).map (fun p => p.1) = ([3, 2, 1, 0] : List (Fin 4)).map (rect k) := by
  unfold trip; rfl

theorem cover_o (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v2 : IVec S128x128 32) (v4 : IVec S128x128 32) (v6 : IVec S128x128 1) (v8 : IVec S128x128 1) (v34 : IVec S128x128 1) (v38 : Elt F .f32) (v64 : IVec S128x128 1) (v68 : Elt F .f32) (X_arg5 : BufTy.Contents (Elt F) arg5.view.ty) (X_arg6 : BufTy.Contents (Elt F) arg6.view.ty) (X_arg7 : BufTy.Contents (Elt F) arg7.view.ty) (y : S2048x128.Idx) :
    ∃ p ∈ (pb (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 (Scf.trips k0_t3_loop.lb k0_t3_loop.ub k0_t3_loop.st)).1, y ∈ p.1.set := by
  obtain ⟨k, u, h⟩ := cover_rect y
  obtain ⟨p, hp, e⟩ := mem_blocks rect (fun n => (pb (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 n).1)
    (fun k => ⟨_, congrArg (fun z => z.1) (pb_succ (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 k), rects_o (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 k⟩) k0_t3_loop.trips le_rfl k k.isLt u
  exact ⟨p, hp, e ▸ h⟩

theorem rects_l (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v2 : IVec S128x128 32) (v4 : IVec S128x128 32) (v6 : IVec S128x128 1) (v8 : IVec S128x128 1) (v34 : IVec S128x128 1) (v38 : Elt F .f32) (v64 : IVec S128x128 1) (v68 : Elt F .f32) (X_arg5 : BufTy.Contents (Elt F) arg5.view.ty) (X_arg6 : BufTy.Contents (Elt F) arg6.view.ty) (X_arg7 : BufTy.Contents (Elt F) arg7.view.ty) (k : Fin k0_t3_loop.trips) :
    ((trip (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 k).2.1).map (fun p => p.1) = ([3, 2, 1, 0] : List (Fin 4)).map (rect k) := by
  unfold trip; rfl

theorem cover_l (𝒱 : Variants) (c : Dev nD) (bd : Option 𝒱.V) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (v2 : IVec S128x128 32) (v4 : IVec S128x128 32) (v6 : IVec S128x128 1) (v8 : IVec S128x128 1) (v34 : IVec S128x128 1) (v38 : Elt F .f32) (v64 : IVec S128x128 1) (v68 : Elt F .f32) (X_arg5 : BufTy.Contents (Elt F) arg5.view.ty) (X_arg6 : BufTy.Contents (Elt F) arg6.view.ty) (X_arg7 : BufTy.Contents (Elt F) arg7.view.ty) (y : S2048x128.Idx) :
    ∃ p ∈ (pb (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 (Scf.trips k0_t3_loop.lb k0_t3_loop.ub k0_t3_loop.st)).2, y ∈ p.1.set := by
  obtain ⟨k, u, h⟩ := cover_rect y
  obtain ⟨p, hp, e⟩ := mem_blocks rect (fun n => (pb (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 n).2)
    (fun k => ⟨_, congrArg (fun z => z.2) (pb_succ (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 k), rects_l (F := F) 𝒱 c bd i arg2 harg2 arg3 harg3 arg4 harg4 arg5 harg5 arg6 harg6 arg7 harg7 arg8 harg8 arg9 harg9 arg10 harg10 arg11 harg11 arg12 harg12 arg13 harg13 arg14 harg14 v2 v4 v6 v8 v34 v38 v64 v68 X_arg5 X_arg6 X_arg7 k⟩) k0_t3_loop.trips le_rfl k k.isLt u
  exact ⟨p, hp, e ▸ h⟩

end Cert.Proof.DilIdeal.B3

end
-- ==== Proof.Dil.RunFactsIdeal.lean ====
module

public import proofs.«01_k».proof.Proof.Dil.RunIdeal
public import proofs.«01_k».proof.Proof.Dil.CoverIdeal
public import Idealize.ShloMosaic.Lib.Claim

/-! # The dilated window attention: the run and the frame -/

@[expose] public section

set_option maxRecDepth 16384

noncomputable section

namespace Cert.Proof.DilIdeal

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Writes that cover a whole memref leave nothing of what it held. -/
theorem writes_covered {sp : Space} {s : Shape} {e : EltTy} {v : Memref sig .tc sp s e} (hv : v.IsWhole) (f g : v.view.ty.Contents (Elt F))
    (L : List (View.Piece (Elt F) s e)) (h : ∀ y, ∃ p ∈ L, y ∈ p.1.set) :
    v.view.writes (Elt F) f L = v.view.writes (Elt F) g L :=
  hv.read_bijective.1 (View.read_writes_of_cover v.view f v.view g L h)

/-- What the body stores does not depend on what the scratch held. -/
theorem run_scratch (c : Dev nD) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (x0 : Vec F S1x16 .f32) (x1 : Vec F S1x2048x128 .f32) (x2 : Vec F S1x2048x128 .f32) (x3 : Vec F S1x2048x128 .f32) (x4 : Vec F S1x2048x128 .f32) (x5 : Vec F S1x2048x128 .f32) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty) :
    (kernelRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 f9 f10 f11 f12 f13 f14).1 = (kernelRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 g9 g10 g11 g12 g13 g14).1 := by
  unfold kernelRun
  dsimp only
  rw [writes_covered harg9 f9 g9 _ (fun y => B1.cover_o _ _ _ _ _ _ _ _ _ _ _ _ _ _ _ _ _ _ _ _ _ _ _ _ _ _ _ _ _ _ _ _ _ _ _ _ _ _ _ _ _ _ _ _ _ y)]
  rw [writes_covered harg10 f10 g10 _ (fun y => B2.cover_o _ _ _ _ _ _ _ _ _ _ _ _ _ _ _ _ _ _ _ _ _ _ _ _ _ _ _ _ _ _ _ _ _ _ _ _ _ _ _ _ _ _ y)]
  rw [writes_covered harg11 f11 g11 _ (fun y => B3.cover_o _ _ _ _ _ _ _ _ _ _ _ _ _ _ _ _ _ _ _ _ _ _ _ _ _ _ _ _ _ _ _ _ _ _ _ _ _ _ _ _ _ y)]
  rw [writes_covered harg12 f12 g12 _ (fun y => B1.cover_l _ _ _ _ _ _ _ _ _ _ _ _ _ _ _ _ _ _ _ _ _ _ _ _ _ _ _ _ _ _ _ _ _ _ _ _ _ _ _ _ _ _ _ _ _ y)]
  rw [writes_covered harg13 f13 g13 _ (fun y => B2.cover_l _ _ _ _ _ _ _ _ _ _ _ _ _ _ _ _ _ _ _ _ _ _ _ _ _ _ _ _ _ _ _ _ _ _ _ _ _ _ _ _ _ _ y)]
  rw [writes_covered harg14 f14 g14 _ (fun y => B3.cover_l _ _ _ _ _ _ _ _ _ _ _ _ _ _ _ _ _ _ _ _ _ _ _ _ _ _ _ _ _ _ _ _ _ _ _ _ _ _ _ _ _ y)]

theorem cover_out (c : Dev nD) (i : grid0.Coords) (arg2 : Memref sig .tc .smem S1x16 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (x0 : Vec F S1x16 .f32) (x1 : Vec F S1x2048x128 .f32) (x2 : Vec F S1x2048x128 .f32) (x3 : Vec F S1x2048x128 .f32) (x4 : Vec F S1x2048x128 .f32) (x5 : Vec F S1x2048x128 .f32) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (y : S1x2048x128.Idx) :
    ∃ p ∈ (kernelRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 f9 f10 f11 f12 f13 f14).1, y ∈ p.1.set :=
  View.cover_of_tiledL (kernelRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 f9 f10 f11 f12 f13 f14).1 S1x256x128.size (by sl_kernel_rfl) y

end Cert.Proof.DilIdeal

end
-- ==== Proof.Dil.FrameIdeal.lean ====
module

public import proofs.«01_k».proof.Proof.Dil.RunFactsIdeal
public import Idealize.ShloMosaic.Lib.Claim

/-! # The dilated window attention: the run and the frame -/

@[expose] public section

set_option maxRecDepth 16384

noncomputable section

namespace Cert.Proof.DilIdeal

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output, through which its contents are stated. -/
abbrev outView : View sig .tc .vmem S1x2048x128 .f32 := (Memref.whole cc0_stg6_0 : Memref sig .tc .vmem S1x2048x128 .f32).view

/-- The run at grid point `t`, over scratch contents that do not matter. -/
def piecesAt (c : Dev nD) (t : Fin cfg0.N) : List (View.Piece (Elt F) S1x2048x128 .f32) :=
  (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (Memref.whole cc0_scratch0).view.junk (Memref.whole cc0_scratch1).view.junk (Memref.whole cc0_scratch2).view.junk (Memref.whole cc0_scratch3).view.junk (Memref.whole cc0_scratch4).view.junk (Memref.whole cc0_scratch5).view.junk).1

/-- What the output's staging buffer holds after the body at point `t`. -/
def outsAt (c : Dev nD) (t : Fin cfg0.N) : Vec F S1x2048x128 .f32 :=
  outView.read (Elt F) (outView.writes (Elt F) outView.junk (piecesAt m c t))

/-- The pipeline's contents on core `c`: each input's buffer at its block, the output's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outsAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

/-- A whole scratch buffer, as its memref's view has it. -/
theorem scratch_pt (c : Dev nD) (b : Ref sig .tc) (f : Buf (Elt F) ((c : Thread nD τ).loc b)) :
    ((((c : Thread nD τ).loc b) ↦{fullShare} f) : sProp 𝕄)
      = iprop((Memref.whole b).view.loc (c : Thread nD τ) ↦[(Memref.whole b).view.set]{fullShare} f) := by
  simp only [Memref.view_whole, View.set_whole]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0, after1, after2, after3, after4, after5, after6]
  unfold outsAt piecesAt Pipeline.ΦA
  rw [scopedRest0_eq]
  simp only [scratch_pt]
  iintro ⟨⟨⟨⟨%f9, S9⟩, ⟨%f10, S10⟩, ⟨%f11, S11⟩, ⟨%f12, S12⟩, ⟨%f13, S13⟩, ⟨%f14, S14⟩⟩, Hr⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) f9 f10 f11 f12 f13 f14).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S9]; · iexact S9
  isplitl [S10]; · iexact S10
  isplitl [S11]; · iexact S11
  isplitl [S12]; · iexact S12
  isplitl [S13]; · iexact S13
  isplitl [S14]; · iexact S14
  iintro ⟨H0, H1, H2, H3, H4, H5, ⟨%e6, H6⟩, ⟨%e9, S9⟩, ⟨%e10, S10⟩, ⟨%e11, S11⟩, ⟨%e12, S12⟩, ⟨%e13, S13⟩, ⟨%e14, S14⟩⟩
  isplitl [S9 S10 S11 S12 S13 S14 Hr]
  · isplitl [S9 S10 S11 S12 S13 S14]
    · isplitl [S9]; · iexists _; iexact S9
      isplitl [S10]; · iexists _; iexact S10
      isplitl [S11]; · iexists _; iexact S11
      isplitl [S12]; · iexists _; iexact S12
      isplitl [S13]; · iexists _; iexact S13
      iexists _; iexact S14
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  rw [run_scratch c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) f9 f10 f11 f12 f13 f14 (Memref.whole cc0_scratch0).view.junk (Memref.whole cc0_scratch1).view.junk (Memref.whole cc0_scratch2).view.junk (Memref.whole cc0_scratch3).view.junk (Memref.whole cc0_scratch4).view.junk (Memref.whole cc0_scratch5).view.junk]
  exact View.read_writes_of_cover _ _ _ _ _ (cover_out c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (Memref.whole cc0_scratch0).view.junk (Memref.whole cc0_scratch1).view.junk (Memref.whole cc0_scratch2).view.junk (Memref.whole cc0_scratch3).view.junk (Memref.whole cc0_scratch4).view.junk (Memref.whole cc0_scratch5).view.junk)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch runs to the pipeline's contents, with every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame, at any values. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.Proof.DilIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Ref.Value
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.MlpS
public import proofs.«01_k».proof.Proof.Gen.MlpS.Skeleton
public import proofs.«01_k».proof.Proof.Gen.MlpS.Launch
public import proofs.«01_k».proof.Proof.Gen.MlpS.Points
public import proofs.«01_k».proof.Proof.Gen.MlpS.Frame
public import proofs.«01_k».proof.Proof.Gen.MlpSIdeal
public import proofs.«01_k».proof.Proof.Gen.MlpSIdeal.Skeleton
public import proofs.«01_k».proof.Proof.Gen.MlpSIdeal.Launch
public import proofs.«01_k».proof.Proof.Gen.MlpSIdeal.Points
public import proofs.«01_k».proof.Proof.Gen.MlpSIdeal.Frame
public import proofs.«01_k».proof.Proof.Gen.MlpSIdeal.Value
public import proofs.«01_k».proof.Proof.Gen.MlpSRefIdeal
public import proofs.«01_k».proof.Proof.Gen.MlpSRefIdeal.Run
public import proofs.«01_k».proof.Proof.Gen.MlpSRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.QkvS
public import proofs.«01_k».proof.Proof.Gen.QkvS.Skeleton
public import proofs.«01_k».proof.Proof.Gen.QkvS.Launch
public import proofs.«01_k».proof.Proof.Gen.QkvS.Points
public import proofs.«01_k».proof.Proof.Gen.QkvS.Frame
public import proofs.«01_k».proof.Proof.Gen.QkvSIdeal
public import proofs.«01_k».proof.Proof.Gen.QkvSIdeal.Skeleton
public import proofs.«01_k».proof.Proof.Gen.QkvSIdeal.Launch
public import proofs.«01_k».proof.Proof.Gen.QkvSIdeal.Points
public import proofs.«01_k».proof.Proof.Gen.QkvSIdeal.Frame
public import proofs.«01_k».proof.Proof.Gen.QkvSIdeal.Value
public import proofs.«01_k».proof.Proof.Gen.QkvSRefIdeal
public import proofs.«01_k».proof.Proof.Gen.QkvSRefIdeal.Run
public import proofs.«01_k».proof.Proof.Gen.QkvSRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvRefIdeal.Read
public import proofs.«01_k».proof.Proof.Gen.KvS
public import proofs.«01_k».proof.Proof.Gen.KvS.Skeleton
public import proofs.«01_k».proof.Proof.Gen.KvS.Launch
public import proofs.«01_k».proof.Proof.Gen.KvS.Points
public import proofs.«01_k».proof.Proof.Gen.KvS.Frame
public import proofs.«01_k».proof.Proof.Gen.KvSIdeal
public import proofs.«01_k».proof.Proof.Gen.KvSIdeal.Skeleton
public import proofs.«01_k».proof.Proof.Gen.KvSIdeal.Launch
public import proofs.«01_k».proof.Proof.Gen.KvSIdeal.Points
public import proofs.«01_k».proof.Proof.Gen.KvSIdeal.Frame
public import proofs.«01_k».proof.Proof.Gen.KvSIdeal.Value
public import proofs.«01_k».proof.Proof.Gen.KvSRefIdeal
public import proofs.«01_k».proof.Proof.Gen.KvSRefIdeal.Run
public import proofs.«01_k».proof.Proof.Gen.KvSRefIdeal.Read
public import proofs.«01_k».proof.Proof.Gen.Q
public import proofs.«01_k».proof.Proof.Gen.Q.Skeleton
public import proofs.«01_k».proof.Proof.Gen.Q.Launch
public import proofs.«01_k».proof.Proof.Gen.Q.Points
public import proofs.«01_k».proof.Proof.Gen.Q.Frame
public import proofs.«01_k».proof.Proof.Gen.QIdeal
public import proofs.«01_k».proof.Proof.Gen.QIdeal.Skeleton
public import proofs.«01_k».proof.Proof.Gen.QIdeal.Launch
public import proofs.«01_k».proof.Proof.Gen.QIdeal.Points
public import proofs.«01_k».proof.Proof.Gen.QIdeal.Frame
public import proofs.«01_k».proof.Proof.Gen.QIdeal.Value
public import proofs.«01_k».proof.Proof.Gen.QRefIdeal
public import proofs.«01_k».proof.Proof.Gen.QRefIdeal.Run
public import proofs.«01_k».proof.Proof.Gen.QRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Shift
public import proofs.«01_k».proof.Proof.Gen.Shift.Skeleton
public import proofs.«01_k».proof.Proof.Gen.Shift.Launch
public import proofs.«01_k».proof.Proof.Gen.Shift.Points
public import proofs.«01_k».proof.Proof.Gen.Shift.Frame
public import proofs.«01_k».proof.Proof.Gen.ShiftIdeal
public import proofs.«01_k».proof.Proof.Gen.ShiftIdeal.Skeleton
public import proofs.«01_k».proof.Proof.Gen.ShiftIdeal.Launch
public import proofs.«01_k».proof.Proof.Gen.ShiftIdeal.Points
public import proofs.«01_k».proof.Proof.Gen.ShiftIdeal.Frame
public import proofs.«01_k».proof.Proof.Gen.ShiftIdeal.Value
public import proofs.«01_k».proof.Proof.Gen.ShiftRefIdeal
public import proofs.«01_k».proof.Proof.Gen.ShiftRefIdeal.Run
public import proofs.«01_k».proof.Proof.Gen.ShiftRefIdeal.Read
public import proofs.«01_k».proof.Proof.Mlp.Ref
public import proofs.«01_k».proof.Proof.MlpS.Ref
public import proofs.«01_k».proof.Proof.Qkv.Ref
public import proofs.«01_k».proof.Proof.QkvS.Ref
public import proofs.«01_k».proof.Proof.Kv.Ref
public import proofs.«01_k».proof.Proof.KvS.Ref
public import proofs.«01_k».proof.Proof.Q.Ref
public import proofs.«01_k».proof.Proof.Out.Ref
public import proofs.«01_k».proof.Proof.Gen.OutS
public import proofs.«01_k».proof.Proof.Gen.OutS.Skeleton
public import proofs.«01_k».proof.Proof.Gen.OutS.Launch
public import proofs.«01_k».proof.Proof.Gen.OutS.Points
public import proofs.«01_k».proof.Proof.Gen.OutS.Frame
public import proofs.«01_k».proof.Proof.Gen.OutSIdeal
public import proofs.«01_k».proof.Proof.Gen.OutSIdeal.Skeleton
public import proofs.«01_k».proof.Proof.Gen.OutSIdeal.Launch
public import proofs.«01_k».proof.Proof.Gen.OutSIdeal.Points
public import proofs.«01_k».proof.Proof.Gen.OutSIdeal.Frame
public import proofs.«01_k».proof.Proof.Gen.OutSIdeal.Value
public import proofs.«01_k».proof.Proof.Gen.OutSRefIdeal
public import proofs.«01_k».proof.Proof.Gen.OutSRefIdeal.Run
public import proofs.«01_k».proof.Proof.Gen.OutSRefIdeal.Read
public import proofs.«01_k».proof.Proof.OutS.Ref
public import proofs.«01_k».proof.Proof.Shift.Ref
public import proofs.«01_k».proof.Proof.Dil.Frame
public import proofs.«01_k».proof.Proof.Dil.FrameIdeal
public import Idealize.ShloMosaic.Adequacy
public import Idealize.ShloMosaic.Init
public import proofs.«01_k».proof.Proof.Gen.Dil
public import proofs.«01_k».proof.Proof.Gen.Dil.Skeleton
public import proofs.«01_k».proof.Proof.Gen.Dil.Loops
public import proofs.«01_k».proof.Proof.Gen.Dil.Launch
public import proofs.«01_k».proof.Proof.Gen.Dil.Points
public import proofs.«01_k».proof.Proof.Gen.Dil.Frame
public import proofs.«01_k».proof.Proof.Gen.DilIdeal
public import proofs.«01_k».proof.Proof.Gen.DilIdeal.Skeleton
public import proofs.«01_k».proof.Proof.Gen.DilIdeal.Loops
public import proofs.«01_k».proof.Proof.Gen.DilIdeal.Launch
public import proofs.«01_k».proof.Proof.Gen.DilIdeal.Points
public import proofs.«01_k».proof.Proof.Gen.DilIdeal.Frame
public import proofs.«01_k».proof.Proof.Gen.DilRefIdeal
public import proofs.«01_k».proof.Proof.Gen.DilRefIdeal.Run
public import proofs.«01_k».proof.Proof.Gen.DilRefIdeal.Read

@[expose] public section

noncomputable section

namespace Cert.Proof

open Idealize.ShloMosaic Idealize.SL.Sem Cert.Kernel

/-- The kernel and the reference compute one function of the arguments. -/
theorem attention : Cert.algebraic_KernelIdeal_ReferenceIdeal (hKernelIdeal := Cert.KernelIdeal.Gen.facts)
    (hReferenceIdeal := Cert.ReferenceIdeal.Gen.facts) := by
  intro m g m' g' _ hm
  refine ⟨_, Cert.KernelIdeal.Value.run_blocks m g, ?_⟩
  refine (θ_run Cert.ReferenceIdeal.defs _ _).mono (fun r h c => ⟨(h c).1.trans ?_, (h c).2⟩) (Cert.ReferenceIdeal.Value.run m' g')
  rw [Cert.ReferenceIdeal.Read.val_main_v23_eq, Cert.KernelIdeal.Sb.final m c, (hm c).1, (hm c).2.1, (hm c).2.2.1, (hm c).2.2.2]
  exact Cert.ReferenceIdeal.Sb.out_eq _ _ _ _

/-- The reference ends, leaves its arguments as they were, and has no counter that could differ from zero. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run m g)

/-- The call and the reference agree: feed-forward of the prompt. -/
theorem mlp_value : Cert.algebraic_MlpIdeal_MlpRefIdeal (hMlpIdeal := Cert.MlpIdeal.Gen.facts) (hMlpRefIdeal := Cert.MlpRefIdeal.Gen.facts) := by
  intro m g m' g' _ hm
  refine ⟨_, Cert.MlpIdeal.Value.run_blocks m g, ?_⟩
  refine (θ_run Cert.MlpRefIdeal.defs _ _).mono (fun r h c => ⟨(h c).1.trans ?_, (h c).2⟩) (Cert.MlpRefIdeal.Value.run m' g')
  rw [Cert.MlpRefIdeal.Read.val_main_v31_eq, Cert.MlpIdeal.Dec.final m c, (hm c).1, (hm c).2.1, (hm c).2.2.1, (hm c).2.2.2.1, (hm c).2.2.2.2]
  exact Cert.MlpRefIdeal.Dec.out_eq _ _ _ _ _

/-- Its reference ends and leaves its arguments as they were. -/
theorem mlp_reference : Cert.quiescent_MlpRefIdeal (hMlpRefIdeal := Cert.MlpRefIdeal.Gen.facts) := fun m g _ =>
  (θ_run Cert.MlpRefIdeal.defs _ _).mono (fun r h => ⟨fun c => (h c).2, sem_eq_zero_of_no_sems rfl r.2⟩)
    (Cert.MlpRefIdeal.Value.run m g)

/-- The call and the reference agree: feed-forward of the sample tokens. -/
theorem mlpS_value : Cert.algebraic_MlpSIdeal_MlpSRefIdeal (hMlpSIdeal := Cert.MlpSIdeal.Gen.facts) (hMlpSRefIdeal := Cert.MlpSRefIdeal.Gen.facts) := by
  intro m g m' g' _ hm
  refine ⟨_, Cert.MlpSIdeal.Value.run_blocks m g, ?_⟩
  refine (θ_run Cert.MlpSRefIdeal.defs _ _).mono (fun r h c => ⟨(h c).1.trans ?_, (h c).2⟩) (Cert.MlpSRefIdeal.Value.run m' g')
  rw [Cert.MlpSRefIdeal.Read.val_main_v31_eq, Cert.MlpSIdeal.Dec.final m c, (hm c).1, (hm c).2.1, (hm c).2.2.1, (hm c).2.2.2.1, (hm c).2.2.2.2]
  exact Cert.MlpSRefIdeal.Dec.out_eq _ _ _ _ _

/-- Its reference ends and leaves its arguments as they were. -/
theorem mlpS_reference : Cert.quiescent_MlpSRefIdeal (hMlpSRefIdeal := Cert.MlpSRefIdeal.Gen.facts) := fun m g _ =>
  (θ_run Cert.MlpSRefIdeal.defs _ _).mono (fun r h => ⟨fun c => (h c).2, sem_eq_zero_of_no_sems rfl r.2⟩)
    (Cert.MlpSRefIdeal.Value.run m g)

/-- The call and the reference agree: queries, keys and values of the prompt. -/
theorem qkv_value : Cert.algebraic_QkvIdeal_QkvRefIdeal (hQkvIdeal := Cert.QkvIdeal.Gen.facts) (hQkvRefIdeal := Cert.QkvRefIdeal.Gen.facts) := by
  intro m g m' g' _ hm
  refine ⟨_, _, _, Cert.QkvIdeal.Value.run_blocks m g, ?_⟩
  refine (θ_run Cert.QkvRefIdeal.defs _ _).mono (fun r h c => ⟨(h c).1.trans ?_, (h c).2.1.trans ?_, (h c).2.2.1.trans ?_, (h c).2.2.2⟩) (Cert.QkvRefIdeal.Value.run m' g')
  · rw [Cert.QkvRefIdeal.Read.val_main_v21_eq, Cert.QkvIdeal.Dec.final4 m c, (hm c).1, (hm c).2.1, (hm c).2.2]
    exact Cert.QkvRefIdeal.Dec.o4_eq _ _ _
  · rw [Cert.QkvRefIdeal.Read.val_main_v23_eq, Cert.QkvIdeal.Dec.final5 m c, (hm c).1, (hm c).2.1, (hm c).2.2]
    exact Cert.QkvRefIdeal.Dec.o5_eq _ _ _
  · rw [Cert.QkvRefIdeal.Read.val_main_v25_eq, Cert.QkvIdeal.Dec.final6 m c, (hm c).1, (hm c).2.1, (hm c).2.2]
    exact Cert.QkvRefIdeal.Dec.o6_eq _ _ _

/-- Its reference ends and leaves its arguments as they were. -/
theorem qkv_reference : Cert.quiescent_QkvRefIdeal (hQkvRefIdeal := Cert.QkvRefIdeal.Gen.facts) := fun m g _ =>
  (θ_run Cert.QkvRefIdeal.defs _ _).mono (fun r h => ⟨fun c => (h c).2.2.2, sem_eq_zero_of_no_sems rfl r.2⟩)
    (Cert.QkvRefIdeal.Value.run m g)

/-- The call and the reference agree: projections of the sample's rows. -/
theorem qkvS_value : Cert.algebraic_QkvSIdeal_QkvSRefIdeal (hQkvSIdeal := Cert.QkvSIdeal.Gen.facts) (hQkvSRefIdeal := Cert.QkvSRefIdeal.Gen.facts) := by
  intro m g m' g' _ hm
  refine ⟨_, _, _, Cert.QkvSIdeal.Value.run_blocks m g, ?_⟩
  refine (θ_run Cert.QkvSRefIdeal.defs _ _).mono (fun r h c => ⟨(h c).1.trans ?_, (h c).2.1.trans ?_, (h c).2.2.1.trans ?_, (h c).2.2.2⟩) (Cert.QkvSRefIdeal.Value.run m' g')
  · rw [Cert.QkvSRefIdeal.Read.val_main_v17_eq, Cert.QkvSIdeal.Dec.final3 m c, (hm c).1, (hm c).2.1, (hm c).2.2]
    exact Cert.QkvSRefIdeal.Dec.o3_eq _ _ _
  · rw [Cert.QkvSRefIdeal.Read.val_main_v20_eq, Cert.QkvSIdeal.Dec.final4 m c, (hm c).1, (hm c).2.1, (hm c).2.2]
    exact Cert.QkvSRefIdeal.Dec.o4_eq _ _ _
  · rw [Cert.QkvSRefIdeal.Read.val_main_v23_eq, Cert.QkvSIdeal.Dec.final5 m c, (hm c).1, (hm c).2.1, (hm c).2.2]
    exact Cert.QkvSRefIdeal.Dec.o5_eq _ _ _

/-- Its reference ends and leaves its arguments as they were. -/
theorem qkvS_reference : Cert.quiescent_QkvSRefIdeal (hQkvSRefIdeal := Cert.QkvSRefIdeal.Gen.facts) := fun m g _ =>
  (θ_run Cert.QkvSRefIdeal.defs _ _).mono (fun r h => ⟨fun c => (h c).2.2.2, sem_eq_zero_of_no_sems rfl r.2⟩)
    (Cert.QkvSRefIdeal.Value.run m g)

/-- The call and the reference agree: keys and values of the prompt's second layer. -/
theorem kv_value : Cert.algebraic_KvIdeal_KvRefIdeal (hKvIdeal := Cert.KvIdeal.Gen.facts) (hKvRefIdeal := Cert.KvRefIdeal.Gen.facts) := by
  intro m g m' g' _ hm
  refine ⟨_, _, _, _, Cert.KvIdeal.Value.run_blocks m g, ?_⟩
  refine (θ_run Cert.KvRefIdeal.defs _ _).mono (fun r h c => ⟨(h c).1.trans ?_, (h c).2.1.trans ?_, (h c).2.2.1.trans ?_, (h c).2.2.2.1.trans ?_, (h c).2.2.2.2⟩) (Cert.KvRefIdeal.Value.run m' g')
  · rw [Cert.KvRefIdeal.Read.val_main_v19_eq, Cert.KvIdeal.Dec.final4 m c, (hm c).1, (hm c).2.1, (hm c).2.2]
    exact Cert.KvRefIdeal.Dec.o4_eq _ _ _
  · rw [Cert.KvRefIdeal.Read.val_main_v20_eq, Cert.KvIdeal.Dec.final5 m c, (hm c).1, (hm c).2.1, (hm c).2.2]
    exact Cert.KvRefIdeal.Dec.o5_eq _ _ _
  · rw [Cert.KvRefIdeal.Read.val_main_v22_eq, Cert.KvIdeal.Dec.final6 m c, (hm c).1, (hm c).2.1, (hm c).2.2]
    exact Cert.KvRefIdeal.Dec.o6_eq _ _ _
  · rw [Cert.KvRefIdeal.Read.val_main_v24_eq, Cert.KvIdeal.Dec.final7 m c, (hm c).1, (hm c).2.1, (hm c).2.2]
    exact Cert.KvRefIdeal.Dec.o7_eq _ _ _

/-- Its reference ends and leaves its arguments as they were. -/
theorem kv_reference : Cert.quiescent_KvRefIdeal (hKvRefIdeal := Cert.KvRefIdeal.Gen.facts) := fun m g _ =>
  (θ_run Cert.KvRefIdeal.defs _ _).mono (fun r h => ⟨fun c => (h c).2.2.2.2, sem_eq_zero_of_no_sems rfl r.2⟩)
    (Cert.KvRefIdeal.Value.run m g)

/-- The call and the reference agree: new keys and values of the sample tokens. -/
theorem kvS_value : Cert.algebraic_KvSIdeal_KvSRefIdeal (hKvSIdeal := Cert.KvSIdeal.Gen.facts) (hKvSRefIdeal := Cert.KvSRefIdeal.Gen.facts) := by
  intro m g m' g' _ hm
  refine ⟨_, _, Cert.KvSIdeal.Value.run_blocks m g, ?_⟩
  refine (θ_run Cert.KvSRefIdeal.defs _ _).mono (fun r h c => ⟨(h c).1.trans ?_, (h c).2.1.trans ?_, (h c).2.2⟩) (Cert.KvSRefIdeal.Value.run m' g')
  · rw [Cert.KvSRefIdeal.Read.val_main_v17_eq, Cert.KvSIdeal.Dec.final3 m c, (hm c).1, (hm c).2.1, (hm c).2.2]
    exact Cert.KvSRefIdeal.Dec.o3_eq _ _ _
  · rw [Cert.KvSRefIdeal.Read.val_main_v20_eq, Cert.KvSIdeal.Dec.final4 m c, (hm c).1, (hm c).2.1, (hm c).2.2]
    exact Cert.KvSRefIdeal.Dec.o4_eq _ _ _

/-- Its reference ends and leaves its arguments as they were. -/
theorem kvS_reference : Cert.quiescent_KvSRefIdeal (hKvSRefIdeal := Cert.KvSRefIdeal.Gen.facts) := fun m g _ =>
  (θ_run Cert.KvSRefIdeal.defs _ _).mono (fun r h => ⟨fun c => (h c).2.2, sem_eq_zero_of_no_sems rfl r.2⟩)
    (Cert.KvSRefIdeal.Value.run m g)

/-- The call and the reference agree: projections of the prompt's rows. -/
theorem q_value : Cert.algebraic_QIdeal_QRefIdeal (hQIdeal := Cert.QIdeal.Gen.facts) (hQRefIdeal := Cert.QRefIdeal.Gen.facts) := by
  intro m g m' g' _ hm
  refine ⟨_, _, _, Cert.QIdeal.Value.run_blocks m g, ?_⟩
  refine (θ_run Cert.QRefIdeal.defs _ _).mono (fun r h c => ⟨(h c).1.trans ?_, (h c).2.1.trans ?_, (h c).2.2.1.trans ?_, (h c).2.2.2⟩) (Cert.QRefIdeal.Value.run m' g')
  · rw [Cert.QRefIdeal.Read.val_main_v17_eq, Cert.QIdeal.Dec.final3 m c, (hm c).1, (hm c).2.1, (hm c).2.2]
    exact Cert.QRefIdeal.Dec.o3_eq _ _ _
  · rw [Cert.QRefIdeal.Read.val_main_v20_eq, Cert.QIdeal.Dec.final4 m c, (hm c).1, (hm c).2.1, (hm c).2.2]
    exact Cert.QRefIdeal.Dec.o4_eq _ _ _
  · rw [Cert.QRefIdeal.Read.val_main_v23_eq, Cert.QIdeal.Dec.final5 m c, (hm c).1, (hm c).2.1, (hm c).2.2]
    exact Cert.QRefIdeal.Dec.o5_eq _ _ _

/-- Its reference ends and leaves its arguments as they were. -/
theorem q_reference : Cert.quiescent_QRefIdeal (hQRefIdeal := Cert.QRefIdeal.Gen.facts) := fun m g _ =>
  (θ_run Cert.QRefIdeal.defs _ _).mono (fun r h => ⟨fun c => (h c).2.2.2, sem_eq_zero_of_no_sems rfl r.2⟩)
    (Cert.QRefIdeal.Value.run m g)

/-- The call and the reference agree: projection of the attention's output. -/
theorem out_value : Cert.algebraic_OutIdeal_OutRefIdeal (hOutIdeal := Cert.OutIdeal.Gen.facts) (hOutRefIdeal := Cert.OutRefIdeal.Gen.facts) := by
  intro m g m' g' _ hm
  refine ⟨_, Cert.OutIdeal.Value.run_blocks m g, ?_⟩
  refine (θ_run Cert.OutRefIdeal.defs _ _).mono (fun r h c => ⟨(h c).1.trans ?_, (h c).2⟩) (Cert.OutRefIdeal.Value.run m' g')
  rw [Cert.OutRefIdeal.Read.val_main_v16_eq, Cert.OutIdeal.Dec.final m c, (hm c).1, (hm c).2.1, (hm c).2.2.1, (hm c).2.2.2]
  exact Cert.OutRefIdeal.Dec.out_eq _ _ _ _

/-- Its reference ends and leaves its arguments as they were. -/
theorem out_reference : Cert.quiescent_OutRefIdeal (hOutRefIdeal := Cert.OutRefIdeal.Gen.facts) := fun m g _ =>
  (θ_run Cert.OutRefIdeal.defs _ _).mono (fun r h => ⟨fun c => (h c).2, sem_eq_zero_of_no_sems rfl r.2⟩)
    (Cert.OutRefIdeal.Value.run m g)

/-- The call and the reference agree: moved windows. -/
theorem shift_value : Cert.algebraic_ShiftIdeal_ShiftRefIdeal (hShiftIdeal := Cert.ShiftIdeal.Gen.facts) (hShiftRefIdeal := Cert.ShiftRefIdeal.Gen.facts) := by
  intro m g m' g' _ hm
  refine ⟨_, _, Cert.ShiftIdeal.Value.run_blocks m g, ?_⟩
  refine (θ_run Cert.ShiftRefIdeal.defs _ _).mono (fun r h c => ⟨(h c).1.trans ?_, (h c).2.1.trans ?_, (h c).2.2⟩) (Cert.ShiftRefIdeal.Value.run m' g')
  · rw [Cert.ShiftRefIdeal.Read.val_main_v5_eq, Cert.ShiftIdeal.Dec.final4 m c, (hm c).1, (hm c).2.2.1]
    exact Cert.ShiftRefIdeal.Dec.o4_eq _ _
  · rw [Cert.ShiftRefIdeal.Read.val_main_v7_eq, Cert.ShiftIdeal.Dec.final5 m c, (hm c).2.1, (hm c).2.2.2]
    exact Cert.ShiftRefIdeal.Dec.o5_eq _ _

/-- Its reference ends and leaves its arguments as they were. -/
theorem shift_reference : Cert.quiescent_ShiftRefIdeal (hShiftRefIdeal := Cert.ShiftRefIdeal.Gen.facts) := fun m g _ =>
  (θ_run Cert.ShiftRefIdeal.defs _ _).mono (fun r h => ⟨fun c => (h c).2.2, sem_eq_zero_of_no_sems rfl r.2⟩)
    (Cert.ShiftRefIdeal.Value.run m g)

/-- The dilated attention's reference ends and leaves its arguments as they were. -/
theorem dil_reference : Cert.quiescent_DilRefIdeal (hDilRefIdeal := Cert.DilRefIdeal.Gen.facts) := fun m g _ =>
  (θ_run Cert.DilRefIdeal.defs _ _).mono (fun r h => ⟨fun c => (h c).2, sem_eq_zero_of_no_sems rfl r.2⟩)
    (Cert.DilRefIdeal.Value.run m g)

/-- The call and the reference agree: projection of the attention's output. -/
theorem outS_value : Cert.algebraic_OutSIdeal_OutSRefIdeal (hOutSIdeal := Cert.OutSIdeal.Gen.facts) (hOutSRefIdeal := Cert.OutSRefIdeal.Gen.facts) := by
  intro m g m' g' _ hm
  refine ⟨_, Cert.OutSIdeal.Value.run_blocks m g, ?_⟩
  refine (θ_run Cert.OutSRefIdeal.defs _ _).mono (fun r h c => ⟨(h c).1.trans ?_, (h c).2⟩) (Cert.OutSRefIdeal.Value.run m' g')
  rw [Cert.OutSRefIdeal.Read.val_main_v16_eq, Cert.OutSIdeal.Dec.final m c, (hm c).1, (hm c).2.1, (hm c).2.2.1, (hm c).2.2.2]
  exact Cert.OutSRefIdeal.Dec.out_eq _ _ _ _

/-- Its reference ends and leaves its arguments as they were. -/
theorem outS_reference : Cert.quiescent_OutSRefIdeal (hOutSRefIdeal := Cert.OutSRefIdeal.Gen.facts) := fun m g _ =>
  (θ_run Cert.OutSRefIdeal.defs _ _).mono (fun r h => ⟨fun c => (h c).2, sem_eq_zero_of_no_sems rfl r.2⟩)
    (Cert.OutSRefIdeal.Value.run m g)

theorem claim : Cert.Claim := ⟨Cert.Kernel.Gen.facts,
  Cert.KernelIdeal.Gen.facts,
  Cert.ReferenceIdeal.Gen.facts,
  Cert.Mlp.Gen.facts,
  Cert.MlpIdeal.Gen.facts,
  Cert.MlpRefIdeal.Gen.facts,
  Cert.MlpS.Gen.facts,
  Cert.MlpSIdeal.Gen.facts,
  Cert.MlpSRefIdeal.Gen.facts,
  Cert.Qkv.Gen.facts,
  Cert.QkvIdeal.Gen.facts,
  Cert.QkvRefIdeal.Gen.facts,
  Cert.QkvS.Gen.facts,
  Cert.QkvSIdeal.Gen.facts,
  Cert.QkvSRefIdeal.Gen.facts,
  Cert.Kv.Gen.facts,
  Cert.KvIdeal.Gen.facts,
  Cert.KvRefIdeal.Gen.facts,
  Cert.KvS.Gen.facts,
  Cert.KvSIdeal.Gen.facts,
  Cert.KvSRefIdeal.Gen.facts,
  Cert.Q.Gen.facts,
  Cert.QIdeal.Gen.facts,
  Cert.QRefIdeal.Gen.facts,
  Cert.Out.Gen.facts,
  Cert.OutIdeal.Gen.facts,
  Cert.OutRefIdeal.Gen.facts,
  Cert.Shift.Gen.facts,
  Cert.ShiftIdeal.Gen.facts,
  Cert.ShiftRefIdeal.Gen.facts,
  Cert.Dil.Gen.facts,
  Cert.DilIdeal.Gen.facts,
  Cert.DilRefIdeal.Gen.facts,
  Cert.OutS.Gen.facts,
  Cert.OutSIdeal.Gen.facts,
  Cert.OutSRefIdeal.Gen.facts,
  fun m g _ => Cert.Kernel.Gen.frame m g,
  fun m g _ => Cert.KernelIdeal.Gen.frame m g,
  frame_reference,
  fun m g _ => Cert.Mlp.Gen.frame m g,
  fun m g _ => Cert.MlpIdeal.Gen.frame m g,
  mlp_reference,
  fun m g _ => Cert.MlpS.Gen.frame m g,
  fun m g _ => Cert.MlpSIdeal.Gen.frame m g,
  mlpS_reference,
  fun m g _ => Cert.Qkv.Gen.frame m g,
  fun m g _ => Cert.QkvIdeal.Gen.frame m g,
  qkv_reference,
  fun m g _ => Cert.QkvS.Gen.frame m g,
  fun m g _ => Cert.QkvSIdeal.Gen.frame m g,
  qkvS_reference,
  fun m g _ => Cert.Kv.Gen.frame m g,
  fun m g _ => Cert.KvIdeal.Gen.frame m g,
  kv_reference,
  fun m g _ => Cert.KvS.Gen.frame m g,
  fun m g _ => Cert.KvSIdeal.Gen.frame m g,
  kvS_reference,
  fun m g _ => Cert.Q.Gen.frame m g,
  fun m g _ => Cert.QIdeal.Gen.frame m g,
  q_reference,
  fun m g _ => Cert.Out.Gen.frame m g,
  fun m g _ => Cert.OutIdeal.Gen.frame m g,
  out_reference,
  fun m g _ => Cert.Shift.Gen.frame m g,
  fun m g _ => Cert.ShiftIdeal.Gen.frame m g,
  shift_reference,
  fun m g _ => Cert.Proof.Dil.frame_run m g,
  fun m g _ => Cert.Proof.DilIdeal.frame_run m g,
  dil_reference,
  fun m g _ => Cert.OutS.Gen.frame m g,
  fun m g _ => Cert.OutSIdeal.Gen.frame m g,
  outS_reference,
  trivial,
  attention,
  trivial,
  mlp_value,
  trivial,
  mlpS_value,
  trivial,
  qkv_value,
  trivial,
  qkvS_value,
  trivial,
  kv_value,
  trivial,
  kvS_value,
  trivial,
  q_value,
  trivial,
  out_value,
  trivial,
  shift_value,
  trivial,
  trivial,
  outS_value⟩

end Cert.Proof

end
